-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S64x384 : Shape := ⟨2, ![64, 384]⟩
abbrev S16x256x384 : Shape := ⟨3, ![16, 256, 384]⟩
abbrev S262144x16 : Shape := ⟨2, ![262144, 16]⟩
abbrev S262144 : Shape := ⟨1, ![262144]⟩
abbrev S256 : Shape := ⟨1, ![256]⟩
abbrev S1000x384 : Shape := ⟨2, ![1000, 384]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel

variable [Facts]

def fn {F : FTy → Type} [FloatOps F] (main_arg0 : FVec F S64x384 .bf16) (main_arg1 : FVec F S16x256x384 .bf16) (main_arg2 : IVec S262144x16 8) (main_arg3 : IVec S262144 8) (main_arg4 : FVec F S256 .f32) (main_arg5 : FVec F S1000x384 .bf16) (main_arg6 : IVec S262144 32) : IVec S_ 1 :=
  let main_c : IVec S_ 32 := constantI S_ 32 0#32
  let main_v0 : IVec S262144 32 := broadcastInDim S262144 ![] bcast_S_S262144 main_c
  let main_v1 : IVec S262144 1 := cmpi .sge main_arg6 main_v0
  let main_c_0 : IVec S_ 32 := constantI S_ 32 1000#32
  let main_v2 : IVec S262144 32 := broadcastInDim S262144 ![] bcast_S_S262144 main_c_0
  let main_v3 : IVec S262144 1 := cmpi .slt main_arg6 main_v2
  let main_v4 : IVec S262144 1 := andi main_v1 main_v3
  let main_c_1 : IVec S_ 1 := constantI S_ 1 1#1
  let main_v5 : IVec S_ 1 := (fun x v => Host.reduce IntOp.andi x v reducesTo_S262144_S_d0 h_S_) main_v4 main_c_1
  main_v5
-- ==== Kernel.lean ====
abbrev S64x384 : Shape := ⟨2, ![64, 384]⟩
abbrev S16x256x384 : Shape := ⟨3, ![16, 256, 384]⟩
abbrev S262144x16 : Shape := ⟨2, ![262144, 16]⟩
abbrev S262144 : Shape := ⟨1, ![262144]⟩
abbrev S256 : Shape := ⟨1, ![256]⟩
abbrev S1000x384 : Shape := ⟨2, ![1000, 384]⟩
abbrev S16x262144 : Shape := ⟨2, ![16, 262144]⟩
abbrev S1x262144 : Shape := ⟨2, ![1, 262144]⟩
abbrev S1x256 : Shape := ⟨2, ![1, 256]⟩
abbrev S64x262144 : Shape := ⟨2, ![64, 262144]⟩
abbrev S64x16x256 : Shape := ⟨3, ![64, 16, 256]⟩
abbrev S64x1000 : Shape := ⟨2, ![64, 1000]⟩
abbrev S16x4096 : Shape := ⟨2, ![16, 4096]⟩
abbrev S1x4096 : Shape := ⟨2, ![1, 4096]⟩
abbrev S64x4096 : Shape := ⟨2, ![64, 4096]⟩
abbrev S64x1024 : Shape := ⟨2, ![64, 1024]⟩
abbrev S64x128 : Shape := ⟨2, ![64, 128]⟩
abbrev S1x256x384 : Shape := ⟨3, ![1, 256, 384]⟩
abbrev S256x384 : Shape := ⟨2, ![256, 384]⟩
abbrev S64x256 : Shape := ⟨2, ![64, 256]⟩
abbrev S64x1x256 : Shape := ⟨3, ![64, 1, 256]⟩
abbrev S64x24 : Shape := ⟨2, ![64, 24]⟩
abbrev S64 : Shape := ⟨1, ![64]⟩
abbrev S64x1 : Shape := ⟨2, ![64, 1]⟩
abbrev S1x128 : Shape := ⟨2, ![1, 128]⟩
abbrev S8x128 : Shape := ⟨2, ![8, 128]⟩
abbrev S8x128x1 : Shape := ⟨3, ![8, 128, 1]⟩

abbrev nBuf : Space → Nat
  | .hbm => 14
  | .vmem => 18
  | .smem => 0
  | _ => 0

abbrev bufTy : (tb : Table) → Fin (tcTables nBuf tb) → BufTy
  | .hbm, ⟨0, _⟩ => ⟨S64x384, .bf16⟩
  | .hbm, ⟨1, _⟩ => ⟨S16x256x384, .bf16⟩
  | .hbm, ⟨2, _⟩ => ⟨S262144x16, .i8⟩
  | .hbm, ⟨3, _⟩ => ⟨S262144, .i8⟩
  | .hbm, ⟨4, _⟩ => ⟨S256, .f32⟩
  | .hbm, ⟨5, _⟩ => ⟨S1000x384, .bf16⟩
  | .hbm, ⟨6, _⟩ => ⟨S262144, .i32⟩
  | .hbm, ⟨7, _⟩ => ⟨S16x262144, .i8⟩
  | .hbm, ⟨8, _⟩ => ⟨S1x262144, .i8⟩
  | .hbm, ⟨9, _⟩ => ⟨S1x256, .f32⟩
  | .hbm, ⟨10, _⟩ => ⟨S1x262144, .i32⟩
  | .hbm, ⟨11, _⟩ => ⟨S64x262144, .f32⟩
  | .hbm, ⟨12, _⟩ => ⟨S64x16x256, .f32⟩
  | .hbm, ⟨13, _⟩ => ⟨S64x1000, .f32⟩
  | .local _ .vmem, ⟨0, _⟩ => ⟨S64x384, .bf16⟩
  | .local _ .vmem, ⟨1, _⟩ => ⟨S16x256x384, .bf16⟩
  | .local _ .vmem, ⟨2, _⟩ => ⟨S1000x384, .bf16⟩
  | .local _ .vmem, ⟨3, _⟩ => ⟨S16x4096, .i8⟩
  | .local _ .vmem, ⟨4, _⟩ => ⟨S16x4096, .i8⟩
  | .local _ .vmem, ⟨5, _⟩ => ⟨S1x4096, .i8⟩
  | .local _ .vmem, ⟨6, _⟩ => ⟨S1x4096, .i8⟩
  | .local _ .vmem, ⟨7, _⟩ => ⟨S1x256, .f32⟩
  | .local _ .vmem, ⟨8, _⟩ => ⟨S1x4096, .i32⟩
  | .local _ .vmem, ⟨9, _⟩ => ⟨S1x4096, .i32⟩
  | .local _ .vmem, ⟨10, _⟩ => ⟨S64x4096, .f32⟩
  | .local _ .vmem, ⟨11, _⟩ => ⟨S64x4096, .f32⟩
  | .local _ .vmem, ⟨12, _⟩ => ⟨S64x16x256, .f32⟩
  | .local _ .vmem, ⟨13, _⟩ => ⟨S64x1000, .f32⟩
  | .local _ .vmem, ⟨14, _⟩ => ⟨S64x4096, .f32⟩
  | .local _ .vmem, ⟨15, _⟩ => ⟨S64x1024, .f32⟩
  | .local _ .vmem, ⟨16, _⟩ => ⟨S64x128, .f32⟩
  | .local _ .vmem, ⟨17, _⟩ => ⟨S16x4096, .i32⟩
  | _, _ => ⟨S64x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_4 : BitVec 32 := 0#32
  let c32_i32 : BitVec 32 := 32#32
  let v9 : BitVec 32 := Scalar.addi c0_i32_4 c32_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  v10
def k0_off1 (k0_t1 : Fin k0_t1_loop.trips) : Fin 2 → Nat :=
  let c0_6 : Index := 0#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v12 : Index := Scalar.indexCast v11
  ![0, v12.toNat]
def k0_off2 (k0_t1 : Fin k0_t1_loop.trips) : Fin 2 → Nat :=
  let c1 : Index := 1#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v172 : Index := Scalar.indexCast v11
  ![1, v172.toNat]
def k0_off3 (k0_t1 : Fin k0_t1_loop.trips) : Fin 2 → Nat :=
  let c2 : Index := 2#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v340 : Index := Scalar.indexCast v11
  ![2, v340.toNat]
def k0_off4 (k0_t1 : Fin k0_t1_loop.trips) : Fin 2 → Nat :=
  let c3 : Index := 3#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v508 : Index := Scalar.indexCast v11
  ![3, v508.toNat]
def k0_off5 (k0_t1 : Fin k0_t1_loop.trips) : Fin 2 → Nat :=
  let c4 : Index := 4#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v676 : Index := Scalar.indexCast v11
  ![4, v676.toNat]
def k0_off6 (k0_t1 : Fin k0_t1_loop.trips) : Fin 2 → Nat :=
  let c5 : Index := 5#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v844 : Index := Scalar.indexCast v11
  ![5, v844.toNat]
def k0_off7 (k0_t1 : Fin k0_t1_loop.trips) : Fin 2 → Nat :=
  let c6 : Index := 6#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v1012 : Index := Scalar.indexCast v11
  ![6, v1012.toNat]
def k0_off8 (k0_t1 : Fin k0_t1_loop.trips) : Fin 2 → Nat :=
  let c7 : Index := 7#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v1180 : Index := Scalar.indexCast v11
  ![7, v1180.toNat]
def k0_off9 (k0_t1 : Fin k0_t1_loop.trips) : Fin 2 → Nat :=
  let c8_512 : Index := 8#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v1348 : Index := Scalar.indexCast v11
  ![8, v1348.toNat]
def k0_off10 (k0_t1 : Fin k0_t1_loop.trips) : Fin 2 → Nat :=
  let c9 : Index := 9#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v1516 : Index := Scalar.indexCast v11
  ![9, v1516.toNat]
def k0_off11 (k0_t1 : Fin k0_t1_loop.trips) : Fin 2 → Nat :=
  let c10 : Index := 10#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v1684 : Index := Scalar.indexCast v11
  ![10, v1684.toNat]
def k0_off12 (k0_t1 : Fin k0_t1_loop.trips) : Fin 2 → Nat :=
  let c11 : Index := 11#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v1852 : Index := Scalar.indexCast v11
  ![11, v1852.toNat]
def k0_off13 (k0_t1 : Fin k0_t1_loop.trips) : Fin 2 → Nat :=
  let c12 : Index := 12#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v2020 : Index := Scalar.indexCast v11
  ![12, v2020.toNat]
def k0_off14 (k0_t1 : Fin k0_t1_loop.trips) : Fin 2 → Nat :=
  let c13 : Index := 13#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v2188 : Index := Scalar.indexCast v11
  ![13, v2188.toNat]
def k0_off15 (k0_t1 : Fin k0_t1_loop.trips) : Fin 2 → Nat :=
  let c14 : Index := 14#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v2356 : Index := Scalar.indexCast v11
  ![14, v2356.toNat]
def k0_off16 (k0_t1 : Fin k0_t1_loop.trips) : Fin 2 → Nat :=
  let c15 : Index := 15#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v2524 : Index := Scalar.indexCast v11
  ![15, v2524.toNat]
def k0_off17 (k0_t1 : Fin k0_t1_loop.trips) : Fin 2 → Nat :=
  let c0_1025 : Index := 0#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v2692 : Index := Scalar.indexCast v11
  ![0, v2692.toNat]
def k0_off18 (k0_t1 : Fin k0_t1_loop.trips) : Fin 2 → Nat :=
  let c0_1300 : Index := 0#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v3391 : Index := Scalar.indexCast v11
  ![0, v3391.toNat]
def k0_off19 (k0_t1 : Fin k0_t1_loop.trips) : Fin 2 → Nat :=
  let c8_1304 : Index := 8#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v3398 : Index := Scalar.indexCast v11
  ![8, v3398.toNat]
def k0_off20 (k0_t1 : Fin k0_t1_loop.trips) : Fin 2 → Nat :=
  let c16_1308 : Index := 16#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v3405 : Index := Scalar.indexCast v11
  ![16, v3405.toNat]
def k0_off21 (k0_t1 : Fin k0_t1_loop.trips) : Fin 2 → Nat :=
  let c24_1312 : Index := 24#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v3412 : Index := Scalar.indexCast v11
  ![24, v3412.toNat]
def k0_off22 (k0_t1 : Fin k0_t1_loop.trips) : Fin 2 → Nat :=
  let c32_1316 : Index := 32#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v3419 : Index := Scalar.indexCast v11
  ![32, v3419.toNat]
def k0_off23 (k0_t1 : Fin k0_t1_loop.trips) : Fin 2 → Nat :=
  let c40_1320 : Index := 40#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v3426 : Index := Scalar.indexCast v11
  ![40, v3426.toNat]
def k0_off24 (k0_t1 : Fin k0_t1_loop.trips) : Fin 2 → Nat :=
  let c48_1324 : Index := 48#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v3433 : Index := Scalar.indexCast v11
  ![48, v3433.toNat]
def k0_off25 (k0_t1 : Fin k0_t1_loop.trips) : Fin 2 → Nat :=
  let c56_1328 : Index := 56#32
  let c0_i32_4 : BitVec 32 := 0#32
  let c1_i32 : BitVec 32 := 1#32
  let arg15 : BitVec 32 := Scf.iv c0_i32_4 c1_i32 k0_t1
  let c128_i32 : BitVec 32 := 128#32
  let v10 : BitVec 32 := Scalar.muli arg15 c128_i32
  let v11 : BitVec 32 := v10
  let v3440 : Index := Scalar.indexCast v11
  ![56, v3440.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x256x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4096 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S64x16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1000 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S64x384 : Shape := ⟨2, ![64, 384]⟩
abbrev S16x256x384 : Shape := ⟨3, ![16, 256, 384]⟩
abbrev S262144x16 : Shape := ⟨2, ![262144, 16]⟩
abbrev S262144 : Shape := ⟨1, ![262144]⟩
abbrev S256 : Shape := ⟨1, ![256]⟩
abbrev S1000x384 : Shape := ⟨2, ![1000, 384]⟩
abbrev S64x16x256 : Shape := ⟨3, ![64, 16, 256]⟩
abbrev S64x1000 : Shape := ⟨2, ![64, 1000]⟩
abbrev S_ : Shape := ⟨0, ![]⟩
abbrev S64 : Shape := ⟨1, ![64]⟩
abbrev S16 : Shape := ⟨1, ![16]⟩
abbrev S1x16 : Shape := ⟨2, ![1, 16]⟩
abbrev S64x4096 : Shape := ⟨2, ![64, 4096]⟩
abbrev S262144x16x1 : Shape := ⟨3, ![262144, 16, 1]⟩
abbrev S64x262144x16 : Shape := ⟨3, ![64, 262144, 16]⟩
abbrev S64x262144 : Shape := ⟨2, ![64, 262144]⟩
abbrev S262144x1 : Shape := ⟨2, ![262144, 1]⟩
abbrev S64x1 : Shape := ⟨2, ![64, 1]⟩
abbrev S1x262144 : Shape := ⟨2, ![1, 262144]⟩

abbrev nBuf : Space → Nat
  | .hbm => 62
  | .vmem => 0
  | .smem => 0
  | _ => 0

abbrev bufTy : (tb : Table) → Fin (tcTables nBuf tb) → BufTy
  | .hbm, ⟨0, _⟩ => ⟨S64x384, .bf16⟩
  | .hbm, ⟨1, _⟩ => ⟨S16x256x384, .bf16⟩
  | .hbm, ⟨2, _⟩ => ⟨S262144x16, .i8⟩
  | .hbm, ⟨3, _⟩ => ⟨S262144, .i8⟩
  | .hbm, ⟨4, _⟩ => ⟨S256, .f32⟩
  | .hbm, ⟨5, _⟩ => ⟨S1000x384, .bf16⟩
  | .hbm, ⟨6, _⟩ => ⟨S262144, .i32⟩
  | .hbm, ⟨7, _⟩ => ⟨S64x16x256, .f32⟩
  | .hbm, ⟨8, _⟩ => ⟨S64x1000, .f32⟩
  | .hbm, ⟨9, _⟩ => ⟨S64x384, .f32⟩
  | .hbm, ⟨10, _⟩ => ⟨S64x384, .f32⟩
  | .hbm, ⟨11, _⟩ => ⟨S_, .f32⟩
  | .hbm, ⟨12, _⟩ => ⟨S64, .f32⟩
  | .hbm, ⟨13, _⟩ => ⟨S262144x16, .i32⟩
  | .hbm, ⟨14, _⟩ => ⟨S16, .i32⟩
  | .hbm, ⟨15, _⟩ => ⟨S1x16, .i32⟩
  | .hbm, ⟨16, _⟩ => ⟨S_, .i32⟩
  | .hbm, ⟨17, _⟩ => ⟨S1x16, .i32⟩
  | .hbm, ⟨18, _⟩ => ⟨S1x16, .i32⟩
  | .hbm, ⟨19, _⟩ => ⟨S262144x16, .i32⟩
  | .hbm, ⟨20, _⟩ => ⟨S262144x16, .i32⟩
  | .hbm, ⟨21, _⟩ => ⟨S64x4096, .f32⟩
  | .hbm, ⟨22, _⟩ => ⟨S_, .i32⟩
  | .hbm, ⟨23, _⟩ => ⟨S262144x16, .i32⟩
  | .hbm, ⟨24, _⟩ => ⟨S262144x16, .i1⟩
  | .hbm, ⟨25, _⟩ => ⟨S_, .i32⟩
  | .hbm, ⟨26, _⟩ => ⟨S262144x16, .i32⟩
  | .hbm, ⟨27, _⟩ => ⟨S262144x16, .i32⟩
  | .hbm, ⟨28, _⟩ => ⟨S262144x16, .i32⟩
  | .hbm, ⟨29, _⟩ => ⟨S262144x16x1, .i32⟩
  | .hbm, ⟨30, _⟩ => ⟨S64x262144x16, .f32⟩
  | .hbm, ⟨31, _⟩ => ⟨S_, .f32⟩
  | .hbm, ⟨32, _⟩ => ⟨S64x262144, .f32⟩
  | .hbm, ⟨33, _⟩ => ⟨S262144, .i32⟩
  | .hbm, ⟨34, _⟩ => ⟨S_, .i32⟩
  | .hbm, ⟨35, _⟩ => ⟨S262144, .i32⟩
  | .hbm, ⟨36, _⟩ => ⟨S262144, .i1⟩
  | .hbm, ⟨37, _⟩ => ⟨S_, .i32⟩
  | .hbm, ⟨38, _⟩ => ⟨S262144, .i32⟩
  | .hbm, ⟨39, _⟩ => ⟨S262144, .i32⟩
  | .hbm, ⟨40, _⟩ => ⟨S262144, .i32⟩
  | .hbm, ⟨41, _⟩ => ⟨S262144x1, .i32⟩
  | .hbm, ⟨42, _⟩ => ⟨S262144, .f32⟩
  | .hbm, ⟨43, _⟩ => ⟨S64x1, .f32⟩
  | .hbm, ⟨44, _⟩ => ⟨S_, .i32⟩
  | .hbm, ⟨45, _⟩ => ⟨S262144, .i32⟩
  | .hbm, ⟨46, _⟩ => ⟨S262144, .i1⟩
  | .hbm, ⟨47, _⟩ => ⟨S_, .i32⟩
  | .hbm, ⟨48, _⟩ => ⟨S262144, .i32⟩
  | .hbm, ⟨49, _⟩ => ⟨S262144, .i32⟩
  | .hbm, ⟨50, _⟩ => ⟨S262144, .i32⟩
  | .hbm, ⟨51, _⟩ => ⟨S262144x1, .i32⟩
  | .hbm, ⟨52, _⟩ => ⟨S64x262144, .f32⟩
  | .hbm, ⟨53, _⟩ => ⟨S64x262144, .f32⟩
  | .hbm, ⟨54, _⟩ => ⟨S_, .f32⟩
  | .hbm, ⟨55, _⟩ => ⟨S64x262144, .f32⟩
  | .hbm, ⟨56, _⟩ => ⟨S64x262144, .f32⟩
  | .hbm, ⟨57, _⟩ => ⟨S64x262144, .f32⟩
  | .hbm, ⟨58, _⟩ => ⟨S64x262144, .f32⟩
  | .hbm, ⟨59, _⟩ => ⟨S1x262144, .f32⟩
  | .hbm, ⟨60, _⟩ => ⟨S64x262144, .f32⟩
  | .hbm, ⟨61, _⟩ => ⟨S64x262144, .f32⟩
  | _, _ => ⟨S64x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Proof.Kernel.Runs.lean ====
/- What the runs of the kernel's body share: the program up to the pipeline, each window's block, the frame claim from a run
   of the pipeline, the body's branch condition at a grid point, and the buffers the body is called with. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- the structural checks of a covering recurse once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host operations before the pipeline make no new buffer. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 2 rfl).trans ((hA c 2).trans (V_main_arg5 m c)),
      ((h c).2 main_arg6 (Pipeline.mem_restRefs_of main_arg6 (by decide) (by decide))).trans (V_main_arg6 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, k0_cond1, e0]
    word_cmp
   : ∀ t : Fin grid0.N, cond0_0 (grid0.coords t) ↔ t.val % 64 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S64x384 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256x384 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x384 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x4096 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4096 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x4096 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x16x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x1000 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S64x4096 .f32 := Memref.whole cc0_scratch0
abbrev scM0_1 : Memref sig .tc .vmem S64x1024 .f32 := Memref.whole cc0_scratch1
abbrev scM0_2 : Memref sig .tc .vmem S64x128 .f32 := Memref.whole cc0_scratch2
abbrev scM0_3 : Memref sig .tc .vmem S16x4096 .i32 := Memref.whole cc0_scratch3
/-- The scratch `arg11` the kernel carries between points, as a view: what it holds is stated through it. -/
abbrev VS0_0 : View sig .tc .vmem S64x4096 .f32 := scM0_0.view
/-- The scratch `arg12` the kernel carries between points, as a view: what it holds is stated through it. -/
abbrev VS0_1 : View sig .tc .vmem S64x1024 .f32 := scM0_1.view
/-- The scratch `arg13` the kernel carries between points, as a view: what it holds is stated through it. -/
abbrev VS0_2 : View sig .tc .vmem S64x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.Kernel.RunA.lean ====
/- The run of the kernel's whole body at the first grid point, where the branch that fills the tables is taken. -/
module

public import proofs.«01_k».proof.Proof.Kernel.Runs

@[expose] public section

-- the structural checks of a covering recurse once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9) at anything, handed back at some contents nothing names. -/
noncomputable def kernelRun0_A (c : Dev nD) (i : grid0.Coords) (arg1 : Memref sig .tc .vmem S64x384 .bf16) (harg1 : arg1.IsWhole) (arg2 : Memref sig .tc .vmem S16x256x384 .bf16) (harg2 : arg2.IsWhole) (arg3 : Memref sig .tc .vmem S1000x384 .bf16) (harg3 : arg3.IsWhole) (arg4 : Memref sig .tc .vmem S16x4096 .i8) (harg4 : arg4.IsWhole) (arg5 : Memref sig .tc .vmem S1x4096 .i8) (harg5 : arg5.IsWhole) (arg6 : Memref sig .tc .vmem S1x256 .f32) (harg6 : arg6.IsWhole) (arg7 : Memref sig .tc .vmem S1x4096 .i32) (harg7 : arg7.IsWhole) (arg8 : Memref sig .tc .vmem S64x4096 .f32) (harg8 : arg8.IsWhole) (arg9 : Memref sig .tc .vmem S64x16x256 .f32) (harg9 : arg9.IsWhole) (arg10 : Memref sig .tc .vmem S64x1000 .f32) (harg10 : arg10.IsWhole) (arg11 : Memref sig .tc .vmem S64x4096 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S16x4096 .i32) (harg14 : arg14.IsWhole) (hc0 : cond0_0 i)
    (x0 : Vec F S64x384 .bf16) (x1 : Vec F S16x256x384 .bf16) (x2 : Vec F S1000x384 .bf16) (x3 : Vec F S16x4096 .i8) (x4 : Vec F S1x4096 .i8) (x5 : Vec F S1x256 .f32) (x6 : Vec F S1x4096 .i32) :
    Σ' (LS0 : List (View.Piece (Elt F) S64x4096 .f32)), Σ' (LS1 : List (View.Piece (Elt F) S64x1024 .f32)), { LS2 : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ d, owns (c : Thread nD τ) arg14 fullShare d)) -∗ K ⟨⟩))
          ⊢ wp frame (wpE (defs₀ (F := F)) Variants.none c none) E (cc0_adc_search i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_adc_search_eq_skeleton]; unfold cc0_adc_search_skel
    simp only [k0_part6_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]; · iexists _; iexact HS0
    isplitl [HS1]; · iexists _; iexact HS1
    isplitl [HS2]; · iexists _; iexact HS2
    iexists _, _; isplitr; swap; · iexact HS3
    ipureintro; rfl

end Cert.Kernel.Gen

end
-- ==== Proof.Kernel.RunB.lean ====
/- The run of the kernel's whole body at the later grid points, where the branch that fills the tables is not taken. -/
module

public import proofs.«01_k».proof.Proof.Kernel.RunA

@[expose] public section

-- the structural checks of a covering recurse once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken: points 1, 2, … 63: 63 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9) at anything, handed back at some contents nothing names. -/
noncomputable def kernelRun0_B (c : Dev nD) (i : grid0.Coords) (arg1 : Memref sig .tc .vmem S64x384 .bf16) (harg1 : arg1.IsWhole) (arg2 : Memref sig .tc .vmem S16x256x384 .bf16) (harg2 : arg2.IsWhole) (arg3 : Memref sig .tc .vmem S1000x384 .bf16) (harg3 : arg3.IsWhole) (arg4 : Memref sig .tc .vmem S16x4096 .i8) (harg4 : arg4.IsWhole) (arg5 : Memref sig .tc .vmem S1x4096 .i8) (harg5 : arg5.IsWhole) (arg6 : Memref sig .tc .vmem S1x256 .f32) (harg6 : arg6.IsWhole) (arg7 : Memref sig .tc .vmem S1x4096 .i32) (harg7 : arg7.IsWhole) (arg8 : Memref sig .tc .vmem S64x4096 .f32) (harg8 : arg8.IsWhole) (arg9 : Memref sig .tc .vmem S64x16x256 .f32) (harg9 : arg9.IsWhole) (arg10 : Memref sig .tc .vmem S64x1000 .f32) (harg10 : arg10.IsWhole) (arg11 : Memref sig .tc .vmem S64x4096 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S16x4096 .i32) (harg14 : arg14.IsWhole) (hc0 : ¬cond0_0 i)
    (x0 : Vec F S64x384 .bf16) (x1 : Vec F S16x256x384 .bf16) (x2 : Vec F S1000x384 .bf16) (x3 : Vec F S16x4096 .i8) (x4 : Vec F S1x4096 .i8) (x5 : Vec F S1x256 .f32) (x6 : Vec F S1x4096 .i32) (xs0 : Vec F S64x4096 .f32) (xs1 : Vec F S64x1024 .f32) (xs2 : Vec F S64x128 .f32) :
    Σ' (LS0 : List (View.Piece (Elt F) S64x4096 .f32)), Σ' (LS1 : List (View.Piece (Elt F) S64x1024 .f32)), { LS2 : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ (∃ d, owns (c : Thread nD τ) arg14 fullShare d)) -∗ K ⟨⟩))
          ⊢ wp frame (wpE (defs₀ (F := F)) Variants.none c none) E (cc0_adc_search i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], [], [], fun E K => ?run⟩
  case run =>
    simp only [cc0_adc_search_eq_skeleton]; unfold cc0_adc_search_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0; obtain rfl := harg12.eq_unread hfs1; obtain rfl := harg13.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _; isplitr; · ipureintro; exact harg11.read_unread _
      iexact HS0
    isplitl [HS1]
    · iexists _; isplitr; · ipureintro; exact harg12.read_unread _
      iexact HS1
    isplitl [HS2]
    · iexists _; isplitr; · ipureintro; exact harg13.read_unread _
      iexact HS2
    iexists _, _; isplitr; swap; · iexact HS3
    ipureintro; rfl

end Cert.Kernel.Gen

end
-- ==== Proof.Kernel.Frame.lean ====
/- The frame of the kernel: what the scratch buffers hold after each grid point, the body at every point, the run of the
   whole program, and the arguments unchanged at its end. What the outputs hold is not stated here. -/
module

public import proofs.«01_k».proof.Proof.Kernel.RunB
public import Idealize.ShloMosaic.Lib.Claim

@[expose] public section

-- the structural checks of a covering recurse once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg11`, which the kernel carries between points, cover it: 16 pieces of `S64x256` tiling it (Lib/Ring.lean `Piece.tiledL`). -/
theorem scover0_A_0 (c : Dev nD) (i : grid0.Coords) (arg1 : Memref sig .tc .vmem S64x384 .bf16) (harg1 : arg1.IsWhole) (arg2 : Memref sig .tc .vmem S16x256x384 .bf16) (harg2 : arg2.IsWhole) (arg3 : Memref sig .tc .vmem S1000x384 .bf16) (harg3 : arg3.IsWhole) (arg4 : Memref sig .tc .vmem S16x4096 .i8) (harg4 : arg4.IsWhole) (arg5 : Memref sig .tc .vmem S1x4096 .i8) (harg5 : arg5.IsWhole) (arg6 : Memref sig .tc .vmem S1x256 .f32) (harg6 : arg6.IsWhole) (arg7 : Memref sig .tc .vmem S1x4096 .i32) (harg7 : arg7.IsWhole) (arg8 : Memref sig .tc .vmem S64x4096 .f32) (harg8 : arg8.IsWhole) (arg9 : Memref sig .tc .vmem S64x16x256 .f32) (harg9 : arg9.IsWhole) (arg10 : Memref sig .tc .vmem S64x1000 .f32) (harg10 : arg10.IsWhole) (arg11 : Memref sig .tc .vmem S64x4096 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S16x4096 .i32) (harg14 : arg14.IsWhole) (hc0 : cond0_0 i)
    (x0 : Vec F S64x384 .bf16) (x1 : Vec F S16x256x384 .bf16) (x2 : Vec F S1000x384 .bf16) (x3 : Vec F S16x4096 .i8) (x4 : Vec F S1x4096 .i8) (x5 : Vec F S1x256 .f32) (x6 : Vec F S1x4096 .i32) (y : S64x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).1 S64x256.size (by sl_kernel_rfl) y

/-- What case A leaves in scratch `arg11`: its pieces read back over junk. -/
def sout0_A_0 (c : Dev nD) (i : grid0.Coords) (arg1 : Memref sig .tc .vmem S64x384 .bf16) (harg1 : arg1.IsWhole) (arg2 : Memref sig .tc .vmem S16x256x384 .bf16) (harg2 : arg2.IsWhole) (arg3 : Memref sig .tc .vmem S1000x384 .bf16) (harg3 : arg3.IsWhole) (arg4 : Memref sig .tc .vmem S16x4096 .i8) (harg4 : arg4.IsWhole) (arg5 : Memref sig .tc .vmem S1x4096 .i8) (harg5 : arg5.IsWhole) (arg6 : Memref sig .tc .vmem S1x256 .f32) (harg6 : arg6.IsWhole) (arg7 : Memref sig .tc .vmem S1x4096 .i32) (harg7 : arg7.IsWhole) (arg8 : Memref sig .tc .vmem S64x4096 .f32) (harg8 : arg8.IsWhole) (arg9 : Memref sig .tc .vmem S64x16x256 .f32) (harg9 : arg9.IsWhole) (arg10 : Memref sig .tc .vmem S64x1000 .f32) (harg10 : arg10.IsWhole) (arg11 : Memref sig .tc .vmem S64x4096 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S16x4096 .i32) (harg14 : arg14.IsWhole) (hc0 : cond0_0 i)
    (x0 : Vec F S64x384 .bf16) (x1 : Vec F S16x256x384 .bf16) (x2 : Vec F S1000x384 .bf16) (x3 : Vec F S16x4096 .i8) (x4 : Vec F S1x4096 .i8) (x5 : Vec F S1x256 .f32) (x6 : Vec F S1x4096 .i32) : Vec F S64x4096 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).1)

/-- Case A's pieces for scratch `arg12`, which the kernel carries between points, cover it: 2 pieces (stores and landed copies) of several sizes (`S64x1000`, `S64x24`) tiling it when cut into blocks of `![64, 8]` (Lib/Ring.lean `Piece.tiledBy`). -/
theorem scover0_A_1 (c : Dev nD) (i : grid0.Coords) (arg1 : Memref sig .tc .vmem S64x384 .bf16) (harg1 : arg1.IsWhole) (arg2 : Memref sig .tc .vmem S16x256x384 .bf16) (harg2 : arg2.IsWhole) (arg3 : Memref sig .tc .vmem S1000x384 .bf16) (harg3 : arg3.IsWhole) (arg4 : Memref sig .tc .vmem S16x4096 .i8) (harg4 : arg4.IsWhole) (arg5 : Memref sig .tc .vmem S1x4096 .i8) (harg5 : arg5.IsWhole) (arg6 : Memref sig .tc .vmem S1x256 .f32) (harg6 : arg6.IsWhole) (arg7 : Memref sig .tc .vmem S1x4096 .i32) (harg7 : arg7.IsWhole) (arg8 : Memref sig .tc .vmem S64x4096 .f32) (harg8 : arg8.IsWhole) (arg9 : Memref sig .tc .vmem S64x16x256 .f32) (harg9 : arg9.IsWhole) (arg10 : Memref sig .tc .vmem S64x1000 .f32) (harg10 : arg10.IsWhole) (arg11 : Memref sig .tc .vmem S64x4096 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S16x4096 .i32) (harg14 : arg14.IsWhole) (hc0 : cond0_0 i)
    (x0 : Vec F S64x384 .bf16) (x1 : Vec F S16x256x384 .bf16) (x2 : Vec F S1000x384 .bf16) (x3 : Vec F S16x4096 .i8) (x4 : Vec F S1x4096 .i8) (x5 : Vec F S1x256 .f32) (x6 : Vec F S1x4096 .i32) (y : S64x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.1 ![64, 8] (by sl_kernel_rfl) y

/-- What case A leaves in scratch `arg12`: its pieces read back over junk. -/
def sout0_A_1 (c : Dev nD) (i : grid0.Coords) (arg1 : Memref sig .tc .vmem S64x384 .bf16) (harg1 : arg1.IsWhole) (arg2 : Memref sig .tc .vmem S16x256x384 .bf16) (harg2 : arg2.IsWhole) (arg3 : Memref sig .tc .vmem S1000x384 .bf16) (harg3 : arg3.IsWhole) (arg4 : Memref sig .tc .vmem S16x4096 .i8) (harg4 : arg4.IsWhole) (arg5 : Memref sig .tc .vmem S1x4096 .i8) (harg5 : arg5.IsWhole) (arg6 : Memref sig .tc .vmem S1x256 .f32) (harg6 : arg6.IsWhole) (arg7 : Memref sig .tc .vmem S1x4096 .i32) (harg7 : arg7.IsWhole) (arg8 : Memref sig .tc .vmem S64x4096 .f32) (harg8 : arg8.IsWhole) (arg9 : Memref sig .tc .vmem S64x16x256 .f32) (harg9 : arg9.IsWhole) (arg10 : Memref sig .tc .vmem S64x1000 .f32) (harg10 : arg10.IsWhole) (arg11 : Memref sig .tc .vmem S64x4096 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S16x4096 .i32) (harg14 : arg14.IsWhole) (hc0 : cond0_0 i)
    (x0 : Vec F S64x384 .bf16) (x1 : Vec F S16x256x384 .bf16) (x2 : Vec F S1000x384 .bf16) (x3 : Vec F S16x4096 .i8) (x4 : Vec F S1x4096 .i8) (x5 : Vec F S1x256 .f32) (x6 : Vec F S1x4096 .i32) : Vec F S64x1024 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.1)

/-- Case A's pieces for scratch `arg13`, which the kernel carries between points, cover it: 1 piece of `S64x128` tiling it (Lib/Ring.lean `Piece.tiledL`). -/
theorem scover0_A_2 (c : Dev nD) (i : grid0.Coords) (arg1 : Memref sig .tc .vmem S64x384 .bf16) (harg1 : arg1.IsWhole) (arg2 : Memref sig .tc .vmem S16x256x384 .bf16) (harg2 : arg2.IsWhole) (arg3 : Memref sig .tc .vmem S1000x384 .bf16) (harg3 : arg3.IsWhole) (arg4 : Memref sig .tc .vmem S16x4096 .i8) (harg4 : arg4.IsWhole) (arg5 : Memref sig .tc .vmem S1x4096 .i8) (harg5 : arg5.IsWhole) (arg6 : Memref sig .tc .vmem S1x256 .f32) (harg6 : arg6.IsWhole) (arg7 : Memref sig .tc .vmem S1x4096 .i32) (harg7 : arg7.IsWhole) (arg8 : Memref sig .tc .vmem S64x4096 .f32) (harg8 : arg8.IsWhole) (arg9 : Memref sig .tc .vmem S64x16x256 .f32) (harg9 : arg9.IsWhole) (arg10 : Memref sig .tc .vmem S64x1000 .f32) (harg10 : arg10.IsWhole) (arg11 : Memref sig .tc .vmem S64x4096 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S16x4096 .i32) (harg14 : arg14.IsWhole) (hc0 : cond0_0 i)
    (x0 : Vec F S64x384 .bf16) (x1 : Vec F S16x256x384 .bf16) (x2 : Vec F S1000x384 .bf16) (x3 : Vec F S16x4096 .i8) (x4 : Vec F S1x4096 .i8) (x5 : Vec F S1x256 .f32) (x6 : Vec F S1x4096 .i32) (y : S64x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.1 S64x128.size (by sl_kernel_rfl) y

/-- What case A leaves in scratch `arg13`: its pieces read back over junk. -/
def sout0_A_2 (c : Dev nD) (i : grid0.Coords) (arg1 : Memref sig .tc .vmem S64x384 .bf16) (harg1 : arg1.IsWhole) (arg2 : Memref sig .tc .vmem S16x256x384 .bf16) (harg2 : arg2.IsWhole) (arg3 : Memref sig .tc .vmem S1000x384 .bf16) (harg3 : arg3.IsWhole) (arg4 : Memref sig .tc .vmem S16x4096 .i8) (harg4 : arg4.IsWhole) (arg5 : Memref sig .tc .vmem S1x4096 .i8) (harg5 : arg5.IsWhole) (arg6 : Memref sig .tc .vmem S1x256 .f32) (harg6 : arg6.IsWhole) (arg7 : Memref sig .tc .vmem S1x4096 .i32) (harg7 : arg7.IsWhole) (arg8 : Memref sig .tc .vmem S64x4096 .f32) (harg8 : arg8.IsWhole) (arg9 : Memref sig .tc .vmem S64x16x256 .f32) (harg9 : arg9.IsWhole) (arg10 : Memref sig .tc .vmem S64x1000 .f32) (harg10 : arg10.IsWhole) (arg11 : Memref sig .tc .vmem S64x4096 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S16x4096 .i32) (harg14 : arg14.IsWhole) (hc0 : cond0_0 i)
    (x0 : Vec F S64x384 .bf16) (x1 : Vec F S16x256x384 .bf16) (x2 : Vec F S1000x384 .bf16) (x3 : Vec F S16x4096 .i8) (x4 : Vec F S1x4096 .i8) (x5 : Vec F S1x256 .f32) (x6 : Vec F S1x4096 .i32) : Vec F S64x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6).2.2.1)

/-- Case B stores nothing into scratch `arg11`: it holds what the point before left. -/
def sout0_B_0 (c : Dev nD) (i : grid0.Coords) (arg1 : Memref sig .tc .vmem S64x384 .bf16) (harg1 : arg1.IsWhole) (arg2 : Memref sig .tc .vmem S16x256x384 .bf16) (harg2 : arg2.IsWhole) (arg3 : Memref sig .tc .vmem S1000x384 .bf16) (harg3 : arg3.IsWhole) (arg4 : Memref sig .tc .vmem S16x4096 .i8) (harg4 : arg4.IsWhole) (arg5 : Memref sig .tc .vmem S1x4096 .i8) (harg5 : arg5.IsWhole) (arg6 : Memref sig .tc .vmem S1x256 .f32) (harg6 : arg6.IsWhole) (arg7 : Memref sig .tc .vmem S1x4096 .i32) (harg7 : arg7.IsWhole) (arg8 : Memref sig .tc .vmem S64x4096 .f32) (harg8 : arg8.IsWhole) (arg9 : Memref sig .tc .vmem S64x16x256 .f32) (harg9 : arg9.IsWhole) (arg10 : Memref sig .tc .vmem S64x1000 .f32) (harg10 : arg10.IsWhole) (arg11 : Memref sig .tc .vmem S64x4096 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S16x4096 .i32) (harg14 : arg14.IsWhole) (hc0 : ¬cond0_0 i)
    (x0 : Vec F S64x384 .bf16) (x1 : Vec F S16x256x384 .bf16) (x2 : Vec F S1000x384 .bf16) (x3 : Vec F S16x4096 .i8) (x4 : Vec F S1x4096 .i8) (x5 : Vec F S1x256 .f32) (x6 : Vec F S1x4096 .i32) (xs0 : Vec F S64x4096 .f32) (xs1 : Vec F S64x1024 .f32) (xs2 : Vec F S64x128 .f32) : Vec F S64x4096 .f32 := xs0

/-- Case B stores nothing into scratch `arg12`: it holds what the point before left. -/
def sout0_B_1 (c : Dev nD) (i : grid0.Coords) (arg1 : Memref sig .tc .vmem S64x384 .bf16) (harg1 : arg1.IsWhole) (arg2 : Memref sig .tc .vmem S16x256x384 .bf16) (harg2 : arg2.IsWhole) (arg3 : Memref sig .tc .vmem S1000x384 .bf16) (harg3 : arg3.IsWhole) (arg4 : Memref sig .tc .vmem S16x4096 .i8) (harg4 : arg4.IsWhole) (arg5 : Memref sig .tc .vmem S1x4096 .i8) (harg5 : arg5.IsWhole) (arg6 : Memref sig .tc .vmem S1x256 .f32) (harg6 : arg6.IsWhole) (arg7 : Memref sig .tc .vmem S1x4096 .i32) (harg7 : arg7.IsWhole) (arg8 : Memref sig .tc .vmem S64x4096 .f32) (harg8 : arg8.IsWhole) (arg9 : Memref sig .tc .vmem S64x16x256 .f32) (harg9 : arg9.IsWhole) (arg10 : Memref sig .tc .vmem S64x1000 .f32) (harg10 : arg10.IsWhole) (arg11 : Memref sig .tc .vmem S64x4096 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S16x4096 .i32) (harg14 : arg14.IsWhole) (hc0 : ¬cond0_0 i)
    (x0 : Vec F S64x384 .bf16) (x1 : Vec F S16x256x384 .bf16) (x2 : Vec F S1000x384 .bf16) (x3 : Vec F S16x4096 .i8) (x4 : Vec F S1x4096 .i8) (x5 : Vec F S1x256 .f32) (x6 : Vec F S1x4096 .i32) (xs0 : Vec F S64x4096 .f32) (xs1 : Vec F S64x1024 .f32) (xs2 : Vec F S64x128 .f32) : Vec F S64x1024 .f32 := xs1

/-- Case B stores nothing into scratch `arg13`: it holds what the point before left. -/
def sout0_B_2 (c : Dev nD) (i : grid0.Coords) (arg1 : Memref sig .tc .vmem S64x384 .bf16) (harg1 : arg1.IsWhole) (arg2 : Memref sig .tc .vmem S16x256x384 .bf16) (harg2 : arg2.IsWhole) (arg3 : Memref sig .tc .vmem S1000x384 .bf16) (harg3 : arg3.IsWhole) (arg4 : Memref sig .tc .vmem S16x4096 .i8) (harg4 : arg4.IsWhole) (arg5 : Memref sig .tc .vmem S1x4096 .i8) (harg5 : arg5.IsWhole) (arg6 : Memref sig .tc .vmem S1x256 .f32) (harg6 : arg6.IsWhole) (arg7 : Memref sig .tc .vmem S1x4096 .i32) (harg7 : arg7.IsWhole) (arg8 : Memref sig .tc .vmem S64x4096 .f32) (harg8 : arg8.IsWhole) (arg9 : Memref sig .tc .vmem S64x16x256 .f32) (harg9 : arg9.IsWhole) (arg10 : Memref sig .tc .vmem S64x1000 .f32) (harg10 : arg10.IsWhole) (arg11 : Memref sig .tc .vmem S64x4096 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S16x4096 .i32) (harg14 : arg14.IsWhole) (hc0 : ¬cond0_0 i)
    (x0 : Vec F S64x384 .bf16) (x1 : Vec F S16x256x384 .bf16) (x2 : Vec F S1000x384 .bf16) (x3 : Vec F S16x4096 .i8) (x4 : Vec F S1x4096 .i8) (x5 : Vec F S1x256 .f32) (x6 : Vec F S1x4096 .i32) (xs0 : Vec F S64x4096 .f32) (xs1 : Vec F S64x1024 .f32) (xs2 : Vec F S64x128 .f32) : Vec F S64x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S64x4096 .f32 × Vec F S64x1024 .f32 × Vec F S64x128 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 64 = 0 then
      (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 64 = 0) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2) ∗ (∃ d, owns (c : Thread nD τ) scM0_3 fullShare d)) ∗ (∃ r, prngReg c r))

/-- Before the first point the invariant is the launch's. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ owns (c : Thread nD τ) scM0_2 fullShare ((outsAt0 m c (n - 1) (by omega)).2.2) ∗ (∃ d, owns (c : Thread nD τ) scM0_3 fullShare d)) ∗ (∃ r, prngReg c r)) := by
  cases n with
  | zero => exact absurd rfl hz
  | succ n => rfl

/-! ## The pipeline's proof data -/

/-- The output windows this certificate FORGETS (7, 8, 9): nothing reads what the kernel leaves in them, so nothing
    of it is named (Lib/Pipeline/Dat.lean `Dat.toRForget`). -/
def forgets0 : Fin 10 → Bool := fun w => w.val == 7 || w.val == 8 || w.val == 9

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Input window 1's buffer holds its block. -/
theorem before0_1 (c : Dev nD) (t : Fin cfg0.N) (d) : (dats m 0 c).before 1 t d = iblk m c 1 t :=
  before0_1_of m (dats m 0 c) (A_eq m c 1) (after0_1 m c) t d
/-- Input window 2's buffer holds its block. -/
theorem before0_2 (c : Dev nD) (t : Fin cfg0.N) (d) : (dats m 0 c).before 2 t d = iblk m c 2 t :=
  before0_2_of m (dats m 0 c) (A_eq m c 2) (after0_2 m c) t d
/-- Input window 3's buffer holds its block. -/
theorem before0_3 (c : Dev nD) (t : Fin cfg0.N) (d) : (dats m 0 c).before 3 t d = iblk m c 3 t :=
  before0_3_of m (dats m 0 c) (A_eq m c 3) (after0_3 m c) t d
/-- Input window 4's buffer holds its block. -/
theorem before0_4 (c : Dev nD) (t : Fin cfg0.N) (d) : (dats m 0 c).before 4 t d = iblk m c 4 t :=
  before0_4_of m (dats m 0 c) (A_eq m c 4) (after0_4 m c) t d
/-- Input window 5's buffer holds its block. -/
theorem before0_5 (c : Dev nD) (t : Fin cfg0.N) (d) : (dats m 0 c).before 5 t d = iblk m c 5 t :=
  before0_5_of m (dats m 0 c) (A_eq m c 5) (after0_5 m c) t d
/-- Input window 6's buffer holds its block. -/
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    by_cases hz : t.val = 0
    · rw [PhiS_castSucc m c t, PhiS_zero m c _ _ hz, PhiA0_eq]
      rw [outsAt0_A m c t h0]
      unfold sout0_A_0 sout0_A_1 sout0_A_2; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, H8, H9, ⟨%es0, HS0⟩, ⟨%es1, HS1⟩, ⟨%es2, HS2⟩, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · exfalso; have hN : t.val < 64 := lt_of_lt_of_eq t.isLt (show cfg0.N = 64 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold sout0_B_0 sout0_B_1 sout0_B_2; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _ _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, H8, H9, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- For any values, from any memory with zero counters: every weakly fair execution of @main on the
    TensorCores terminates, and every final state has every INPUT array of the pipeline unchanged, nothing stated of the
    FORGOTTEN outputs (windows 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gen

end
-- ==== Proof.KernelIdeal.Look.lean ====
module

public import proofs.«01_k».proof.Proof.Gen.KernelIdeal.Skeleton
public import Idealize.ShloMosaic.Lib.WordCmp
public import Idealize.ShloMosaic.Lib.Pointwise
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic Idealize.ShloMosaic.WordCmp

variable {F : FTy → Type} [FloatOps F]

/-- A row of 128 words repeated over the eight rows of a group. -/
def rowCode (v : Vec F S1x128 .i32) : IVec S8x128 32 :=
  broadcastTo S8x128 (shapeCast S1x128 v shapeCasts_S1x128_S1x128) broadcasts_S1x128_S8x128

/-- The same for a row read through one more change of shape. -/
def rowId (v : Vec F S1x128 .i32) : IVec S8x128 32 :=
  broadcastTo S8x128 (shapeCast S1x128 (shapeCast S1x128 v shapeCasts_S1x128_S1x128) shapeCasts_S1x128_S1x128)
    broadcasts_S1x128_S8x128

/-- The lane a word names: its low seven bits, as the gather takes them. -/
def laneOf (code : IVec S8x128 32) : IVec S8x128 32 :=
  let l : IVec S8x128 32 := andi code (broadcast S8x128 127#32)
  shapeCast S8x128 (shapeCast S8x128x1
    (select (cmpi .slt l (broadcast S8x128 0#32)) (addi l (broadcast S8x128 128#32)) l)
    shapeCasts_S8x128_S8x128x1) shapeCasts_S8x128x1_S8x128

/-- The look-up of a word in a table of 256 columns, held as two tables of 128. -/
def look2 (code : IVec S8x128 32) (t0 t1 : Vec F S8x128 .f32) : FVec F S8x128 .f32 :=
  select (cmpi .sge code (broadcast S8x128 128#32))
    (dynamicGather 1 t1 (laneOf code)) (dynamicGather 1 t0 (laneOf code))

/-- Whether bit `b` of a word is set. -/
def bitOf (code : IVec S8x128 32) (b : BitVec 32) : IVec S8x128 1 :=
  cmpi .ne (andi code (broadcast S8x128 b)) (broadcast S8x128 0#32)

/-- The look-up of a word in a table of 1024 columns, held as eight tables of 128: three levels of
    selection on the bits 7, 8 and 9. -/
def look8 (code : IVec S8x128 32) (t0 t1 t2 t3 t4 t5 t6 t7 : Vec F S8x128 .f32) : FVec F S8x128 .f32 :=
  select (bitOf code 512#32)
    (select (bitOf code 256#32)
      (select (bitOf code 128#32) (dynamicGather 1 t7 (laneOf code)) (dynamicGather 1 t6 (laneOf code)))
      (select (bitOf code 128#32) (dynamicGather 1 t5 (laneOf code)) (dynamicGather 1 t4 (laneOf code))))
    (select (bitOf code 256#32)
      (select (bitOf code 128#32) (dynamicGather 1 t3 (laneOf code)) (dynamicGather 1 t2 (laneOf code)))
      (select (bitOf code 128#32) (dynamicGather 1 t1 (laneOf code)) (dynamicGather 1 t0 (laneOf code))))

/-- A row of 128 table entries repeated over the eight rows of a group. -/
def rowTab (v : Vec F S1x128 .f32) : FVec F S8x128 .f32 :=
  broadcastTo S8x128 (shapeCast S1x128 (shapeCast S1x128 v shapeCasts_S1x128_S1x128) shapeCasts_S1x128_S1x128)
    broadcasts_S1x128_S8x128

/-- A row of 128 byte codes, widened without sign and repeated over the eight rows of a group. -/
def rowByte (v : Vec F S1x128 .i8) : IVec S8x128 32 :=
  broadcastTo S8x128 (shapeCast S1x128 (extui 32 (shapeCast S1x128 v shapeCasts_S1x128_S1x128 : IVec S1x128 8) natLt_8_32)
    shapeCasts_S1x128_S1x128) broadcasts_S1x128_S8x128

/-- The squared norms the norm codes name. -/
def normOf (nc : Vec F S1x128 .i8) (thi tlo : Vec F S1x128 .f32) : FVec F S8x128 .f32 :=
  look2 (rowByte (F := F) nc) (rowTab tlo) (rowTab thi)

/-- The distance from the accumulated dot products, the squared norms and the query's. -/
def distOf (acc xn : FVec F S8x128 .f32) (qn : Vec F S8x128 .f32) : FVec F S8x128 .f32 :=
  addf (subf qn (mulf (broadcast S8x128 (Scalar.ofBits .f32 0x40000000#32)) acc)) xn

/-! ## The look-ups read at a cell -/

/-- The lane of a word is its value modulo 128. -/
theorem laneOf_toNat (code : IVec S8x128 32) (j : S8x128.Idx) :
    (laneOf code j).toNat = (code j).toNat % 128 := by
  have h : (IntOp.andi (code j) 127#32).toNat = (code j).toNat % 128 := by
    show (code j &&& 127#32).toNat = _
    rw [BitVec.toNat_and]
    exact Nat.and_two_pow_sub_one_eq_mod (code j).toNat 7
  have hc : IntOp.cmpi .slt (IntOp.andi (code j) 127#32) 0#32 = 0#1 := by
    rw [cmpi_slt_of_lt (by rw [h]; have := Nat.mod_lt (code j).toNat (show 0 < 128 by decide); omega) (by decide)]
    simp
  unfold laneOf
  rw [shapeCast_shapeCast]
  show (Scalar.select (IntOp.cmpi .slt (IntOp.andi (code j) 127#32) 0#32) _ (IntOp.andi (code j) 127#32)).toNat = _
  rw [hc]
  exact h

/-- A gather by the lanes reads, in each row, the column the word names modulo 128. -/
theorem gather_laneOf {α : Type} (code : IVec S8x128 32) (t : S8x128.Idx → α) (f : Fin 8 → ℕ → α) (b : ℕ)
    (ht : ∀ (r : Fin 8) (l : Fin 128), t (ix2 r l) = f r (b + l.val)) (r : Fin 8) (l : Fin 128) :
    dynamicGather 1 t (laneOf code) (ix2 r l) = f r (b + (code (ix2 r l)).toNat % 128) := by
  have e : dynamicGather 1 t (laneOf code) (ix2 r l)
      = t (ix2 r (⟨(code (ix2 r l)).toNat % 128, Nat.mod_lt _ (by decide)⟩ : Fin 128)) := by
    show t _ = t _
    refine congrArg t (funext fun a => ?_)
    match a with
    | ⟨0, _⟩ => rfl
    | ⟨1, _⟩ =>
      refine Fin.ext ?_
      show (laneOf code (ix2 r l)).toNat % 128 = (code (ix2 r l)).toNat % 128
      rw [laneOf_toNat, Nat.mod_mod]
  rw [e, ht]

/-- A look-up in 256 columns reads the column the word names. -/
theorem look2_read (code : IVec S8x128 32) (t0 t1 : Vec Ideal S8x128 .f32) (f : Fin 8 → ℕ → EReal)
    (h0 : ∀ (r : Fin 8) (l : Fin 128), t0 (ix2 r l) = f r (0 + l.val))
    (h1 : ∀ (r : Fin 8) (l : Fin 128), t1 (ix2 r l) = f r (128 + l.val))
    (r : Fin 8) (l : Fin 128) (hj : (code (ix2 r l)).toNat < 256) :
    look2 (F := Ideal) code t0 t1 (ix2 r l) = f r (code (ix2 r l)).toNat := by
  unfold look2
  generalize hjj : (ix2 r l : S8x128.Idx) = j at hj ⊢
  have g1 := gather_laneOf code t1 f 128 h1 r l
  have g0 := gather_laneOf code t0 f 0 h0 r l
  rw [hjj] at g1 g0
  show Scalar.select (IntOp.cmpi .sge (code j) 128#32) (dynamicGather 1 t1 (laneOf code) j)
    (dynamicGather 1 t0 (laneOf code) j) = _
  rw [g1, g0, cmpi_sge_of_lt (by omega) (by decide)]
  by_cases hc : 128 ≤ (code j).toNat
  · have e : 128 + (code j).toNat % 128 = (code j).toNat := by omega
    rw [e, show BitVec.ofBool (decide ((128#32 : BitVec 32).toNat ≤ (code j).toNat)) = 1#1 by simp [hc]]
    rfl
  · have e : 0 + (code j).toNat % 128 = (code j).toNat := by omega
    rw [e, show BitVec.ofBool (decide ((128#32 : BitVec 32).toNat ≤ (code j).toNat)) = 0#1 by simp [hc]]
    rfl

/-- Whether bit `k` of a word is set, as an odd quotient. -/
theorem bitOf_eq (code : IVec S8x128 32) (j : S8x128.Idx) (k : ℕ) (hk : 2 ^ k < 2 ^ 32) :
    bitOf code (BitVec.ofNat 32 (2 ^ k)) j = BitVec.ofBool (decide ((code j).toNat / 2 ^ k % 2 = 1)) := by
  show IntOp.cmpi .ne (IntOp.andi (code j) (BitVec.ofNat 32 (2 ^ k))) 0#32 = _
  rw [cmpi_ne_eq_toNat]
  congr 2
  show ((code j &&& BitVec.ofNat 32 (2 ^ k)).toNat ≠ 0) = _
  rw [BitVec.toNat_and, BitVec.toNat_ofNat, Nat.mod_eq_of_lt hk]
  have hb : (code j).toNat.testBit k = decide ((code j).toNat / 2 ^ k % 2 = 1) := Nat.testBit_eq_decide_div_mod_eq
  refine propext ⟨fun h => ?_, fun h h0 => ?_⟩
  · by_contra hn
    refine h (Nat.eq_of_testBit_eq fun i => ?_)
    rw [Nat.testBit_and, Nat.zero_testBit, Nat.testBit_two_pow]
    by_cases hi : k = i
    · subst hi; simp [hb, hn]
    · simp [hi]
  · have := congrArg (fun n => n.testBit k) h0
    simp only [Nat.testBit_and, Nat.zero_testBit, Nat.testBit_two_pow_self, hb, h] at this
    simp at this

/-- A selection read at a cell. -/
theorem select_at {α : Type} (c : IVec S8x128 1) (a b : S8x128.Idx → α) (j : S8x128.Idx) :
    select c a b j = Scalar.select (c j) (a j) (b j) := rfl

/-- One selection on a bit. -/
theorem select_ofBool {α : Type} (p : Prop) [Decidable p] (a b : α) :
    Scalar.select (BitVec.ofBool (decide p)) a b = if p then a else b := by
  by_cases h : p <;> simp [h, Scalar.select]

/-- A look-up in 1024 columns reads the column the word names modulo 1024. -/
theorem look8_read (code : IVec S8x128 32) (t0 t1 t2 t3 t4 t5 t6 t7 : Vec Ideal S8x128 .f32) (f : Fin 8 → ℕ → EReal)
    (h0 : ∀ (r : Fin 8) (l : Fin 128), t0 (ix2 r l) = f r (0 + l.val))
    (h1 : ∀ (r : Fin 8) (l : Fin 128), t1 (ix2 r l) = f r (128 + l.val))
    (h2 : ∀ (r : Fin 8) (l : Fin 128), t2 (ix2 r l) = f r (256 + l.val))
    (h3 : ∀ (r : Fin 8) (l : Fin 128), t3 (ix2 r l) = f r (384 + l.val))
    (h4 : ∀ (r : Fin 8) (l : Fin 128), t4 (ix2 r l) = f r (512 + l.val))
    (h5 : ∀ (r : Fin 8) (l : Fin 128), t5 (ix2 r l) = f r (640 + l.val))
    (h6 : ∀ (r : Fin 8) (l : Fin 128), t6 (ix2 r l) = f r (768 + l.val))
    (h7 : ∀ (r : Fin 8) (l : Fin 128), t7 (ix2 r l) = f r (896 + l.val))
    (r : Fin 8) (l : Fin 128) :
    look8 (F := Ideal) code t0 t1 t2 t3 t4 t5 t6 t7 (ix2 r l) = f r ((code (ix2 r l)).toNat % 1024) := by
  have g0 := gather_laneOf code t0 f 0 h0 r l
  have g1 := gather_laneOf code t1 f 128 h1 r l
  have g2 := gather_laneOf code t2 f 256 h2 r l
  have g3 := gather_laneOf code t3 f 384 h3 r l
  have g4 := gather_laneOf code t4 f 512 h4 r l
  have g5 := gather_laneOf code t5 f 640 h5 r l
  have g6 := gather_laneOf code t6 f 768 h6 r l
  have g7 := gather_laneOf code t7 f 896 h7 r l
  generalize (ix2 r l : S8x128.Idx) = j at g0 g1 g2 g3 g4 g5 g6 g7 ⊢
  have b7 : bitOf code 128#32 j = BitVec.ofBool (decide ((code j).toNat / 128 % 2 = 1)) := bitOf_eq code j 7 (by decide)
  have b8 : bitOf code 256#32 j = BitVec.ofBool (decide ((code j).toNat / 256 % 2 = 1)) := bitOf_eq code j 8 (by decide)
  have b9 : bitOf code 512#32 j = BitVec.ofBool (decide ((code j).toNat / 512 % 2 = 1)) := bitOf_eq code j 9 (by decide)
  unfold look8
  simp only [select_at, b7, b8, b9, select_ofBool, g0, g1, g2, g3, g4, g5, g6, g7]
  split_ifs <;> refine congrArg (f r) ?_ <;> omega

/-- A row of words repeated over the group, read at a cell. -/
theorem rowCode_apply (v : Vec Ideal S1x128 .i32) (j : S8x128.Idx) :
    rowCode (F := Ideal) v j = v (ix2 (0 : Fin 1) (j 1)) := by
  unfold rowCode
  rw [shapeCast_self]
  exact broadcastTo_apply _ _ _ _ (by
    intro a
    match a with
    | ⟨0, _⟩ => rfl
    | ⟨1, _⟩ => rfl)

/-- A row of list ids repeated over the group, read at a cell. -/
theorem rowId_apply (v : Vec Ideal S1x128 .i32) (j : S8x128.Idx) :
    rowId (F := Ideal) v j = v (ix2 (0 : Fin 1) (j 1)) := by
  unfold rowId
  rw [shapeCast_self, shapeCast_self]
  exact broadcastTo_apply _ _ _ _ (by
    intro a
    match a with
    | ⟨0, _⟩ => rfl
    | ⟨1, _⟩ => rfl)

/-- A row of table entries repeated over the group, read at a cell. -/
theorem rowTab_apply (v : Vec Ideal S1x128 .f32) (j : S8x128.Idx) :
    rowTab (F := Ideal) v j = v (ix2 (0 : Fin 1) (j 1)) := by
  unfold rowTab
  rw [shapeCast_self, shapeCast_self]
  exact broadcastTo_apply _ _ _ _ (by
    intro a
    match a with
    | ⟨0, _⟩ => rfl
    | ⟨1, _⟩ => rfl)

/-- A row of byte codes widened and repeated over the group, read at a cell. -/
theorem rowByte_apply (v : Vec Ideal S1x128 .i8) (j : S8x128.Idx) :
    rowByte (F := Ideal) v j = (show BitVec 8 from v (ix2 (0 : Fin 1) (j 1))).setWidth 32 := by
  unfold rowByte
  rw [shapeCast_self, shapeCast_self]
  refine (broadcastTo_apply _ _ _ (ix2 (0 : Fin 1) (j 1)) (by
    intro a
    match a with
    | ⟨0, _⟩ => rfl
    | ⟨1, _⟩ => rfl)).trans rfl

/-- The squared norm the norm code names, read at a cell. -/
theorem normOf_read (nc : Vec Ideal S1x128 .i8) (thi tlo : Vec Ideal S1x128 .f32) (f : ℕ → EReal)
    (h0 : ∀ l : Fin 128, tlo (ix2 (0 : Fin 1) l) = f l.val)
    (h1 : ∀ l : Fin 128, thi (ix2 (0 : Fin 1) l) = f (128 + l.val)) (r : Fin 8) (l : Fin 128) :
    normOf (F := Ideal) nc thi tlo (ix2 r l) = f (show BitVec 8 from nc (ix2 (0 : Fin 1) l)).toNat := by
  have e : (rowByte (F := Ideal) nc (ix2 r l)).toNat = (show BitVec 8 from nc (ix2 (0 : Fin 1) l)).toNat := by
    rw [rowByte_apply, BitVec.toNat_setWidth]
    exact Nat.mod_eq_of_lt (lt_trans (show BitVec 8 from nc (ix2 (0 : Fin 1) l)).isLt (by decide))
  unfold normOf
  rw [look2_read _ _ _ (fun _ n => f n)
    (fun r l => by rw [rowTab_apply]; simpa using h0 l) (fun r l => by rw [rowTab_apply]; exact h1 l) r l
    (by rw [e]; exact (show BitVec 8 from nc (ix2 (0 : Fin 1) l)).isLt), e]

end Cert.KernelIdeal.Gen

end
-- ==== Proof.KernelIdeal.Trip.lean ====
module

public import proofs.«01_k».proof.Proof.Gen.KernelIdeal.Loops
public import proofs.«01_k».proof.Proof.KernelIdeal.Look

@[expose] public section

set_option maxRecDepth 16384

noncomputable section

namespace Cert.KernelIdeal.Gen

open Idealize.ShloMosaic Idealize.ShloMosaic.TcCoe Idealize.ShloMosaic.Tactic Idealize.ShloMosaic.WordCmp

variable {F : FTy → Type} [FloatOps F]

/-- The sum of the sixteen codebooks' entries, for the rows 0 to 7. -/
theorem acc16_0 (arg11 : Memref sig .tc .vmem S64x4096 .f32) (arg14 : Memref sig .tc .vmem S16x4096 .i32)
    (X_arg11 : BufTy.Contents (Elt F) arg11.view.ty) (X_arg14 : BufTy.Contents (Elt F) arg14.view.ty) (k : Fin k0_t1_loop.trips) :
    trip_k0_t1.sl.r_240 arg11 arg14 X_arg11 X_arg14 k = (addf (addf (addf (addf (addf (addf (addf (addf (addf (addf (addf (addf (addf (addf (addf (look2 (rowCode (F := F) (View.readAt (Elt F) arg14.view (Rect.unit (s := S16x4096) (k0_off1 k) S1x128.size (k0_off1_inb k)).toLoadRect X_arg14))
            (View.readAt (Elt F) arg11.view (Rect.unit (s := S64x4096) ![0, 0] S8x128.size inb_S64x4096_S8x128_0_0).toLoadRect X_arg11)
            (View.readAt (Elt F) arg11.view (Rect.unit (s := S64x4096) ![0, 128] S8x128.size inb_S64x4096_S8x128_0_128).toLoadRect X_arg11))
          (look2 (rowCode (F := F) (View.readAt (Elt F) arg14.view (Rect.unit (s := S16x4096) (k0_off2 k) S1x128.size (k0_off2_inb k)).toLoadRect X_arg14))
            (View.readAt (Elt F) arg11.view (Rect.unit (s := S64x4096) ![0, 256] S8x128.size inb_S64x4096_S8x128_0_256).toLoadRect X_arg11)
            (View.readAt (Elt F) arg11.view (Rect.unit (s := S64x4096) ![0, 384] S8x128.size inb_S64x4096_S8x128_0_384).toLoadRect X_arg11)))
          (look2 (rowCode (F := F) (View.readAt (Elt F) arg14.view (Rect.unit (s := S16x4096) (k0_off3 k) S1x128.size (k0_off3_inb k)).toLoadRect X_arg14))
            (View.readAt (Elt F) arg11.view (Rect.unit (s := S64x4096) ![0, 512] S8x128.size inb_S64x4096_S8x128_0_512).toLoadRect X_arg11)
            (View.readAt (Elt F) arg11.view (Rect.unit (s := S64x4096) ![0, 640] S8x128.size inb_S64x4096_S8x128_0_640).toLoadRect X_arg11)))
          (look2 (rowCode (F := F) (View.readAt (Elt F) arg14.view (Rect.unit (s := S16x4096) (k0_off4 k) S1x128.size (k0_off4_inb k)).toLoadRect X_arg14))
            (View.readAt (Elt F) arg11.view (Rect.unit (s := S64x4096) ![0, 768] S8x128.size inb_S64x4096_S8x128_0_768).toLoadRect X_arg11)
            (View.readAt (Elt F) arg11.view (Rect.unit (s := S64x4096) ![0, 896] S8x128.size inb_S64x4096_S8x128_0_896).toLoadRect X_arg11)))
          (look2 (rowCode (F := F) (View.readAt (Elt F) arg14.view (Rect.unit (s := S16x4096) (k0_off5 k) S1x128.size (k0_off5_inb k)).toLoadRect X_arg14))
            (View.readAt (Elt F) arg11.view (Rect.unit (s := S64x4096) ![0, 1024] S8x128.size inb_S64x4096_S8x128_0_1024).toLoadRect X_arg11)
            (View.readAt (Elt F) arg11.view (Rect.unit (s := S64x4096) ![0, 1152] S8x128.size inb_S64x4096_S8x128_0_1152).toLoadRect X_arg11)))
          (look2 (rowCode (F := F) (View.readAt (Elt F) arg14.view (Rect.unit (s := S16x4096) (k0_off6 k) S1x128.size (k0_off6_inb k)).toLoadRect X_arg14))
            (View.readAt (Elt F) arg11.view (Rect.unit (s := S64x4096) ![0, 1280] S8x128.size inb_S64x4096_S8x128_0_1280).toLoadRect X_arg11)
            (View.readAt (Elt F) arg11.view (Rect.unit (s := S64x4096) ![0, 1408] S8x128.size inb_S64x4096_S8x128_0_1408).toLoadRect X_arg11)))
          (look2 (rowCode (F := F) (View.readAt (Elt F) arg14.view (Rect.unit (s := S16x4096) (k0_off7 k) S1x128.size (k0_off7_inb k)).toLoadRect X_arg14))
            (View.readAt (Elt F) arg11.view (Rect.unit (s := S64x4096) ![0, 1536] S8x128.size inb_S64x4096_S8x128_0_1536).toLoadRect X_arg11)
            (View.readAt (Elt F) arg11.view (Rect.unit (s := S64x4096) ![0, 1664] S8x128.size inb_S64x4096_S8x128_0_1664).toLoadRect X_arg11)))
          (look2 (rowCode (F := F) (View.readAt (Elt F) arg14.view (Rect.unit (s := S16x4096) (k0_off8 k) S1x128.size (k0_off8_inb k)).toLoadRect X_arg14))
            (View.readAt (Elt F) arg11.view (Rect.unit (s := S64x4096) ![0, 1792] S8x128.size inb_S64x4096_S8x128_0_1792).toLoadRect X_arg11)
            (View.readAt (Elt F) arg11.view (Rect.unit (s := S64x4096) ![0, 1920] S8x128.size inb_S64x4096_S8x128_0_1920).toLoadRect X_arg11)))
          (look2 (rowCode (F := F) (View.readAt (Elt F) arg14.view (Rect.unit (s := S16x4096) (k0_off9 k) S1x128.size (k0_off9_inb k)).toLoadRect X_arg14))
            (View.readAt (Elt F) arg11.view (Rect.unit (s := S64x4096) ![0, 2048] S8x128.size inb_S64x4096_S8x128_0_2048).toLoadRect X_arg11)
            (View.readAt (Elt F) arg11.view (Rect.unit (s := S64x4096) ![0, 2176] S8x128.size inb_S64x4096_S8x128_0_2176).toLoadRect X_arg11)))
          (look2 (rowCode (F := F) (View.readAt (Elt F) arg14.view (Rect.unit (s := S16x4096) (k0_off10 k) S1x128.size (k0_off10_inb k)).toLoadRect X_arg14))
            (View.readAt (Elt F) arg11.view (Rect.unit (s := S64x4096) ![0, 2304] S8x128.size inb_S64x4096_S8x128_0_2304).toLoadRect X_arg11)
            (View.readAt (Elt F) arg11.view (Rect.unit (s := S64x4096) ![0, 2432] S8x128.size inb_S64x4096_S8x128_0_2432).toLoadRect X_arg11)))
          (look2 (rowCode (F := F) (View.readAt (Elt F) arg14.view (Rect.unit (s := S16x4096) (k0_off11 k) S1x128.size (k0_off11_inb k)).toLoadRect X_arg14))
            (View.readAt (Elt F) arg11.view (Rect.unit (s := S64x4096) ![0, 2560] S8x128.size inb_S64x4096_S8x128_0_2560).toLoadRect X_arg11)
            (View.readAt (Elt F) arg11.view (Rect.unit (s := S64x4096) ![0, 2688] S8x128.size inb_S64x4096_S8x128_0_2688).toLoadRect X_arg11)))
          (look2 (rowCode (F := F) (View.readAt (Elt F) arg14.view (Rect.unit (s := S16x4096) (k0_off12 k) S1x128.size (k0_off12_inb k)).toLoadRect X_arg14))
            (View.readAt (Elt F) arg11.view (Rect.unit (s := S64x4096) ![0, 2816] S8x128.size inb_S64x4096_S8x128_0_2816).toLoadRect X_arg11)
            (View.readAt (Elt F) arg11.view (Rect.unit (s := S64x4096) ![0, 2944] S8x128.size inb_S64x4096_S8x128_0_2944).toLoadRect X_arg11)))
          (look2 (rowCode (F := F) (View.readAt (Elt F) arg14.view (Rect.unit (s := S16x4096) (k0_off13 k) S1x128.size (k0_off13_inb k)).toLoadRect X_arg14))
            (View.readAt (Elt F) arg11.view (Rect.unit (s := S64x4096) ![0, 3072] S8x128.size inb_S64x4096_S8x128_0_3072).toLoadRect X_arg11)
            (View.readAt (Elt F) arg11.view (Rect.unit (s := S64x4096) ![0, 3200] S8x128.size inb_S64x4096_S8x128_0_3200).toLoadRect X_arg11)))
          (look2 (rowCode (F := F) (View.readAt (Elt F) arg14.view (Rect.unit (s := S16x4096) (k0_off14 k) S1x128.size (k0_off14_inb k)).toLoadRect X_arg14))
            (View.readAt (Elt F) arg11.view (Rect.unit (s := S64x4096) ![0, 3328] S8x128.size inb_S64x4096_S8x128_0_3328).toLoadRect X_arg11)
            (View.readAt (Elt F) arg11.view (Rect.unit (s := S64x4096) ![0, 3456] S8x128.size inb_S64x4096_S8x128_0_3456).toLoadRect X_arg11)))
          (look2 (rowCode (F := F) (View.readAt (Elt F) arg14.view (Rect.unit (s := S16x4096) (k0_off15 k) S1x128.size (k0_off15_inb k)).toLoadRect X_arg14))
            (View.readAt (Elt F) arg11.view (Rect.unit (s := S64x4096) ![0, 3584] S8x128.size inb_S64x4096_S8x128_0_3584).toLoadRect X_arg11)
            (View.readAt (Elt F) arg11.view (Rect.unit (s := S64x4096) ![0, 3712] S8x128.size inb_S64x4096_S8x128_0_3712).toLoadRect X_arg11)))
          (look2 (rowCode (F := F) (View.readAt (Elt F) arg14.view (Rect.unit (s := S16x4096) (k0_off16 k) S1x128.size (k0_off16_inb k)).toLoadRect X_arg14))
            (View.readAt (Elt F) arg11.view (Rect.unit (s := S64x4096) ![0, 3840] S8x128.size inb_S64x4096_S8x128_0_3840).toLoadRect X_arg11)
            (View.readAt (Elt F) arg11.view (Rect.unit (s := S64x4096) ![0, 3968] S8x128.size inb_S64x4096_S8x128_0_3968).toLoadRect X_arg11))) := rfl

/-- The accumulator with the centroid's entry added, for the rows 0 to 7. -/
theorem acc17_0 (arg7 : Memref sig .tc .vmem S1x4096 .i32) (arg11 : Memref sig .tc .vmem S64x4096 .f32) (arg12 : Memref sig .tc .vmem S64x1024 .f32) (arg14 : Memref sig .tc .vmem S16x4096 .i32)
    (X_arg7 : BufTy.Contents (Elt F) arg7.view.ty) (X_arg11 : BufTy.Contents (Elt F) arg11.view.ty) (X_arg12 : BufTy.Contents (Elt F) arg12.view.ty) (X_arg14 : BufTy.Contents (Elt F) arg14.view.ty) (k : Fin k0_t1_loop.trips) :
    trip_k0_t1.sl.r_260 arg7 arg11 arg12 arg14 X_arg7 X_arg11 X_arg12 X_arg14 k = addf (trip_k0_t1.sl.r_240 arg11 arg14 X_arg11 X_arg14 k) (look8 (rowId (F := F) (View.readAt (Elt F) arg7.view (Rect.unit (s := S1x4096) (k0_off17 k) S1x128.size (k0_off17_inb k)).toLoadRect X_arg7))
            (View.readAt (Elt F) arg12.view (Rect.unit (s := S64x1024) ![0, 0] S8x128.size inb_S64x1024_S8x128_0_0).toLoadRect X_arg12)
            (View.readAt (Elt F) arg12.view (Rect.unit (s := S64x1024) ![0, 128] S8x128.size inb_S64x1024_S8x128_0_128).toLoadRect X_arg12)
            (View.readAt (Elt F) arg12.view (Rect.unit (s := S64x1024) ![0, 256] S8x128.size inb_S64x1024_S8x128_0_256).toLoadRect X_arg12)
            (View.readAt (Elt F) arg12.view (Rect.unit (s := S64x1024) ![0, 384] S8x128.size inb_S64x1024_S8x128_0_384).toLoadRect X_arg12)
            (View.readAt (Elt F) arg12.view (Rect.unit (s := S64x1024) ![0, 512] S8x128.size inb_S64x1024_S8x128_0_512).toLoadRect X_arg12)
            (View.readAt (Elt F) arg12.view (Rect.unit (s := S64x1024) ![0, 640] S8x128.size inb_S64x1024_S8x128_0_640).toLoadRect X_arg12)
            (View.readAt (Elt F) arg12.view (Rect.unit (s := S64x1024) ![0, 768] S8x128.size inb_S64x1024_S8x128_0_768).toLoadRect X_arg12)
            (View.readAt (Elt F) arg12.view (Rect.unit (s := S64x1024) ![0, 896] S8x128.size inb_S64x1024_S8x128_0_896).toLoadRect X_arg12)) := by
  dsimp only [trip_k0_t1.sl.r_260, trip_k0_t1.sl.v21, trip_k0_t1.sl.r_259, trip_k0_t1.sl.v2746, trip_k0_t1.sl.v2718, trip_k0_t1.sl.v2717, trip_k0_t1.sl.v2716, trip_k0_t1.sl.r_255, k0_pay307, k0_pay306, trip_k0_t1.sl.v2715, trip_k0_t1.sl.v18, trip_k0_t1.sl.v2713, trip_k0_t1.sl.v2737, trip_k0_t1.sl.v2728, trip_k0_t1.sl.v2719, trip_k0_t1.sl.v2710, trip_k0_t1.sl.r_258, k0_pay310, trip_k0_t1.sl.r_257, k0_pay309, trip_k0_t1.sl.r_256, k0_pay308, k0_pay317, k0_pay56._proof_1, look8, bitOf, laneOf, rowId]

/-- The sum of the sixteen codebooks' entries, for the rows 8 to 15. -/
theorem acc16_1 (arg11 : Memref sig .tc .vmem S64x4096 .f32) (arg14 : Memref sig .tc .vmem S16x4096 .i32)
    (X_arg11 : BufTy.Contents (Elt F) arg11.view.ty) (X_arg14 : BufTy.Contents (Elt F) arg14.view.ty) (k : Fin k0_t1_loop.trips) :
    trip_k0_t1.sl.r_241 arg11 arg14 X_arg11 X_arg14 k = (addf (addf (addf (addf (addf (addf (addf (addf (addf (addf (addf (addf (addf (addf (addf (look2 (rowCode (F := F) (View.readAt (Elt F) arg14.view (Rect.unit (s := S16x4096) (k0_off1 k) S1x128.size (k0_off1_inb k)).toLoadRect X_arg14))
            (View.readAt (Elt F) arg11.view (Rect.unit (s := S64x4096) ![8, 0] S8x128.size inb_S64x4096_S8x128_8_0).toLoadRect X_arg11)
            (View.readAt (Elt F) arg11.view (Rect.unit (s := S64x4096) ![8, 128] S8x128.size inb_S64x4096_S8x128_8_128).toLoadRect X_arg11))
          (look2 (rowCode (F := F) (View.readAt (Elt F) arg14.view (Rect.unit (s := S16x4096) (k0_off2 k) S1x128.size (k0_off2_inb k)).toLoadRect X_arg14))
            (View.readAt (Elt F) arg11.view (Rect.unit (s := S64x4096) ![8, 256] S8x128.size inb_S64x4096_S8x128_8_256).toLoadRect X_arg11)
            (View.readAt (Elt F) arg11.view (Rect.unit (s := S64x4096) ![8, 384] S8x128.size inb_S64x4096_S8x128_8_384).toLoadRect X_arg11)))
          (look2 (rowCode (F := F) (View.readAt (Elt F) arg14.view (Rect.unit (s := S16x4096) (k0_off3 k) S1x128.size (k0_off3_inb k)).toLoadRect X_arg14))
            (View.readAt (Elt F) arg11.view (Rect.unit (s := S64x4096) ![8, 512] S8x128.size inb_S64x4096_S8x128_8_512).toLoadRect X_arg11)
            (View.readAt (Elt F) arg11.view (Rect.unit (s := S64x4096) ![8, 640] S8x128.size inb_S64x4096_S8x128_8_640).toLoadRect X_arg11)))
          (look2 (rowCode (F := F) (View.readAt (Elt F) arg14.view (Rect.unit (s := S16x4096) (k0_off4 k) S1x128.size (k0_off4_inb k)).toLoadRect X_arg14))
            (View.readAt (Elt F) arg11.view (Rect.unit (s := S64x4096) ![8, 768] S8x128.size inb_S64x4096_S8x128_8_768).toLoadRect X_arg11)
            (View.readAt (Elt F) arg11.view (Rect.unit (s := S64x4096) ![8, 896] S8x128.size inb_S64x4096_S8x128_8_896).toLoadRect X_arg11)))
          (look2 (rowCode (F := F) (View.readAt (Elt F) arg14.view (Rect.unit (s := S16x4096) (k0_off5 k) S1x128.size (k0_off5_inb k)).toLoadRect X_arg14))
            (View.readAt (Elt F) arg11.view (Rect.unit (s := S64x4096) ![8, 1024] S8x128.size inb_S64x4096_S8x128_8_1024).toLoadRect X_arg11)
            (View.readAt (Elt F) arg11.view (Rect.unit (s := S64x4096) ![8, 1152] S8x128.size inb_S64x4096_S8x128_8_1152).toLoadRect X_arg11)))
          (look2 (rowCode (F := F) (View.readAt (Elt F) arg14.view (Rect.unit (s := S16x4096) (k0_off6 k) S1x128.size (k0_off6_inb k)).toLoadRect X_arg14))
            (View.readAt (Elt F) arg11.view (Rect.unit (s := S64x4096) ![8, 1280] S8x128.size inb_S64x4096_S8x128_8_1280).toLoadRect X_arg11)
            (View.readAt (Elt F) arg11.view (Rect.unit (s := S64x4096) ![8, 1408] S8x128.size inb_S64x4096_S8x128_8_1408).toLoadRect X_arg11)))
          (look2 (rowCode (F := F) (View.readAt (Elt F) arg14.view (Rect.unit (s := S16x4096) (k0_off7 k) S1x128.size (k0_off7_inb k)).toLoadRect X_arg14))
            (View.readAt (Elt F) arg11.view (Rect.unit (s := S64x4096) ![8, 1536] S8x128.size inb_S64x4096_S8x128_8_1536).toLoadRect X_arg11)
            (View.readAt (Elt F) arg11.view (Rect.unit (s := S64x4096) ![8, 1664] S8x128.size inb_S64x4096_S8x128_8_1664).toLoadRect X_arg11)))
          (look2 (rowCode (F := F) (View.readAt (Elt F) arg14.view (Rect.unit (s := S16x4096) (k0_off8 k) S1x128.size (k0_off8_inb k)).toLoadRect X_arg14))
            (View.readAt (Elt F) arg11.view (Rect.unit (s := S64x4096) ![8, 1792] S8x128.size inb_S64x4096_S8x128_8_1792).toLoadRect X_arg11)
            (View.readAt (Elt F) arg11.view (Rect.unit (s := S64x4096) ![8, 1920] S8x128.size inb_S64x4096_S8x128_8_1920).toLoadRect X_arg11)))
          (look2 (rowCode (F := F) (View.readAt (Elt F) arg14.view (Rect.unit (s := S16x4096) (k0_off9 k) S1x128.size (k0_off9_inb k)).toLoadRect X_arg14))
            (View.readAt (Elt F) arg11.view (Rect.unit (s := S64x4096) ![8, 2048] S8x128.size inb_S64x4096_S8x128_8_2048).toLoadRect X_arg11)
            (View.readAt (Elt F) arg11.view (Rect.unit (s := S64x4096) ![8, 2176] S8x128.size inb_S64x4096_S8x128_8_2176).toLoadRect X_arg11)))
          (look2 (rowCode (F := F) (View.readAt (Elt F) arg14.view (Rect.unit (s := S16x4096) (k0_off10 k) S1x128.size (k0_off10_inb k)).toLoadRect X_arg14))
            (View.readAt (Elt F) arg11.view (Rect.unit (s := S64x4096) ![8, 2304] S8x128.size inb_S64x4096_S8x128_8_2304).toLoadRect X_arg11)
            (View.readAt (Elt F) arg11.view (Rect.unit (s := S64x4096) ![8, 2432] S8x128.size inb_S64x4096_S8x128_8_2432).toLoadRect X_arg11)))
          (look2 (rowCode (F := F) (View.readAt (Elt F) arg14.view (Rect.unit (s := S16x4096) (k0_off11 k) S1x128.size (k0_off11_inb k)).toLoadRect X_arg14))
            (View.readAt (Elt F) arg11.view (Rect.unit (s := S64x4096) ![8, 2560] S8x128.size inb_S64x4096_S8x128_8_2560).toLoadRect X_arg11)
            (View.readAt (Elt F) arg11.view (Rect.unit (s := S64x4096) ![8, 2688] S8x128.size inb_S64x4096_S8x128_8_2688).toLoadRect X_arg11)))
          (look2 (rowCode (F := F) (View.readAt (Elt F) arg14.view (Rect.unit (s := S16x4096) (k0_off12 k) S1x128.size (k0_off12_inb k)).toLoadRect X_arg14))
            (View.readAt (Elt F) arg11.view (Rect.unit (s := S64x4096) ![8, 2816] S8x128.size inb_S64x4096_S8x128_8_2816).toLoadRect X_arg11)
            (View.readAt (Elt F) arg11.view (Rect.unit (s := S64x4096) ![8, 2944] S8x128.size inb_S64x4096_S8x128_8_2944).toLoadRect X_arg11)))
          (look2 (rowCode (F := F) (View.readAt (Elt F) arg14.view (Rect.unit (s := S16x4096) (k0_off13 k) S1x128.size (k0_off13_inb k)).toLoadRect X_arg14))
            (View.readAt (Elt F) arg11.view (Rect.unit (s := S64x4096) ![8, 3072] S8x128.size inb_S64x4096_S8x128_8_3072).toLoadRect X_arg11)
            (View.readAt (Elt F) arg11.view (Rect.unit (s := S64x4096) ![8, 3200] S8x128.size inb_S64x4096_S8x128_8_3200).toLoadRect X_arg11)))
          (look2 (rowCode (F := F) (View.readAt (Elt F) arg14.view (Rect.unit (s := S16x4096) (k0_off14 k) S1x128.size (k0_off14_inb k)).toLoadRect X_arg14))
            (View.readAt (Elt F) arg11.view (Rect.unit (s := S64x4096) ![8, 3328] S8x128.size inb_S64x4096_S8x128_8_3328).toLoadRect X_arg11)
            (View.readAt (Elt F) arg11.view (Rect.unit (s := S64x4096) ![8, 3456] S8x128.size inb_S64x4096_S8x128_8_3456).toLoadRect X_arg11)))
          (look2 (rowCode (F := F) (View.readAt (Elt F) arg14.view (Rect.unit (s := S16x4096) (k0_off15 k) S1x128.size (k0_off15_inb k)).toLoadRect X_arg14))
            (View.readAt (Elt F) arg11.view (Rect.unit (s := S64x4096) ![8, 3584] S8x128.size inb_S64x4096_S8x128_8_3584).toLoadRect X_arg11)
            (View.readAt (Elt F) arg11.view (Rect.unit (s := S64x4096) ![8, 3712] S8x128.size inb_S64x4096_S8x128_8_3712).toLoadRect X_arg11)))
          (look2 (rowCode (F := F) (View.readAt (Elt F) arg14.view (Rect.unit (s := S16x4096) (k0_off16 k) S1x128.size (k0_off16_inb k)).toLoadRect X_arg14))
            (View.readAt (Elt F) arg11.view (Rect.unit (s := S64x4096) ![8, 3840] S8x128.size inb_S64x4096_S8x128_8_3840).toLoadRect X_arg11)
            (View.readAt (Elt F) arg11.view (Rect.unit (s := S64x4096) ![8, 3968] S8x128.size inb_S64x4096_S8x128_8_3968).toLoadRect X_arg11))) := rfl

/-- The accumulator with the centroid's entry added, for the rows 8 to 15. -/
theorem acc17_1 (arg7 : Memref sig .tc .vmem S1x4096 .i32) (arg11 : Memref sig .tc .vmem S64x4096 .f32) (arg12 : Memref sig .tc .vmem S64x1024 .f32) (arg14 : Memref sig .tc .vmem S16x4096 .i32)
    (X_arg7 : BufTy.Contents (Elt F) arg7.view.ty) (X_arg11 : BufTy.Contents (Elt F) arg11.view.ty) (X_arg12 : BufTy.Contents (Elt F) arg12.view.ty) (X_arg14 : BufTy.Contents (Elt F) arg14.view.ty) (k : Fin k0_t1_loop.trips) :
    trip_k0_t1.sl.r_262 arg7 arg11 arg12 arg14 X_arg7 X_arg11 X_arg12 X_arg14 k = addf (trip_k0_t1.sl.r_241 arg11 arg14 X_arg11 X_arg14 k) (look8 (rowId (F := F) (View.readAt (Elt F) arg7.view (Rect.unit (s := S1x4096) (k0_off17 k) S1x128.size (k0_off17_inb k)).toLoadRect X_arg7))
            (View.readAt (Elt F) arg12.view (Rect.unit (s := S64x1024) ![8, 0] S8x128.size inb_S64x1024_S8x128_8_0).toLoadRect X_arg12)
            (View.readAt (Elt F) arg12.view (Rect.unit (s := S64x1024) ![8, 128] S8x128.size inb_S64x1024_S8x128_8_128).toLoadRect X_arg12)
            (View.readAt (Elt F) arg12.view (Rect.unit (s := S64x1024) ![8, 256] S8x128.size inb_S64x1024_S8x128_8_256).toLoadRect X_arg12)
            (View.readAt (Elt F) arg12.view (Rect.unit (s := S64x1024) ![8, 384] S8x128.size inb_S64x1024_S8x128_8_384).toLoadRect X_arg12)
            (View.readAt (Elt F) arg12.view (Rect.unit (s := S64x1024) ![8, 512] S8x128.size inb_S64x1024_S8x128_8_512).toLoadRect X_arg12)
            (View.readAt (Elt F) arg12.view (Rect.unit (s := S64x1024) ![8, 640] S8x128.size inb_S64x1024_S8x128_8_640).toLoadRect X_arg12)
            (View.readAt (Elt F) arg12.view (Rect.unit (s := S64x1024) ![8, 768] S8x128.size inb_S64x1024_S8x128_8_768).toLoadRect X_arg12)
            (View.readAt (Elt F) arg12.view (Rect.unit (s := S64x1024) ![8, 896] S8x128.size inb_S64x1024_S8x128_8_896).toLoadRect X_arg12)) := by
  dsimp only [trip_k0_t1.sl.r_262, trip_k0_t1.sl.v2835, trip_k0_t1.sl.v2718, trip_k0_t1.sl.v2717, trip_k0_t1.sl.v2716, trip_k0_t1.sl.r_255, k0_pay307, k0_pay306, trip_k0_t1.sl.v2715, trip_k0_t1.sl.v18, trip_k0_t1.sl.v2713, trip_k0_t1.sl.v21, trip_k0_t1.sl.v2826, trip_k0_t1.sl.v2817, trip_k0_t1.sl.v2808, trip_k0_t1.sl.v2799, trip_k0_t1.sl.v2798, trip_k0_t1.sl.v2797, trip_k0_t1.sl.v2796, trip_k0_t1.sl.v2793, k0_pay318, trip_k0_t1.sl.r_261, trip_k0_t1.sl.v2710, trip_k0_t1.sl.r_258, k0_pay310, trip_k0_t1.sl.r_257, k0_pay309, trip_k0_t1.sl.r_256, k0_pay308, k0_pay324, k0_pay56._proof_1, look8, bitOf, laneOf, rowId]

/-- The sum of the sixteen codebooks' entries, for the rows 16 to 23. -/
theorem acc16_2 (arg11 : Memref sig .tc .vmem S64x4096 .f32) (arg14 : Memref sig .tc .vmem S16x4096 .i32)
    (X_arg11 : BufTy.Contents (Elt F) arg11.view.ty) (X_arg14 : BufTy.Contents (Elt F) arg14.view.ty) (k : Fin k0_t1_loop.trips) :
    trip_k0_t1.sl.r_244 arg11 arg14 X_arg11 X_arg14 k = (addf (addf (addf (addf (addf (addf (addf (addf (addf (addf (addf (addf (addf (addf (addf (look2 (rowCode (F := F) (View.readAt (Elt F) arg14.view (Rect.unit (s := S16x4096) (k0_off1 k) S1x128.size (k0_off1_inb k)).toLoadRect X_arg14))
            (View.readAt (Elt F) arg11.view (Rect.unit (s := S64x4096) ![16, 0] S8x128.size inb_S64x4096_S8x128_16_0).toLoadRect X_arg11)
            (View.readAt (Elt F) arg11.view (Rect.unit (s := S64x4096) ![16, 128] S8x128.size inb_S64x4096_S8x128_16_128).toLoadRect X_arg11))
          (look2 (rowCode (F := F) (View.readAt (Elt F) arg14.view (Rect.unit (s := S16x4096) (k0_off2 k) S1x128.size (k0_off2_inb k)).toLoadRect X_arg14))
            (View.readAt (Elt F) arg11.view (Rect.unit (s := S64x4096) ![16, 256] S8x128.size inb_S64x4096_S8x128_16_256).toLoadRect X_arg11)
            (View.readAt (Elt F) arg11.view (Rect.unit (s := S64x4096) ![16, 384] S8x128.size inb_S64x4096_S8x128_16_384).toLoadRect X_arg11)))
          (look2 (rowCode (F := F) (View.readAt (Elt F) arg14.view (Rect.unit (s := S16x4096) (k0_off3 k) S1x128.size (k0_off3_inb k)).toLoadRect X_arg14))
            (View.readAt (Elt F) arg11.view (Rect.unit (s := S64x4096) ![16, 512] S8x128.size inb_S64x4096_S8x128_16_512).toLoadRect X_arg11)
            (View.readAt (Elt F) arg11.view (Rect.unit (s := S64x4096) ![16, 640] S8x128.size inb_S64x4096_S8x128_16_640).toLoadRect X_arg11)))
          (look2 (rowCode (F := F) (View.readAt (Elt F) arg14.view (Rect.unit (s := S16x4096) (k0_off4 k) S1x128.size (k0_off4_inb k)).toLoadRect X_arg14))
            (View.readAt (Elt F) arg11.view (Rect.unit (s := S64x4096) ![16, 768] S8x128.size inb_S64x4096_S8x128_16_768).toLoadRect X_arg11)
            (View.readAt (Elt F) arg11.view (Rect.unit (s := S64x4096) ![16, 896] S8x128.size inb_S64x4096_S8x128_16_896).toLoadRect X_arg11)))
          (look2 (rowCode (F := F) (View.readAt (Elt F) arg14.view (Rect.unit (s := S16x4096) (k0_off5 k) S1x128.size (k0_off5_inb k)).toLoadRect X_arg14))
            (View.readAt (Elt F) arg11.view (Rect.unit (s := S64x4096) ![16, 1024] S8x128.size inb_S64x4096_S8x128_16_1024).toLoadRect X_arg11)
            (View.readAt (Elt F) arg11.view (Rect.unit (s := S64x4096) ![16, 1152] S8x128.size inb_S64x4096_S8x128_16_1152).toLoadRect X_arg11)))
          (look2 (rowCode (F := F) (View.readAt (Elt F) arg14.view (Rect.unit (s := S16x4096) (k0_off6 k) S1x128.size (k0_off6_inb k)).toLoadRect X_arg14))
            (View.readAt (Elt F) arg11.view (Rect.unit (s := S64x4096) ![16, 1280] S8x128.size inb_S64x4096_S8x128_16_1280).toLoadRect X_arg11)
            (View.readAt (Elt F) arg11.view (Rect.unit (s := S64x4096) ![16, 1408] S8x128.size inb_S64x4096_S8x128_16_1408).toLoadRect X_arg11)))
          (look2 (rowCode (F := F) (View.readAt (Elt F) arg14.view (Rect.unit (s := S16x4096) (k0_off7 k) S1x128.size (k0_off7_inb k)).toLoadRect X_arg14))
            (View.readAt (Elt F) arg11.view (Rect.unit (s := S64x4096) ![16, 1536] S8x128.size inb_S64x4096_S8x128_16_1536).toLoadRect X_arg11)
            (View.readAt (Elt F) arg11.view (Rect.unit (s := S64x4096) ![16, 1664] S8x128.size inb_S64x4096_S8x128_16_1664).toLoadRect X_arg11)))
          (look2 (rowCode (F := F) (View.readAt (Elt F) arg14.view (Rect.unit (s := S16x4096) (k0_off8 k) S1x128.size (k0_off8_inb k)).toLoadRect X_arg14))
            (View.readAt (Elt F) arg11.view (Rect.unit (s := S64x4096) ![16, 1792] S8x128.size inb_S64x4096_S8x128_16_1792).toLoadRect X_arg11)
            (View.readAt (Elt F) arg11.view (Rect.unit (s := S64x4096) ![16, 1920] S8x128.size inb_S64x4096_S8x128_16_1920).toLoadRect X_arg11)))
          (look2 (rowCode (F := F) (View.readAt (Elt F) arg14.view (Rect.unit (s := S16x4096) (k0_off9 k) S1x128.size (k0_off9_inb k)).toLoadRect X_arg14))
            (View.readAt (Elt F) arg11.view (Rect.unit (s := S64x4096) ![16, 2048] S8x128.size inb_S64x4096_S8x128_16_2048).toLoadRect X_arg11)
            (View.readAt (Elt F) arg11.view (Rect.unit (s := S64x4096) ![16, 2176] S8x128.size inb_S64x4096_S8x128_16_2176).toLoadRect X_arg11)))
          (look2 (rowCode (F := F) (View.readAt (Elt F) arg14.view (Rect.unit (s := S16x4096) (k0_off10 k) S1x128.size (k0_off10_inb k)).toLoadRect X_arg14))
            (View.readAt (Elt F) arg11.view (Rect.unit (s := S64x4096) ![16, 2304] S8x128.size inb_S64x4096_S8x128_16_2304).toLoadRect X_arg11)
            (View.readAt (Elt F) arg11.view (Rect.unit (s := S64x4096) ![16, 2432] S8x128.size inb_S64x4096_S8x128_16_2432).toLoadRect X_arg11)))
          (look2 (rowCode (F := F) (View.readAt (Elt F) arg14.view (Rect.unit (s := S16x4096) (k0_off11 k) S1x128.size (k0_off11_inb k)).toLoadRect X_arg14))
            (View.readAt (Elt F) arg11.view (Rect.unit (s := S64x4096) ![16, 2560] S8x128.size inb_S64x4096_S8x128_16_2560).toLoadRect X_arg11)
            (View.readAt (Elt F) arg11.view (Rect.unit (s := S64x4096) ![16, 2688] S8x128.size inb_S64x4096_S8x128_16_2688).toLoadRect X_arg11)))
          (look2 (rowCode (F := F) (View.readAt (Elt F) arg14.view (Rect.unit (s := S16x4096) (k0_off12 k) S1x128.size (k0_off12_inb k)).toLoadRect X_arg14))
            (View.readAt (Elt F) arg11.view (Rect.unit (s := S64x4096) ![16, 2816] S8x128.size inb_S64x4096_S8x128_16_2816).toLoadRect X_arg11)
            (View.readAt (Elt F) arg11.view (Rect.unit (s := S64x4096) ![16, 2944] S8x128.size inb_S64x4096_S8x128_16_2944).toLoadRect X_arg11)))
          (look2 (rowCode (F := F) (View.readAt (Elt F) arg14.view (Rect.unit (s := S16x4096) (k0_off13 k) S1x128.size (k0_off13_inb k)).toLoadRect X_arg14))
            (View.readAt (Elt F) arg11.view (Rect.unit (s := S64x4096) ![16, 3072] S8x128.size inb_S64x4096_S8x128_16_3072).toLoadRect X_arg11)
            (View.readAt (Elt F) arg11.view (Rect.unit (s := S64x4096) ![16, 3200] S8x128.size inb_S64x4096_S8x128_16_3200).toLoadRect X_arg11)))
          (look2 (rowCode (F := F) (View.readAt (Elt F) arg14.view (Rect.unit (s := S16x4096) (k0_off14 k) S1x128.size (k0_off14_inb k)).toLoadRect X_arg14))
            (View.readAt (Elt F) arg11.view (Rect.unit (s := S64x4096) ![16, 3328] S8x128.size inb_S64x4096_S8x128_16_3328).toLoadRect X_arg11)
            (View.readAt (Elt F) arg11.view (Rect.unit (s := S64x4096) ![16, 3456] S8x128.size inb_S64x4096_S8x128_16_3456).toLoadRect X_arg11)))
          (look2 (rowCode (F := F) (View.readAt (Elt F) arg14.view (Rect.unit (s := S16x4096) (k0_off15 k) S1x128.size (k0_off15_inb k)).toLoadRect X_arg14))
            (View.readAt (Elt F) arg11.view (Rect.unit (s := S64x4096) ![16, 3584] S8x128.size inb_S64x4096_S8x128_16_3584).toLoadRect X_arg11)
            (View.readAt (Elt F) arg11.view (Rect.unit (s := S64x4096) ![16, 3712] S8x128.size inb_S64x4096_S8x128_16_3712).toLoadRect X_arg11)))
          (look2 (rowCode (F := F) (View.readAt (Elt F) arg14.view (Rect.unit (s := S16x4096) (k0_off16 k) S1x128.size (k0_off16_inb k)).toLoadRect X_arg14))
            (View.readAt (Elt F) arg11.view (Rect.unit (s := S64x4096) ![16, 3840] S8x128.size inb_S64x4096_S8x128_16_3840).toLoadRect X_arg11)
            (View.readAt (Elt F) arg11.view (Rect.unit (s := S64x4096) ![16, 3968] S8x128.size inb_S64x4096_S8x128_16_3968).toLoadRect X_arg11))) := rfl

/-- The accumulator with the centroid's entry added, for the rows 16 to 23. -/
theorem acc17_2 (arg7 : Memref sig .tc .vmem S1x4096 .i32) (arg11 : Memref sig .tc .vmem S64x4096 .f32) (arg12 : Memref sig .tc .vmem S64x1024 .f32) (arg14 : Memref sig .tc .vmem S16x4096 .i32)
    (X_arg7 : BufTy.Contents (Elt F) arg7.view.ty) (X_arg11 : BufTy.Contents (Elt F) arg11.view.ty) (X_arg12 : BufTy.Contents (Elt F) arg12.view.ty) (X_arg14 : BufTy.Contents (Elt F) arg14.view.ty) (k : Fin k0_t1_loop.trips) :
    trip_k0_t1.sl.r_265 arg7 arg11 arg12 arg14 X_arg7 X_arg11 X_arg12 X_arg14 k = addf (trip_k0_t1.sl.r_244 arg11 arg14 X_arg11 X_arg14 k) (look8 (rowId (F := F) (View.readAt (Elt F) arg7.view (Rect.unit (s := S1x4096) (k0_off17 k) S1x128.size (k0_off17_inb k)).toLoadRect X_arg7))
            (View.readAt (Elt F) arg12.view (Rect.unit (s := S64x1024) ![16, 0] S8x128.size inb_S64x1024_S8x128_16_0).toLoadRect X_arg12)
            (View.readAt (Elt F) arg12.view (Rect.unit (s := S64x1024) ![16, 128] S8x128.size inb_S64x1024_S8x128_16_128).toLoadRect X_arg12)
            (View.readAt (Elt F) arg12.view (Rect.unit (s := S64x1024) ![16, 256] S8x128.size inb_S64x1024_S8x128_16_256).toLoadRect X_arg12)
            (View.readAt (Elt F) arg12.view (Rect.unit (s := S64x1024) ![16, 384] S8x128.size inb_S64x1024_S8x128_16_384).toLoadRect X_arg12)
            (View.readAt (Elt F) arg12.view (Rect.unit (s := S64x1024) ![16, 512] S8x128.size inb_S64x1024_S8x128_16_512).toLoadRect X_arg12)
            (View.readAt (Elt F) arg12.view (Rect.unit (s := S64x1024) ![16, 640] S8x128.size inb_S64x1024_S8x128_16_640).toLoadRect X_arg12)
            (View.readAt (Elt F) arg12.view (Rect.unit (s := S64x1024) ![16, 768] S8x128.size inb_S64x1024_S8x128_16_768).toLoadRect X_arg12)
            (View.readAt (Elt F) arg12.view (Rect.unit (s := S64x1024) ![16, 896] S8x128.size inb_S64x1024_S8x128_16_896).toLoadRect X_arg12)) := by
  dsimp only [trip_k0_t1.sl.r_265, trip_k0_t1.sl.v18, trip_k0_t1.sl.v2713, trip_k0_t1.sl.v21, trip_k0_t1.sl.r_255, k0_pay307, k0_pay306, trip_k0_t1.sl.r_264, trip_k0_t1.sl.v2915, trip_k0_t1.sl.v2718, trip_k0_t1.sl.v2717, trip_k0_t1.sl.v2716, trip_k0_t1.sl.v2715, trip_k0_t1.sl.v2906, trip_k0_t1.sl.v2897, trip_k0_t1.sl.v2888, trip_k0_t1.sl.r_263, k0_pay325, k0_pay56._proof_1, trip_k0_t1.sl.v2710, trip_k0_t1.sl.r_258, k0_pay310, trip_k0_t1.sl.r_257, k0_pay309, trip_k0_t1.sl.r_256, k0_pay308, k0_pay332, look8, bitOf, laneOf, rowId]

/-- The sum of the sixteen codebooks' entries, for the rows 24 to 31. -/
theorem acc16_3 (arg11 : Memref sig .tc .vmem S64x4096 .f32) (arg14 : Memref sig .tc .vmem S16x4096 .i32)
    (X_arg11 : BufTy.Contents (Elt F) arg11.view.ty) (X_arg14 : BufTy.Contents (Elt F) arg14.view.ty) (k : Fin k0_t1_loop.trips) :
    trip_k0_t1.sl.r_245 arg11 arg14 X_arg11 X_arg14 k = (addf (addf (addf (addf (addf (addf (addf (addf (addf (addf (addf (addf (addf (addf (addf (look2 (rowCode (F := F) (View.readAt (Elt F) arg14.view (Rect.unit (s := S16x4096) (k0_off1 k) S1x128.size (k0_off1_inb k)).toLoadRect X_arg14))
            (View.readAt (Elt F) arg11.view (Rect.unit (s := S64x4096) ![24, 0] S8x128.size inb_S64x4096_S8x128_24_0).toLoadRect X_arg11)
            (View.readAt (Elt F) arg11.view (Rect.unit (s := S64x4096) ![24, 128] S8x128.size inb_S64x4096_S8x128_24_128).toLoadRect X_arg11))
          (look2 (rowCode (F := F) (View.readAt (Elt F) arg14.view (Rect.unit (s := S16x4096) (k0_off2 k) S1x128.size (k0_off2_inb k)).toLoadRect X_arg14))
            (View.readAt (Elt F) arg11.view (Rect.unit (s := S64x4096) ![24, 256] S8x128.size inb_S64x4096_S8x128_24_256).toLoadRect X_arg11)
            (View.readAt (Elt F) arg11.view (Rect.unit (s := S64x4096) ![24, 384] S8x128.size inb_S64x4096_S8x128_24_384).toLoadRect X_arg11)))
          (look2 (rowCode (F := F) (View.readAt (Elt F) arg14.view (Rect.unit (s := S16x4096) (k0_off3 k) S1x128.size (k0_off3_inb k)).toLoadRect X_arg14))
            (View.readAt (Elt F) arg11.view (Rect.unit (s := S64x4096) ![24, 512] S8x128.size inb_S64x4096_S8x128_24_512).toLoadRect X_arg11)
            (View.readAt (Elt F) arg11.view (Rect.unit (s := S64x4096) ![24, 640] S8x128.size inb_S64x4096_S8x128_24_640).toLoadRect X_arg11)))
          (look2 (rowCode (F := F) (View.readAt (Elt F) arg14.view (Rect.unit (s := S16x4096) (k0_off4 k) S1x128.size (k0_off4_inb k)).toLoadRect X_arg14))
            (View.readAt (Elt F) arg11.view (Rect.unit (s := S64x4096) ![24, 768] S8x128.size inb_S64x4096_S8x128_24_768).toLoadRect X_arg11)
            (View.readAt (Elt F) arg11.view (Rect.unit (s := S64x4096) ![24, 896] S8x128.size inb_S64x4096_S8x128_24_896).toLoadRect X_arg11)))
          (look2 (rowCode (F := F) (View.readAt (Elt F) arg14.view (Rect.unit (s := S16x4096) (k0_off5 k) S1x128.size (k0_off5_inb k)).toLoadRect X_arg14))
            (View.readAt (Elt F) arg11.view (Rect.unit (s := S64x4096) ![24, 1024] S8x128.size inb_S64x4096_S8x128_24_1024).toLoadRect X_arg11)
            (View.readAt (Elt F) arg11.view (Rect.unit (s := S64x4096) ![24, 1152] S8x128.size inb_S64x4096_S8x128_24_1152).toLoadRect X_arg11)))
          (look2 (rowCode (F := F) (View.readAt (Elt F) arg14.view (Rect.unit (s := S16x4096) (k0_off6 k) S1x128.size (k0_off6_inb k)).toLoadRect X_arg14))
            (View.readAt (Elt F) arg11.view (Rect.unit (s := S64x4096) ![24, 1280] S8x128.size inb_S64x4096_S8x128_24_1280).toLoadRect X_arg11)
            (View.readAt (Elt F) arg11.view (Rect.unit (s := S64x4096) ![24, 1408] S8x128.size inb_S64x4096_S8x128_24_1408).toLoadRect X_arg11)))
          (look2 (rowCode (F := F) (View.readAt (Elt F) arg14.view (Rect.unit (s := S16x4096) (k0_off7 k) S1x128.size (k0_off7_inb k)).toLoadRect X_arg14))
            (View.readAt (Elt F) arg11.view (Rect.unit (s := S64x4096) ![24, 1536] S8x128.size inb_S64x4096_S8x128_24_1536).toLoadRect X_arg11)
            (View.readAt (Elt F) arg11.view (Rect.unit (s := S64x4096) ![24, 1664] S8x128.size inb_S64x4096_S8x128_24_1664).toLoadRect X_arg11)))
          (look2 (rowCode (F := F) (View.readAt (Elt F) arg14.view (Rect.unit (s := S16x4096) (k0_off8 k) S1x128.size (k0_off8_inb k)).toLoadRect X_arg14))
            (View.readAt (Elt F) arg11.view (Rect.unit (s := S64x4096) ![24, 1792] S8x128.size inb_S64x4096_S8x128_24_1792).toLoadRect X_arg11)
            (View.readAt (Elt F) arg11.view (Rect.unit (s := S64x4096) ![24, 1920] S8x128.size inb_S64x4096_S8x128_24_1920).toLoadRect X_arg11)))
          (look2 (rowCode (F := F) (View.readAt (Elt F) arg14.view (Rect.unit (s := S16x4096) (k0_off9 k) S1x128.size (k0_off9_inb k)).toLoadRect X_arg14))
            (View.readAt (Elt F) arg11.view (Rect.unit (s := S64x4096) ![24, 2048] S8x128.size inb_S64x4096_S8x128_24_2048).toLoadRect X_arg11)
            (View.readAt (Elt F) arg11.view (Rect.unit (s := S64x4096) ![24, 2176] S8x128.size inb_S64x4096_S8x128_24_2176).toLoadRect X_arg11)))
          (look2 (rowCode (F := F) (View.readAt (Elt F) arg14.view (Rect.unit (s := S16x4096) (k0_off10 k) S1x128.size (k0_off10_inb k)).toLoadRect X_arg14))
            (View.readAt (Elt F) arg11.view (Rect.unit (s := S64x4096) ![24, 2304] S8x128.size inb_S64x4096_S8x128_24_2304).toLoadRect X_arg11)
            (View.readAt (Elt F) arg11.view (Rect.unit (s := S64x4096) ![24, 2432] S8x128.size inb_S64x4096_S8x128_24_2432).toLoadRect X_arg11)))
          (look2 (rowCode (F := F) (View.readAt (Elt F) arg14.view (Rect.unit (s := S16x4096) (k0_off11 k) S1x128.size (k0_off11_inb k)).toLoadRect X_arg14))
            (View.readAt (Elt F) arg11.view (Rect.unit (s := S64x4096) ![24, 2560] S8x128.size inb_S64x4096_S8x128_24_2560).toLoadRect X_arg11)
            (View.readAt (Elt F) arg11.view (Rect.unit (s := S64x4096) ![24, 2688] S8x128.size inb_S64x4096_S8x128_24_2688).toLoadRect X_arg11)))
          (look2 (rowCode (F := F) (View.readAt (Elt F) arg14.view (Rect.unit (s := S16x4096) (k0_off12 k) S1x128.size (k0_off12_inb k)).toLoadRect X_arg14))
            (View.readAt (Elt F) arg11.view (Rect.unit (s := S64x4096) ![24, 2816] S8x128.size inb_S64x4096_S8x128_24_2816).toLoadRect X_arg11)
            (View.readAt (Elt F) arg11.view (Rect.unit (s := S64x4096) ![24, 2944] S8x128.size inb_S64x4096_S8x128_24_2944).toLoadRect X_arg11)))
          (look2 (rowCode (F := F) (View.readAt (Elt F) arg14.view (Rect.unit (s := S16x4096) (k0_off13 k) S1x128.size (k0_off13_inb k)).toLoadRect X_arg14))
            (View.readAt (Elt F) arg11.view (Rect.unit (s := S64x4096) ![24, 3072] S8x128.size inb_S64x4096_S8x128_24_3072).toLoadRect X_arg11)
            (View.readAt (Elt F) arg11.view (Rect.unit (s := S64x4096) ![24, 3200] S8x128.size inb_S64x4096_S8x128_24_3200).toLoadRect X_arg11)))
          (look2 (rowCode (F := F) (View.readAt (Elt F) arg14.view (Rect.unit (s := S16x4096) (k0_off14 k) S1x128.size (k0_off14_inb k)).toLoadRect X_arg14))
            (View.readAt (Elt F) arg11.view (Rect.unit (s := S64x4096) ![24, 3328] S8x128.size inb_S64x4096_S8x128_24_3328).toLoadRect X_arg11)
            (View.readAt (Elt F) arg11.view (Rect.unit (s := S64x4096) ![24, 3456] S8x128.size inb_S64x4096_S8x128_24_3456).toLoadRect X_arg11)))
          (look2 (rowCode (F := F) (View.readAt (Elt F) arg14.view (Rect.unit (s := S16x4096) (k0_off15 k) S1x128.size (k0_off15_inb k)).toLoadRect X_arg14))
            (View.readAt (Elt F) arg11.view (Rect.unit (s := S64x4096) ![24, 3584] S8x128.size inb_S64x4096_S8x128_24_3584).toLoadRect X_arg11)
            (View.readAt (Elt F) arg11.view (Rect.unit (s := S64x4096) ![24, 3712] S8x128.size inb_S64x4096_S8x128_24_3712).toLoadRect X_arg11)))
          (look2 (rowCode (F := F) (View.readAt (Elt F) arg14.view (Rect.unit (s := S16x4096) (k0_off16 k) S1x128.size (k0_off16_inb k)).toLoadRect X_arg14))
            (View.readAt (Elt F) arg11.view (Rect.unit (s := S64x4096) ![24, 3840] S8x128.size inb_S64x4096_S8x128_24_3840).toLoadRect X_arg11)
            (View.readAt (Elt F) arg11.view (Rect.unit (s := S64x4096) ![24, 3968] S8x128.size inb_S64x4096_S8x128_24_3968).toLoadRect X_arg11))) := rfl

/-- The accumulator with the centroid's entry added, for the rows 24 to 31. -/
theorem acc17_3 (arg7 : Memref sig .tc .vmem S1x4096 .i32) (arg11 : Memref sig .tc .vmem S64x4096 .f32) (arg12 : Memref sig .tc .vmem S64x1024 .f32) (arg14 : Memref sig .tc .vmem S16x4096 .i32)
    (X_arg7 : BufTy.Contents (Elt F) arg7.view.ty) (X_arg11 : BufTy.Contents (Elt F) arg11.view.ty) (X_arg12 : BufTy.Contents (Elt F) arg12.view.ty) (X_arg14 : BufTy.Contents (Elt F) arg14.view.ty) (k : Fin k0_t1_loop.trips) :
    trip_k0_t1.sl.r_270 arg7 arg11 arg12 arg14 X_arg7 X_arg11 X_arg12 X_arg14 k = addf (trip_k0_t1.sl.r_245 arg11 arg14 X_arg11 X_arg14 k) (look8 (rowId (F := F) (View.readAt (Elt F) arg7.view (Rect.unit (s := S1x4096) (k0_off17 k) S1x128.size (k0_off17_inb k)).toLoadRect X_arg7))
            (View.readAt (Elt F) arg12.view (Rect.unit (s := S64x1024) ![24, 0] S8x128.size inb_S64x1024_S8x128_24_0).toLoadRect X_arg12)
            (View.readAt (Elt F) arg12.view (Rect.unit (s := S64x1024) ![24, 128] S8x128.size inb_S64x1024_S8x128_24_128).toLoadRect X_arg12)
            (View.readAt (Elt F) arg12.view (Rect.unit (s := S64x1024) ![24, 256] S8x128.size inb_S64x1024_S8x128_24_256).toLoadRect X_arg12)
            (View.readAt (Elt F) arg12.view (Rect.unit (s := S64x1024) ![24, 384] S8x128.size inb_S64x1024_S8x128_24_384).toLoadRect X_arg12)
            (View.readAt (Elt F) arg12.view (Rect.unit (s := S64x1024) ![24, 512] S8x128.size inb_S64x1024_S8x128_24_512).toLoadRect X_arg12)
            (View.readAt (Elt F) arg12.view (Rect.unit (s := S64x1024) ![24, 640] S8x128.size inb_S64x1024_S8x128_24_640).toLoadRect X_arg12)
            (View.readAt (Elt F) arg12.view (Rect.unit (s := S64x1024) ![24, 768] S8x128.size inb_S64x1024_S8x128_24_768).toLoadRect X_arg12)
            (View.readAt (Elt F) arg12.view (Rect.unit (s := S64x1024) ![24, 896] S8x128.size inb_S64x1024_S8x128_24_896).toLoadRect X_arg12)) := by
  dsimp only [trip_k0_t1.sl.r_270, trip_k0_t1.sl.r_269, trip_k0_t1.sl.v3004, trip_k0_t1.sl.v2718, trip_k0_t1.sl.v2717, trip_k0_t1.sl.v2716, trip_k0_t1.sl.r_255, k0_pay307, k0_pay306, trip_k0_t1.sl.v2715, trip_k0_t1.sl.v18, trip_k0_t1.sl.v2713, trip_k0_t1.sl.v21, trip_k0_t1.sl.v2995, trip_k0_t1.sl.v2986, trip_k0_t1.sl.v2977, trip_k0_t1.sl.v2968, trip_k0_t1.sl.v2967, trip_k0_t1.sl.v2966, trip_k0_t1.sl.v2965, trip_k0_t1.sl.v2964, k0_pay335, trip_k0_t1.sl.r_268, k0_pay334, trip_k0_t1.sl.r_267, trip_k0_t1.sl.r_266, k0_pay333, k0_pay56._proof_1, trip_k0_t1.sl.v2710, trip_k0_t1.sl.r_258, k0_pay310, trip_k0_t1.sl.r_257, k0_pay309, trip_k0_t1.sl.r_256, k0_pay308, k0_pay341, look8, bitOf, laneOf, rowId]

/-- The sum of the sixteen codebooks' entries, for the rows 32 to 39. -/
theorem acc16_4 (arg11 : Memref sig .tc .vmem S64x4096 .f32) (arg14 : Memref sig .tc .vmem S16x4096 .i32)
    (X_arg11 : BufTy.Contents (Elt F) arg11.view.ty) (X_arg14 : BufTy.Contents (Elt F) arg14.view.ty) (k : Fin k0_t1_loop.trips) :
    trip_k0_t1.sl.r_248 arg11 arg14 X_arg11 X_arg14 k = (addf (addf (addf (addf (addf (addf (addf (addf (addf (addf (addf (addf (addf (addf (addf (look2 (rowCode (F := F) (View.readAt (Elt F) arg14.view (Rect.unit (s := S16x4096) (k0_off1 k) S1x128.size (k0_off1_inb k)).toLoadRect X_arg14))
            (View.readAt (Elt F) arg11.view (Rect.unit (s := S64x4096) ![32, 0] S8x128.size inb_S64x4096_S8x128_32_0).toLoadRect X_arg11)
            (View.readAt (Elt F) arg11.view (Rect.unit (s := S64x4096) ![32, 128] S8x128.size inb_S64x4096_S8x128_32_128).toLoadRect X_arg11))
          (look2 (rowCode (F := F) (View.readAt (Elt F) arg14.view (Rect.unit (s := S16x4096) (k0_off2 k) S1x128.size (k0_off2_inb k)).toLoadRect X_arg14))
            (View.readAt (Elt F) arg11.view (Rect.unit (s := S64x4096) ![32, 256] S8x128.size inb_S64x4096_S8x128_32_256).toLoadRect X_arg11)
            (View.readAt (Elt F) arg11.view (Rect.unit (s := S64x4096) ![32, 384] S8x128.size inb_S64x4096_S8x128_32_384).toLoadRect X_arg11)))
          (look2 (rowCode (F := F) (View.readAt (Elt F) arg14.view (Rect.unit (s := S16x4096) (k0_off3 k) S1x128.size (k0_off3_inb k)).toLoadRect X_arg14))
            (View.readAt (Elt F) arg11.view (Rect.unit (s := S64x4096) ![32, 512] S8x128.size inb_S64x4096_S8x128_32_512).toLoadRect X_arg11)
            (View.readAt (Elt F) arg11.view (Rect.unit (s := S64x4096) ![32, 640] S8x128.size inb_S64x4096_S8x128_32_640).toLoadRect X_arg11)))
          (look2 (rowCode (F := F) (View.readAt (Elt F) arg14.view (Rect.unit (s := S16x4096) (k0_off4 k) S1x128.size (k0_off4_inb k)).toLoadRect X_arg14))
            (View.readAt (Elt F) arg11.view (Rect.unit (s := S64x4096) ![32, 768] S8x128.size inb_S64x4096_S8x128_32_768).toLoadRect X_arg11)
            (View.readAt (Elt F) arg11.view (Rect.unit (s := S64x4096) ![32, 896] S8x128.size inb_S64x4096_S8x128_32_896).toLoadRect X_arg11)))
          (look2 (rowCode (F := F) (View.readAt (Elt F) arg14.view (Rect.unit (s := S16x4096) (k0_off5 k) S1x128.size (k0_off5_inb k)).toLoadRect X_arg14))
            (View.readAt (Elt F) arg11.view (Rect.unit (s := S64x4096) ![32, 1024] S8x128.size inb_S64x4096_S8x128_32_1024).toLoadRect X_arg11)
            (View.readAt (Elt F) arg11.view (Rect.unit (s := S64x4096) ![32, 1152] S8x128.size inb_S64x4096_S8x128_32_1152).toLoadRect X_arg11)))
          (look2 (rowCode (F := F) (View.readAt (Elt F) arg14.view (Rect.unit (s := S16x4096) (k0_off6 k) S1x128.size (k0_off6_inb k)).toLoadRect X_arg14))
            (View.readAt (Elt F) arg11.view (Rect.unit (s := S64x4096) ![32, 1280] S8x128.size inb_S64x4096_S8x128_32_1280).toLoadRect X_arg11)
            (View.readAt (Elt F) arg11.view (Rect.unit (s := S64x4096) ![32, 1408] S8x128.size inb_S64x4096_S8x128_32_1408).toLoadRect X_arg11)))
          (look2 (rowCode (F := F) (View.readAt (Elt F) arg14.view (Rect.unit (s := S16x4096) (k0_off7 k) S1x128.size (k0_off7_inb k)).toLoadRect X_arg14))
            (View.readAt (Elt F) arg11.view (Rect.unit (s := S64x4096) ![32, 1536] S8x128.size inb_S64x4096_S8x128_32_1536).toLoadRect X_arg11)
            (View.readAt (Elt F) arg11.view (Rect.unit (s := S64x4096) ![32, 1664] S8x128.size inb_S64x4096_S8x128_32_1664).toLoadRect X_arg11)))
          (look2 (rowCode (F := F) (View.readAt (Elt F) arg14.view (Rect.unit (s := S16x4096) (k0_off8 k) S1x128.size (k0_off8_inb k)).toLoadRect X_arg14))
            (View.readAt (Elt F) arg11.view (Rect.unit (s := S64x4096) ![32, 1792] S8x128.size inb_S64x4096_S8x128_32_1792).toLoadRect X_arg11)
            (View.readAt (Elt F) arg11.view (Rect.unit (s := S64x4096) ![32, 1920] S8x128.size inb_S64x4096_S8x128_32_1920).toLoadRect X_arg11)))
          (look2 (rowCode (F := F) (View.readAt (Elt F) arg14.view (Rect.unit (s := S16x4096) (k0_off9 k) S1x128.size (k0_off9_inb k)).toLoadRect X_arg14))
            (View.readAt (Elt F) arg11.view (Rect.unit (s := S64x4096) ![32, 2048] S8x128.size inb_S64x4096_S8x128_32_2048).toLoadRect X_arg11)
            (View.readAt (Elt F) arg11.view (Rect.unit (s := S64x4096) ![32, 2176] S8x128.size inb_S64x4096_S8x128_32_2176).toLoadRect X_arg11)))
          (look2 (rowCode (F := F) (View.readAt (Elt F) arg14.view (Rect.unit (s := S16x4096) (k0_off10 k) S1x128.size (k0_off10_inb k)).toLoadRect X_arg14))
            (View.readAt (Elt F) arg11.view (Rect.unit (s := S64x4096) ![32, 2304] S8x128.size inb_S64x4096_S8x128_32_2304).toLoadRect X_arg11)
            (View.readAt (Elt F) arg11.view (Rect.unit (s := S64x4096) ![32, 2432] S8x128.size inb_S64x4096_S8x128_32_2432).toLoadRect X_arg11)))
          (look2 (rowCode (F := F) (View.readAt (Elt F) arg14.view (Rect.unit (s := S16x4096) (k0_off11 k) S1x128.size (k0_off11_inb k)).toLoadRect X_arg14))
            (View.readAt (Elt F) arg11.view (Rect.unit (s := S64x4096) ![32, 2560] S8x128.size inb_S64x4096_S8x128_32_2560).toLoadRect X_arg11)
            (View.readAt (Elt F) arg11.view (Rect.unit (s := S64x4096) ![32, 2688] S8x128.size inb_S64x4096_S8x128_32_2688).toLoadRect X_arg11)))
          (look2 (rowCode (F := F) (View.readAt (Elt F) arg14.view (Rect.unit (s := S16x4096) (k0_off12 k) S1x128.size (k0_off12_inb k)).toLoadRect X_arg14))
            (View.readAt (Elt F) arg11.view (Rect.unit (s := S64x4096) ![32, 2816] S8x128.size inb_S64x4096_S8x128_32_2816).toLoadRect X_arg11)
            (View.readAt (Elt F) arg11.view (Rect.unit (s := S64x4096) ![32, 2944] S8x128.size inb_S64x4096_S8x128_32_2944).toLoadRect X_arg11)))
          (look2 (rowCode (F := F) (View.readAt (Elt F) arg14.view (Rect.unit (s := S16x4096) (k0_off13 k) S1x128.size (k0_off13_inb k)).toLoadRect X_arg14))
            (View.readAt (Elt F) arg11.view (Rect.unit (s := S64x4096) ![32, 3072] S8x128.size inb_S64x4096_S8x128_32_3072).toLoadRect X_arg11)
            (View.readAt (Elt F) arg11.view (Rect.unit (s := S64x4096) ![32, 3200] S8x128.size inb_S64x4096_S8x128_32_3200).toLoadRect X_arg11)))
          (look2 (rowCode (F := F) (View.readAt (Elt F) arg14.view (Rect.unit (s := S16x4096) (k0_off14 k) S1x128.size (k0_off14_inb k)).toLoadRect X_arg14))
            (View.readAt (Elt F) arg11.view (Rect.unit (s := S64x4096) ![32, 3328] S8x128.size inb_S64x4096_S8x128_32_3328).toLoadRect X_arg11)
            (View.readAt (Elt F) arg11.view (Rect.unit (s := S64x4096) ![32, 3456] S8x128.size inb_S64x4096_S8x128_32_3456).toLoadRect X_arg11)))
          (look2 (rowCode (F := F) (View.readAt (Elt F) arg14.view (Rect.unit (s := S16x4096) (k0_off15 k) S1x128.size (k0_off15_inb k)).toLoadRect X_arg14))
            (View.readAt (Elt F) arg11.view (Rect.unit (s := S64x4096) ![32, 3584] S8x128.size inb_S64x4096_S8x128_32_3584).toLoadRect X_arg11)
            (View.readAt (Elt F) arg11.view (Rect.unit (s := S64x4096) ![32, 3712] S8x128.size inb_S64x4096_S8x128_32_3712).toLoadRect X_arg11)))
          (look2 (rowCode (F := F) (View.readAt (Elt F) arg14.view (Rect.unit (s := S16x4096) (k0_off16 k) S1x128.size (k0_off16_inb k)).toLoadRect X_arg14))
            (View.readAt (Elt F) arg11.view (Rect.unit (s := S64x4096) ![32, 3840] S8x128.size inb_S64x4096_S8x128_32_3840).toLoadRect X_arg11)
            (View.readAt (Elt F) arg11.view (Rect.unit (s := S64x4096) ![32, 3968] S8x128.size inb_S64x4096_S8x128_32_3968).toLoadRect X_arg11))) := rfl

/-- The accumulator with the centroid's entry added, for the rows 32 to 39. -/
theorem acc17_4 (arg7 : Memref sig .tc .vmem S1x4096 .i32) (arg11 : Memref sig .tc .vmem S64x4096 .f32) (arg12 : Memref sig .tc .vmem S64x1024 .f32) (arg14 : Memref sig .tc .vmem S16x4096 .i32)
    (X_arg7 : BufTy.Contents (Elt F) arg7.view.ty) (X_arg11 : BufTy.Contents (Elt F) arg11.view.ty) (X_arg12 : BufTy.Contents (Elt F) arg12.view.ty) (X_arg14 : BufTy.Contents (Elt F) arg14.view.ty) (k : Fin k0_t1_loop.trips) :
    trip_k0_t1.sl.r_275 arg7 arg11 arg12 arg14 X_arg7 X_arg11 X_arg12 X_arg14 k = addf (trip_k0_t1.sl.r_248 arg11 arg14 X_arg11 X_arg14 k) (look8 (rowId (F := F) (View.readAt (Elt F) arg7.view (Rect.unit (s := S1x4096) (k0_off17 k) S1x128.size (k0_off17_inb k)).toLoadRect X_arg7))
            (View.readAt (Elt F) arg12.view (Rect.unit (s := S64x1024) ![32, 0] S8x128.size inb_S64x1024_S8x128_32_0).toLoadRect X_arg12)
            (View.readAt (Elt F) arg12.view (Rect.unit (s := S64x1024) ![32, 128] S8x128.size inb_S64x1024_S8x128_32_128).toLoadRect X_arg12)
            (View.readAt (Elt F) arg12.view (Rect.unit (s := S64x1024) ![32, 256] S8x128.size inb_S64x1024_S8x128_32_256).toLoadRect X_arg12)
            (View.readAt (Elt F) arg12.view (Rect.unit (s := S64x1024) ![32, 384] S8x128.size inb_S64x1024_S8x128_32_384).toLoadRect X_arg12)
            (View.readAt (Elt F) arg12.view (Rect.unit (s := S64x1024) ![32, 512] S8x128.size inb_S64x1024_S8x128_32_512).toLoadRect X_arg12)
            (View.readAt (Elt F) arg12.view (Rect.unit (s := S64x1024) ![32, 640] S8x128.size inb_S64x1024_S8x128_32_640).toLoadRect X_arg12)
            (View.readAt (Elt F) arg12.view (Rect.unit (s := S64x1024) ![32, 768] S8x128.size inb_S64x1024_S8x128_32_768).toLoadRect X_arg12)
            (View.readAt (Elt F) arg12.view (Rect.unit (s := S64x1024) ![32, 896] S8x128.size inb_S64x1024_S8x128_32_896).toLoadRect X_arg12)) := by
  dsimp only [trip_k0_t1.sl.r_275, trip_k0_t1.sl.v2717, trip_k0_t1.sl.v2716, trip_k0_t1.sl.r_255, k0_pay307, k0_pay306, trip_k0_t1.sl.v2715, trip_k0_t1.sl.v18, trip_k0_t1.sl.v2713, trip_k0_t1.sl.v21, trip_k0_t1.sl.r_274, trip_k0_t1.sl.v3084, trip_k0_t1.sl.v2718, trip_k0_t1.sl.v3075, trip_k0_t1.sl.v3066, trip_k0_t1.sl.v3057, trip_k0_t1.sl.r_273, trip_k0_t1.sl.r_272, k0_pay343, k0_pay56._proof_1, trip_k0_t1.sl.r_271, k0_pay342, trip_k0_t1.sl.v2710, trip_k0_t1.sl.r_258, k0_pay310, trip_k0_t1.sl.r_257, k0_pay309, trip_k0_t1.sl.r_256, k0_pay308, k0_pay349, look8, bitOf, laneOf, rowId]

/-- The sum of the sixteen codebooks' entries, for the rows 40 to 47. -/
theorem acc16_5 (arg11 : Memref sig .tc .vmem S64x4096 .f32) (arg14 : Memref sig .tc .vmem S16x4096 .i32)
    (X_arg11 : BufTy.Contents (Elt F) arg11.view.ty) (X_arg14 : BufTy.Contents (Elt F) arg14.view.ty) (k : Fin k0_t1_loop.trips) :
    trip_k0_t1.sl.r_249 arg11 arg14 X_arg11 X_arg14 k = (addf (addf (addf (addf (addf (addf (addf (addf (addf (addf (addf (addf (addf (addf (addf (look2 (rowCode (F := F) (View.readAt (Elt F) arg14.view (Rect.unit (s := S16x4096) (k0_off1 k) S1x128.size (k0_off1_inb k)).toLoadRect X_arg14))
            (View.readAt (Elt F) arg11.view (Rect.unit (s := S64x4096) ![40, 0] S8x128.size inb_S64x4096_S8x128_40_0).toLoadRect X_arg11)
            (View.readAt (Elt F) arg11.view (Rect.unit (s := S64x4096) ![40, 128] S8x128.size inb_S64x4096_S8x128_40_128).toLoadRect X_arg11))
          (look2 (rowCode (F := F) (View.readAt (Elt F) arg14.view (Rect.unit (s := S16x4096) (k0_off2 k) S1x128.size (k0_off2_inb k)).toLoadRect X_arg14))
            (View.readAt (Elt F) arg11.view (Rect.unit (s := S64x4096) ![40, 256] S8x128.size inb_S64x4096_S8x128_40_256).toLoadRect X_arg11)
            (View.readAt (Elt F) arg11.view (Rect.unit (s := S64x4096) ![40, 384] S8x128.size inb_S64x4096_S8x128_40_384).toLoadRect X_arg11)))
          (look2 (rowCode (F := F) (View.readAt (Elt F) arg14.view (Rect.unit (s := S16x4096) (k0_off3 k) S1x128.size (k0_off3_inb k)).toLoadRect X_arg14))
            (View.readAt (Elt F) arg11.view (Rect.unit (s := S64x4096) ![40, 512] S8x128.size inb_S64x4096_S8x128_40_512).toLoadRect X_arg11)
            (View.readAt (Elt F) arg11.view (Rect.unit (s := S64x4096) ![40, 640] S8x128.size inb_S64x4096_S8x128_40_640).toLoadRect X_arg11)))
          (look2 (rowCode (F := F) (View.readAt (Elt F) arg14.view (Rect.unit (s := S16x4096) (k0_off4 k) S1x128.size (k0_off4_inb k)).toLoadRect X_arg14))
            (View.readAt (Elt F) arg11.view (Rect.unit (s := S64x4096) ![40, 768] S8x128.size inb_S64x4096_S8x128_40_768).toLoadRect X_arg11)
            (View.readAt (Elt F) arg11.view (Rect.unit (s := S64x4096) ![40, 896] S8x128.size inb_S64x4096_S8x128_40_896).toLoadRect X_arg11)))
          (look2 (rowCode (F := F) (View.readAt (Elt F) arg14.view (Rect.unit (s := S16x4096) (k0_off5 k) S1x128.size (k0_off5_inb k)).toLoadRect X_arg14))
            (View.readAt (Elt F) arg11.view (Rect.unit (s := S64x4096) ![40, 1024] S8x128.size inb_S64x4096_S8x128_40_1024).toLoadRect X_arg11)
            (View.readAt (Elt F) arg11.view (Rect.unit (s := S64x4096) ![40, 1152] S8x128.size inb_S64x4096_S8x128_40_1152).toLoadRect X_arg11)))
          (look2 (rowCode (F := F) (View.readAt (Elt F) arg14.view (Rect.unit (s := S16x4096) (k0_off6 k) S1x128.size (k0_off6_inb k)).toLoadRect X_arg14))
            (View.readAt (Elt F) arg11.view (Rect.unit (s := S64x4096) ![40, 1280] S8x128.size inb_S64x4096_S8x128_40_1280).toLoadRect X_arg11)
            (View.readAt (Elt F) arg11.view (Rect.unit (s := S64x4096) ![40, 1408] S8x128.size inb_S64x4096_S8x128_40_1408).toLoadRect X_arg11)))
          (look2 (rowCode (F := F) (View.readAt (Elt F) arg14.view (Rect.unit (s := S16x4096) (k0_off7 k) S1x128.size (k0_off7_inb k)).toLoadRect X_arg14))
            (View.readAt (Elt F) arg11.view (Rect.unit (s := S64x4096) ![40, 1536] S8x128.size inb_S64x4096_S8x128_40_1536).toLoadRect X_arg11)
            (View.readAt (Elt F) arg11.view (Rect.unit (s := S64x4096) ![40, 1664] S8x128.size inb_S64x4096_S8x128_40_1664).toLoadRect X_arg11)))
          (look2 (rowCode (F := F) (View.readAt (Elt F) arg14.view (Rect.unit (s := S16x4096) (k0_off8 k) S1x128.size (k0_off8_inb k)).toLoadRect X_arg14))
            (View.readAt (Elt F) arg11.view (Rect.unit (s := S64x4096) ![40, 1792] S8x128.size inb_S64x4096_S8x128_40_1792).toLoadRect X_arg11)
            (View.readAt (Elt F) arg11.view (Rect.unit (s := S64x4096) ![40, 1920] S8x128.size inb_S64x4096_S8x128_40_1920).toLoadRect X_arg11)))
          (look2 (rowCode (F := F) (View.readAt (Elt F) arg14.view (Rect.unit (s := S16x4096) (k0_off9 k) S1x128.size (k0_off9_inb k)).toLoadRect X_arg14))
            (View.readAt (Elt F) arg11.view (Rect.unit (s := S64x4096) ![40, 2048] S8x128.size inb_S64x4096_S8x128_40_2048).toLoadRect X_arg11)
            (View.readAt (Elt F) arg11.view (Rect.unit (s := S64x4096) ![40, 2176] S8x128.size inb_S64x4096_S8x128_40_2176).toLoadRect X_arg11)))
          (look2 (rowCode (F := F) (View.readAt (Elt F) arg14.view (Rect.unit (s := S16x4096) (k0_off10 k) S1x128.size (k0_off10_inb k)).toLoadRect X_arg14))
            (View.readAt (Elt F) arg11.view (Rect.unit (s := S64x4096) ![40, 2304] S8x128.size inb_S64x4096_S8x128_40_2304).toLoadRect X_arg11)
            (View.readAt (Elt F) arg11.view (Rect.unit (s := S64x4096) ![40, 2432] S8x128.size inb_S64x4096_S8x128_40_2432).toLoadRect X_arg11)))
          (look2 (rowCode (F := F) (View.readAt (Elt F) arg14.view (Rect.unit (s := S16x4096) (k0_off11 k) S1x128.size (k0_off11_inb k)).toLoadRect X_arg14))
            (View.readAt (Elt F) arg11.view (Rect.unit (s := S64x4096) ![40, 2560] S8x128.size inb_S64x4096_S8x128_40_2560).toLoadRect X_arg11)
            (View.readAt (Elt F) arg11.view (Rect.unit (s := S64x4096) ![40, 2688] S8x128.size inb_S64x4096_S8x128_40_2688).toLoadRect X_arg11)))
          (look2 (rowCode (F := F) (View.readAt (Elt F) arg14.view (Rect.unit (s := S16x4096) (k0_off12 k) S1x128.size (k0_off12_inb k)).toLoadRect X_arg14))
            (View.readAt (Elt F) arg11.view (Rect.unit (s := S64x4096) ![40, 2816] S8x128.size inb_S64x4096_S8x128_40_2816).toLoadRect X_arg11)
            (View.readAt (Elt F) arg11.view (Rect.unit (s := S64x4096) ![40, 2944] S8x128.size inb_S64x4096_S8x128_40_2944).toLoadRect X_arg11)))
          (look2 (rowCode (F := F) (View.readAt (Elt F) arg14.view (Rect.unit (s := S16x4096) (k0_off13 k) S1x128.size (k0_off13_inb k)).toLoadRect X_arg14))
            (View.readAt (Elt F) arg11.view (Rect.unit (s := S64x4096) ![40, 3072] S8x128.size inb_S64x4096_S8x128_40_3072).toLoadRect X_arg11)
            (View.readAt (Elt F) arg11.view (Rect.unit (s := S64x4096) ![40, 3200] S8x128.size inb_S64x4096_S8x128_40_3200).toLoadRect X_arg11)))
          (look2 (rowCode (F := F) (View.readAt (Elt F) arg14.view (Rect.unit (s := S16x4096) (k0_off14 k) S1x128.size (k0_off14_inb k)).toLoadRect X_arg14))
            (View.readAt (Elt F) arg11.view (Rect.unit (s := S64x4096) ![40, 3328] S8x128.size inb_S64x4096_S8x128_40_3328).toLoadRect X_arg11)
            (View.readAt (Elt F) arg11.view (Rect.unit (s := S64x4096) ![40, 3456] S8x128.size inb_S64x4096_S8x128_40_3456).toLoadRect X_arg11)))
          (look2 (rowCode (F := F) (View.readAt (Elt F) arg14.view (Rect.unit (s := S16x4096) (k0_off15 k) S1x128.size (k0_off15_inb k)).toLoadRect X_arg14))
            (View.readAt (Elt F) arg11.view (Rect.unit (s := S64x4096) ![40, 3584] S8x128.size inb_S64x4096_S8x128_40_3584).toLoadRect X_arg11)
            (View.readAt (Elt F) arg11.view (Rect.unit (s := S64x4096) ![40, 3712] S8x128.size inb_S64x4096_S8x128_40_3712).toLoadRect X_arg11)))
          (look2 (rowCode (F := F) (View.readAt (Elt F) arg14.view (Rect.unit (s := S16x4096) (k0_off16 k) S1x128.size (k0_off16_inb k)).toLoadRect X_arg14))
            (View.readAt (Elt F) arg11.view (Rect.unit (s := S64x4096) ![40, 3840] S8x128.size inb_S64x4096_S8x128_40_3840).toLoadRect X_arg11)
            (View.readAt (Elt F) arg11.view (Rect.unit (s := S64x4096) ![40, 3968] S8x128.size inb_S64x4096_S8x128_40_3968).toLoadRect X_arg11))) := rfl

/-- The accumulator with the centroid's entry added, for the rows 40 to 47. -/
theorem acc17_5 (arg7 : Memref sig .tc .vmem S1x4096 .i32) (arg11 : Memref sig .tc .vmem S64x4096 .f32) (arg12 : Memref sig .tc .vmem S64x1024 .f32) (arg14 : Memref sig .tc .vmem S16x4096 .i32)
    (X_arg7 : BufTy.Contents (Elt F) arg7.view.ty) (X_arg11 : BufTy.Contents (Elt F) arg11.view.ty) (X_arg12 : BufTy.Contents (Elt F) arg12.view.ty) (X_arg14 : BufTy.Contents (Elt F) arg14.view.ty) (k : Fin k0_t1_loop.trips) :
    trip_k0_t1.sl.r_281 arg7 arg11 arg12 arg14 X_arg7 X_arg11 X_arg12 X_arg14 k = addf (trip_k0_t1.sl.r_249 arg11 arg14 X_arg11 X_arg14 k) (look8 (rowId (F := F) (View.readAt (Elt F) arg7.view (Rect.unit (s := S1x4096) (k0_off17 k) S1x128.size (k0_off17_inb k)).toLoadRect X_arg7))
            (View.readAt (Elt F) arg12.view (Rect.unit (s := S64x1024) ![40, 0] S8x128.size inb_S64x1024_S8x128_40_0).toLoadRect X_arg12)
            (View.readAt (Elt F) arg12.view (Rect.unit (s := S64x1024) ![40, 128] S8x128.size inb_S64x1024_S8x128_40_128).toLoadRect X_arg12)
            (View.readAt (Elt F) arg12.view (Rect.unit (s := S64x1024) ![40, 256] S8x128.size inb_S64x1024_S8x128_40_256).toLoadRect X_arg12)
            (View.readAt (Elt F) arg12.view (Rect.unit (s := S64x1024) ![40, 384] S8x128.size inb_S64x1024_S8x128_40_384).toLoadRect X_arg12)
            (View.readAt (Elt F) arg12.view (Rect.unit (s := S64x1024) ![40, 512] S8x128.size inb_S64x1024_S8x128_40_512).toLoadRect X_arg12)
            (View.readAt (Elt F) arg12.view (Rect.unit (s := S64x1024) ![40, 640] S8x128.size inb_S64x1024_S8x128_40_640).toLoadRect X_arg12)
            (View.readAt (Elt F) arg12.view (Rect.unit (s := S64x1024) ![40, 768] S8x128.size inb_S64x1024_S8x128_40_768).toLoadRect X_arg12)
            (View.readAt (Elt F) arg12.view (Rect.unit (s := S64x1024) ![40, 896] S8x128.size inb_S64x1024_S8x128_40_896).toLoadRect X_arg12)) := by
  dsimp only [trip_k0_t1.sl.r_281, trip_k0_t1.sl.v2713, trip_k0_t1.sl.v21, trip_k0_t1.sl.r_255, k0_pay307, k0_pay306, trip_k0_t1.sl.r_280, trip_k0_t1.sl.v3173, trip_k0_t1.sl.v2718, trip_k0_t1.sl.v2717, trip_k0_t1.sl.v2716, trip_k0_t1.sl.v2715, trip_k0_t1.sl.v18, trip_k0_t1.sl.v3164, trip_k0_t1.sl.v3155, trip_k0_t1.sl.v3146, trip_k0_t1.sl.v3137, trip_k0_t1.sl.v3136, trip_k0_t1.sl.r_279, k0_pay352, trip_k0_t1.sl.r_278, trip_k0_t1.sl.r_277, k0_pay351, k0_pay56._proof_1, trip_k0_t1.sl.r_276, k0_pay350, trip_k0_t1.sl.v2710, trip_k0_t1.sl.r_258, k0_pay310, trip_k0_t1.sl.r_257, k0_pay309, trip_k0_t1.sl.r_256, k0_pay308, k0_pay359, look8, bitOf, laneOf, rowId]

/-- The sum of the sixteen codebooks' entries, for the rows 48 to 55. -/
theorem acc16_6 (arg11 : Memref sig .tc .vmem S64x4096 .f32) (arg14 : Memref sig .tc .vmem S16x4096 .i32)
    (X_arg11 : BufTy.Contents (Elt F) arg11.view.ty) (X_arg14 : BufTy.Contents (Elt F) arg14.view.ty) (k : Fin k0_t1_loop.trips) :
    trip_k0_t1.sl.r_253 arg11 arg14 X_arg11 X_arg14 k = (addf (addf (addf (addf (addf (addf (addf (addf (addf (addf (addf (addf (addf (addf (addf (look2 (rowCode (F := F) (View.readAt (Elt F) arg14.view (Rect.unit (s := S16x4096) (k0_off1 k) S1x128.size (k0_off1_inb k)).toLoadRect X_arg14))
            (View.readAt (Elt F) arg11.view (Rect.unit (s := S64x4096) ![48, 0] S8x128.size inb_S64x4096_S8x128_48_0).toLoadRect X_arg11)
            (View.readAt (Elt F) arg11.view (Rect.unit (s := S64x4096) ![48, 128] S8x128.size inb_S64x4096_S8x128_48_128).toLoadRect X_arg11))
          (look2 (rowCode (F := F) (View.readAt (Elt F) arg14.view (Rect.unit (s := S16x4096) (k0_off2 k) S1x128.size (k0_off2_inb k)).toLoadRect X_arg14))
            (View.readAt (Elt F) arg11.view (Rect.unit (s := S64x4096) ![48, 256] S8x128.size inb_S64x4096_S8x128_48_256).toLoadRect X_arg11)
            (View.readAt (Elt F) arg11.view (Rect.unit (s := S64x4096) ![48, 384] S8x128.size inb_S64x4096_S8x128_48_384).toLoadRect X_arg11)))
          (look2 (rowCode (F := F) (View.readAt (Elt F) arg14.view (Rect.unit (s := S16x4096) (k0_off3 k) S1x128.size (k0_off3_inb k)).toLoadRect X_arg14))
            (View.readAt (Elt F) arg11.view (Rect.unit (s := S64x4096) ![48, 512] S8x128.size inb_S64x4096_S8x128_48_512).toLoadRect X_arg11)
            (View.readAt (Elt F) arg11.view (Rect.unit (s := S64x4096) ![48, 640] S8x128.size inb_S64x4096_S8x128_48_640).toLoadRect X_arg11)))
          (look2 (rowCode (F := F) (View.readAt (Elt F) arg14.view (Rect.unit (s := S16x4096) (k0_off4 k) S1x128.size (k0_off4_inb k)).toLoadRect X_arg14))
            (View.readAt (Elt F) arg11.view (Rect.unit (s := S64x4096) ![48, 768] S8x128.size inb_S64x4096_S8x128_48_768).toLoadRect X_arg11)
            (View.readAt (Elt F) arg11.view (Rect.unit (s := S64x4096) ![48, 896] S8x128.size inb_S64x4096_S8x128_48_896).toLoadRect X_arg11)))
          (look2 (rowCode (F := F) (View.readAt (Elt F) arg14.view (Rect.unit (s := S16x4096) (k0_off5 k) S1x128.size (k0_off5_inb k)).toLoadRect X_arg14))
            (View.readAt (Elt F) arg11.view (Rect.unit (s := S64x4096) ![48, 1024] S8x128.size inb_S64x4096_S8x128_48_1024).toLoadRect X_arg11)
            (View.readAt (Elt F) arg11.view (Rect.unit (s := S64x4096) ![48, 1152] S8x128.size inb_S64x4096_S8x128_48_1152).toLoadRect X_arg11)))
          (look2 (rowCode (F := F) (View.readAt (Elt F) arg14.view (Rect.unit (s := S16x4096) (k0_off6 k) S1x128.size (k0_off6_inb k)).toLoadRect X_arg14))
            (View.readAt (Elt F) arg11.view (Rect.unit (s := S64x4096) ![48, 1280] S8x128.size inb_S64x4096_S8x128_48_1280).toLoadRect X_arg11)
            (View.readAt (Elt F) arg11.view (Rect.unit (s := S64x4096) ![48, 1408] S8x128.size inb_S64x4096_S8x128_48_1408).toLoadRect X_arg11)))
          (look2 (rowCode (F := F) (View.readAt (Elt F) arg14.view (Rect.unit (s := S16x4096) (k0_off7 k) S1x128.size (k0_off7_inb k)).toLoadRect X_arg14))
            (View.readAt (Elt F) arg11.view (Rect.unit (s := S64x4096) ![48, 1536] S8x128.size inb_S64x4096_S8x128_48_1536).toLoadRect X_arg11)
            (View.readAt (Elt F) arg11.view (Rect.unit (s := S64x4096) ![48, 1664] S8x128.size inb_S64x4096_S8x128_48_1664).toLoadRect X_arg11)))
          (look2 (rowCode (F := F) (View.readAt (Elt F) arg14.view (Rect.unit (s := S16x4096) (k0_off8 k) S1x128.size (k0_off8_inb k)).toLoadRect X_arg14))
            (View.readAt (Elt F) arg11.view (Rect.unit (s := S64x4096) ![48, 1792] S8x128.size inb_S64x4096_S8x128_48_1792).toLoadRect X_arg11)
            (View.readAt (Elt F) arg11.view (Rect.unit (s := S64x4096) ![48, 1920] S8x128.size inb_S64x4096_S8x128_48_1920).toLoadRect X_arg11)))
          (look2 (rowCode (F := F) (View.readAt (Elt F) arg14.view (Rect.unit (s := S16x4096) (k0_off9 k) S1x128.size (k0_off9_inb k)).toLoadRect X_arg14))
            (View.readAt (Elt F) arg11.view (Rect.unit (s := S64x4096) ![48, 2048] S8x128.size inb_S64x4096_S8x128_48_2048).toLoadRect X_arg11)
            (View.readAt (Elt F) arg11.view (Rect.unit (s := S64x4096) ![48, 2176] S8x128.size inb_S64x4096_S8x128_48_2176).toLoadRect X_arg11)))
          (look2 (rowCode (F := F) (View.readAt (Elt F) arg14.view (Rect.unit (s := S16x4096) (k0_off10 k) S1x128.size (k0_off10_inb k)).toLoadRect X_arg14))
            (View.readAt (Elt F) arg11.view (Rect.unit (s := S64x4096) ![48, 2304] S8x128.size inb_S64x4096_S8x128_48_2304).toLoadRect X_arg11)
            (View.readAt (Elt F) arg11.view (Rect.unit (s := S64x4096) ![48, 2432] S8x128.size inb_S64x4096_S8x128_48_2432).toLoadRect X_arg11)))
          (look2 (rowCode (F := F) (View.readAt (Elt F) arg14.view (Rect.unit (s := S16x4096) (k0_off11 k) S1x128.size (k0_off11_inb k)).toLoadRect X_arg14))
            (View.readAt (Elt F) arg11.view (Rect.unit (s := S64x4096) ![48, 2560] S8x128.size inb_S64x4096_S8x128_48_2560).toLoadRect X_arg11)
            (View.readAt (Elt F) arg11.view (Rect.unit (s := S64x4096) ![48, 2688] S8x128.size inb_S64x4096_S8x128_48_2688).toLoadRect X_arg11)))
          (look2 (rowCode (F := F) (View.readAt (Elt F) arg14.view (Rect.unit (s := S16x4096) (k0_off12 k) S1x128.size (k0_off12_inb k)).toLoadRect X_arg14))
            (View.readAt (Elt F) arg11.view (Rect.unit (s := S64x4096) ![48, 2816] S8x128.size inb_S64x4096_S8x128_48_2816).toLoadRect X_arg11)
            (View.readAt (Elt F) arg11.view (Rect.unit (s := S64x4096) ![48, 2944] S8x128.size inb_S64x4096_S8x128_48_2944).toLoadRect X_arg11)))
          (look2 (rowCode (F := F) (View.readAt (Elt F) arg14.view (Rect.unit (s := S16x4096) (k0_off13 k) S1x128.size (k0_off13_inb k)).toLoadRect X_arg14))
            (View.readAt (Elt F) arg11.view (Rect.unit (s := S64x4096) ![48, 3072] S8x128.size inb_S64x4096_S8x128_48_3072).toLoadRect X_arg11)
            (View.readAt (Elt F) arg11.view (Rect.unit (s := S64x4096) ![48, 3200] S8x128.size inb_S64x4096_S8x128_48_3200).toLoadRect X_arg11)))
          (look2 (rowCode (F := F) (View.readAt (Elt F) arg14.view (Rect.unit (s := S16x4096) (k0_off14 k) S1x128.size (k0_off14_inb k)).toLoadRect X_arg14))
            (View.readAt (Elt F) arg11.view (Rect.unit (s := S64x4096) ![48, 3328] S8x128.size inb_S64x4096_S8x128_48_3328).toLoadRect X_arg11)
            (View.readAt (Elt F) arg11.view (Rect.unit (s := S64x4096) ![48, 3456] S8x128.size inb_S64x4096_S8x128_48_3456).toLoadRect X_arg11)))
          (look2 (rowCode (F := F) (View.readAt (Elt F) arg14.view (Rect.unit (s := S16x4096) (k0_off15 k) S1x128.size (k0_off15_inb k)).toLoadRect X_arg14))
            (View.readAt (Elt F) arg11.view (Rect.unit (s := S64x4096) ![48, 3584] S8x128.size inb_S64x4096_S8x128_48_3584).toLoadRect X_arg11)
            (View.readAt (Elt F) arg11.view (Rect.unit (s := S64x4096) ![48, 3712] S8x128.size inb_S64x4096_S8x128_48_3712).toLoadRect X_arg11)))
          (look2 (rowCode (F := F) (View.readAt (Elt F) arg14.view (Rect.unit (s := S16x4096) (k0_off16 k) S1x128.size (k0_off16_inb k)).toLoadRect X_arg14))
            (View.readAt (Elt F) arg11.view (Rect.unit (s := S64x4096) ![48, 3840] S8x128.size inb_S64x4096_S8x128_48_3840).toLoadRect X_arg11)
            (View.readAt (Elt F) arg11.view (Rect.unit (s := S64x4096) ![48, 3968] S8x128.size inb_S64x4096_S8x128_48_3968).toLoadRect X_arg11))) := rfl

/-- The accumulator with the centroid's entry added, for the rows 48 to 55. -/
theorem acc17_6 (arg7 : Memref sig .tc .vmem S1x4096 .i32) (arg11 : Memref sig .tc .vmem S64x4096 .f32) (arg12 : Memref sig .tc .vmem S64x1024 .f32) (arg14 : Memref sig .tc .vmem S16x4096 .i32)
    (X_arg7 : BufTy.Contents (Elt F) arg7.view.ty) (X_arg11 : BufTy.Contents (Elt F) arg11.view.ty) (X_arg12 : BufTy.Contents (Elt F) arg12.view.ty) (X_arg14 : BufTy.Contents (Elt F) arg14.view.ty) (k : Fin k0_t1_loop.trips) :
    trip_k0_t1.sl.r_287 arg7 arg11 arg12 arg14 X_arg7 X_arg11 X_arg12 X_arg14 k = addf (trip_k0_t1.sl.r_253 arg11 arg14 X_arg11 X_arg14 k) (look8 (rowId (F := F) (View.readAt (Elt F) arg7.view (Rect.unit (s := S1x4096) (k0_off17 k) S1x128.size (k0_off17_inb k)).toLoadRect X_arg7))
            (View.readAt (Elt F) arg12.view (Rect.unit (s := S64x1024) ![48, 0] S8x128.size inb_S64x1024_S8x128_48_0).toLoadRect X_arg12)
            (View.readAt (Elt F) arg12.view (Rect.unit (s := S64x1024) ![48, 128] S8x128.size inb_S64x1024_S8x128_48_128).toLoadRect X_arg12)
            (View.readAt (Elt F) arg12.view (Rect.unit (s := S64x1024) ![48, 256] S8x128.size inb_S64x1024_S8x128_48_256).toLoadRect X_arg12)
            (View.readAt (Elt F) arg12.view (Rect.unit (s := S64x1024) ![48, 384] S8x128.size inb_S64x1024_S8x128_48_384).toLoadRect X_arg12)
            (View.readAt (Elt F) arg12.view (Rect.unit (s := S64x1024) ![48, 512] S8x128.size inb_S64x1024_S8x128_48_512).toLoadRect X_arg12)
            (View.readAt (Elt F) arg12.view (Rect.unit (s := S64x1024) ![48, 640] S8x128.size inb_S64x1024_S8x128_48_640).toLoadRect X_arg12)
            (View.readAt (Elt F) arg12.view (Rect.unit (s := S64x1024) ![48, 768] S8x128.size inb_S64x1024_S8x128_48_768).toLoadRect X_arg12)
            (View.readAt (Elt F) arg12.view (Rect.unit (s := S64x1024) ![48, 896] S8x128.size inb_S64x1024_S8x128_48_896).toLoadRect X_arg12)) := by
  dsimp only [trip_k0_t1.sl.r_287, trip_k0_t1.sl.v3263, trip_k0_t1.sl.r_282, trip_k0_t1.sl.r_255, k0_pay307, k0_pay306, k0_pay360, k0_pay56._proof_1, trip_k0_t1.sl.r_283, k0_pay361, trip_k0_t1.sl.r_256, k0_pay308, trip_k0_t1.sl.v3262, trip_k0_t1.sl.v2718, trip_k0_t1.sl.v2717, trip_k0_t1.sl.v2716, trip_k0_t1.sl.v2715, trip_k0_t1.sl.v18, trip_k0_t1.sl.v2713, trip_k0_t1.sl.v21, trip_k0_t1.sl.v3253, trip_k0_t1.sl.v3244, trip_k0_t1.sl.v3235, trip_k0_t1.sl.v3226, trip_k0_t1.sl.v3225, trip_k0_t1.sl.v3224, trip_k0_t1.sl.v3223, trip_k0_t1.sl.r_286, k0_pay363, trip_k0_t1.sl.r_285, trip_k0_t1.sl.r_284, k0_pay362, trip_k0_t1.sl.v2710, trip_k0_t1.sl.r_258, k0_pay310, trip_k0_t1.sl.r_257, k0_pay309, k0_pay370, look8, bitOf, laneOf, rowId]

/-- The sum of the sixteen codebooks' entries, for the rows 56 to 63. -/
theorem acc16_7 (arg11 : Memref sig .tc .vmem S64x4096 .f32) (arg14 : Memref sig .tc .vmem S16x4096 .i32)
    (X_arg11 : BufTy.Contents (Elt F) arg11.view.ty) (X_arg14 : BufTy.Contents (Elt F) arg14.view.ty) (k : Fin k0_t1_loop.trips) :
    trip_k0_t1.sl.r_254 arg11 arg14 X_arg11 X_arg14 k = (addf (addf (addf (addf (addf (addf (addf (addf (addf (addf (addf (addf (addf (addf (addf (look2 (rowCode (F := F) (View.readAt (Elt F) arg14.view (Rect.unit (s := S16x4096) (k0_off1 k) S1x128.size (k0_off1_inb k)).toLoadRect X_arg14))
            (View.readAt (Elt F) arg11.view (Rect.unit (s := S64x4096) ![56, 0] S8x128.size inb_S64x4096_S8x128_56_0).toLoadRect X_arg11)
            (View.readAt (Elt F) arg11.view (Rect.unit (s := S64x4096) ![56, 128] S8x128.size inb_S64x4096_S8x128_56_128).toLoadRect X_arg11))
          (look2 (rowCode (F := F) (View.readAt (Elt F) arg14.view (Rect.unit (s := S16x4096) (k0_off2 k) S1x128.size (k0_off2_inb k)).toLoadRect X_arg14))
            (View.readAt (Elt F) arg11.view (Rect.unit (s := S64x4096) ![56, 256] S8x128.size inb_S64x4096_S8x128_56_256).toLoadRect X_arg11)
            (View.readAt (Elt F) arg11.view (Rect.unit (s := S64x4096) ![56, 384] S8x128.size inb_S64x4096_S8x128_56_384).toLoadRect X_arg11)))
          (look2 (rowCode (F := F) (View.readAt (Elt F) arg14.view (Rect.unit (s := S16x4096) (k0_off3 k) S1x128.size (k0_off3_inb k)).toLoadRect X_arg14))
            (View.readAt (Elt F) arg11.view (Rect.unit (s := S64x4096) ![56, 512] S8x128.size inb_S64x4096_S8x128_56_512).toLoadRect X_arg11)
            (View.readAt (Elt F) arg11.view (Rect.unit (s := S64x4096) ![56, 640] S8x128.size inb_S64x4096_S8x128_56_640).toLoadRect X_arg11)))
          (look2 (rowCode (F := F) (View.readAt (Elt F) arg14.view (Rect.unit (s := S16x4096) (k0_off4 k) S1x128.size (k0_off4_inb k)).toLoadRect X_arg14))
            (View.readAt (Elt F) arg11.view (Rect.unit (s := S64x4096) ![56, 768] S8x128.size inb_S64x4096_S8x128_56_768).toLoadRect X_arg11)
            (View.readAt (Elt F) arg11.view (Rect.unit (s := S64x4096) ![56, 896] S8x128.size inb_S64x4096_S8x128_56_896).toLoadRect X_arg11)))
          (look2 (rowCode (F := F) (View.readAt (Elt F) arg14.view (Rect.unit (s := S16x4096) (k0_off5 k) S1x128.size (k0_off5_inb k)).toLoadRect X_arg14))
            (View.readAt (Elt F) arg11.view (Rect.unit (s := S64x4096) ![56, 1024] S8x128.size inb_S64x4096_S8x128_56_1024).toLoadRect X_arg11)
            (View.readAt (Elt F) arg11.view (Rect.unit (s := S64x4096) ![56, 1152] S8x128.size inb_S64x4096_S8x128_56_1152).toLoadRect X_arg11)))
          (look2 (rowCode (F := F) (View.readAt (Elt F) arg14.view (Rect.unit (s := S16x4096) (k0_off6 k) S1x128.size (k0_off6_inb k)).toLoadRect X_arg14))
            (View.readAt (Elt F) arg11.view (Rect.unit (s := S64x4096) ![56, 1280] S8x128.size inb_S64x4096_S8x128_56_1280).toLoadRect X_arg11)
            (View.readAt (Elt F) arg11.view (Rect.unit (s := S64x4096) ![56, 1408] S8x128.size inb_S64x4096_S8x128_56_1408).toLoadRect X_arg11)))
          (look2 (rowCode (F := F) (View.readAt (Elt F) arg14.view (Rect.unit (s := S16x4096) (k0_off7 k) S1x128.size (k0_off7_inb k)).toLoadRect X_arg14))
            (View.readAt (Elt F) arg11.view (Rect.unit (s := S64x4096) ![56, 1536] S8x128.size inb_S64x4096_S8x128_56_1536).toLoadRect X_arg11)
            (View.readAt (Elt F) arg11.view (Rect.unit (s := S64x4096) ![56, 1664] S8x128.size inb_S64x4096_S8x128_56_1664).toLoadRect X_arg11)))
          (look2 (rowCode (F := F) (View.readAt (Elt F) arg14.view (Rect.unit (s := S16x4096) (k0_off8 k) S1x128.size (k0_off8_inb k)).toLoadRect X_arg14))
            (View.readAt (Elt F) arg11.view (Rect.unit (s := S64x4096) ![56, 1792] S8x128.size inb_S64x4096_S8x128_56_1792).toLoadRect X_arg11)
            (View.readAt (Elt F) arg11.view (Rect.unit (s := S64x4096) ![56, 1920] S8x128.size inb_S64x4096_S8x128_56_1920).toLoadRect X_arg11)))
          (look2 (rowCode (F := F) (View.readAt (Elt F) arg14.view (Rect.unit (s := S16x4096) (k0_off9 k) S1x128.size (k0_off9_inb k)).toLoadRect X_arg14))
            (View.readAt (Elt F) arg11.view (Rect.unit (s := S64x4096) ![56, 2048] S8x128.size inb_S64x4096_S8x128_56_2048).toLoadRect X_arg11)
            (View.readAt (Elt F) arg11.view (Rect.unit (s := S64x4096) ![56, 2176] S8x128.size inb_S64x4096_S8x128_56_2176).toLoadRect X_arg11)))
          (look2 (rowCode (F := F) (View.readAt (Elt F) arg14.view (Rect.unit (s := S16x4096) (k0_off10 k) S1x128.size (k0_off10_inb k)).toLoadRect X_arg14))
            (View.readAt (Elt F) arg11.view (Rect.unit (s := S64x4096) ![56, 2304] S8x128.size inb_S64x4096_S8x128_56_2304).toLoadRect X_arg11)
            (View.readAt (Elt F) arg11.view (Rect.unit (s := S64x4096) ![56, 2432] S8x128.size inb_S64x4096_S8x128_56_2432).toLoadRect X_arg11)))
          (look2 (rowCode (F := F) (View.readAt (Elt F) arg14.view (Rect.unit (s := S16x4096) (k0_off11 k) S1x128.size (k0_off11_inb k)).toLoadRect X_arg14))
            (View.readAt (Elt F) arg11.view (Rect.unit (s := S64x4096) ![56, 2560] S8x128.size inb_S64x4096_S8x128_56_2560).toLoadRect X_arg11)
            (View.readAt (Elt F) arg11.view (Rect.unit (s := S64x4096) ![56, 2688] S8x128.size inb_S64x4096_S8x128_56_2688).toLoadRect X_arg11)))
          (look2 (rowCode (F := F) (View.readAt (Elt F) arg14.view (Rect.unit (s := S16x4096) (k0_off12 k) S1x128.size (k0_off12_inb k)).toLoadRect X_arg14))
            (View.readAt (Elt F) arg11.view (Rect.unit (s := S64x4096) ![56, 2816] S8x128.size inb_S64x4096_S8x128_56_2816).toLoadRect X_arg11)
            (View.readAt (Elt F) arg11.view (Rect.unit (s := S64x4096) ![56, 2944] S8x128.size inb_S64x4096_S8x128_56_2944).toLoadRect X_arg11)))
          (look2 (rowCode (F := F) (View.readAt (Elt F) arg14.view (Rect.unit (s := S16x4096) (k0_off13 k) S1x128.size (k0_off13_inb k)).toLoadRect X_arg14))
            (View.readAt (Elt F) arg11.view (Rect.unit (s := S64x4096) ![56, 3072] S8x128.size inb_S64x4096_S8x128_56_3072).toLoadRect X_arg11)
            (View.readAt (Elt F) arg11.view (Rect.unit (s := S64x4096) ![56, 3200] S8x128.size inb_S64x4096_S8x128_56_3200).toLoadRect X_arg11)))
          (look2 (rowCode (F := F) (View.readAt (Elt F) arg14.view (Rect.unit (s := S16x4096) (k0_off14 k) S1x128.size (k0_off14_inb k)).toLoadRect X_arg14))
            (View.readAt (Elt F) arg11.view (Rect.unit (s := S64x4096) ![56, 3328] S8x128.size inb_S64x4096_S8x128_56_3328).toLoadRect X_arg11)
            (View.readAt (Elt F) arg11.view (Rect.unit (s := S64x4096) ![56, 3456] S8x128.size inb_S64x4096_S8x128_56_3456).toLoadRect X_arg11)))
          (look2 (rowCode (F := F) (View.readAt (Elt F) arg14.view (Rect.unit (s := S16x4096) (k0_off15 k) S1x128.size (k0_off15_inb k)).toLoadRect X_arg14))
            (View.readAt (Elt F) arg11.view (Rect.unit (s := S64x4096) ![56, 3584] S8x128.size inb_S64x4096_S8x128_56_3584).toLoadRect X_arg11)
            (View.readAt (Elt F) arg11.view (Rect.unit (s := S64x4096) ![56, 3712] S8x128.size inb_S64x4096_S8x128_56_3712).toLoadRect X_arg11)))
          (look2 (rowCode (F := F) (View.readAt (Elt F) arg14.view (Rect.unit (s := S16x4096) (k0_off16 k) S1x128.size (k0_off16_inb k)).toLoadRect X_arg14))
            (View.readAt (Elt F) arg11.view (Rect.unit (s := S64x4096) ![56, 3840] S8x128.size inb_S64x4096_S8x128_56_3840).toLoadRect X_arg11)
            (View.readAt (Elt F) arg11.view (Rect.unit (s := S64x4096) ![56, 3968] S8x128.size inb_S64x4096_S8x128_56_3968).toLoadRect X_arg11))) := rfl

/-- The accumulator with the centroid's entry added, for the rows 56 to 63. -/
theorem acc17_7 (arg7 : Memref sig .tc .vmem S1x4096 .i32) (arg11 : Memref sig .tc .vmem S64x4096 .f32) (arg12 : Memref sig .tc .vmem S64x1024 .f32) (arg14 : Memref sig .tc .vmem S16x4096 .i32)
    (X_arg7 : BufTy.Contents (Elt F) arg7.view.ty) (X_arg11 : BufTy.Contents (Elt F) arg11.view.ty) (X_arg12 : BufTy.Contents (Elt F) arg12.view.ty) (X_arg14 : BufTy.Contents (Elt F) arg14.view.ty) (k : Fin k0_t1_loop.trips) :
    trip_k0_t1.sl.r_292 arg7 arg11 arg12 arg14 X_arg7 X_arg11 X_arg12 X_arg14 k = addf (trip_k0_t1.sl.r_254 arg11 arg14 X_arg11 X_arg14 k) (look8 (rowId (F := F) (View.readAt (Elt F) arg7.view (Rect.unit (s := S1x4096) (k0_off17 k) S1x128.size (k0_off17_inb k)).toLoadRect X_arg7))
            (View.readAt (Elt F) arg12.view (Rect.unit (s := S64x1024) ![56, 0] S8x128.size inb_S64x1024_S8x128_56_0).toLoadRect X_arg12)
            (View.readAt (Elt F) arg12.view (Rect.unit (s := S64x1024) ![56, 128] S8x128.size inb_S64x1024_S8x128_56_128).toLoadRect X_arg12)
            (View.readAt (Elt F) arg12.view (Rect.unit (s := S64x1024) ![56, 256] S8x128.size inb_S64x1024_S8x128_56_256).toLoadRect X_arg12)
            (View.readAt (Elt F) arg12.view (Rect.unit (s := S64x1024) ![56, 384] S8x128.size inb_S64x1024_S8x128_56_384).toLoadRect X_arg12)
            (View.readAt (Elt F) arg12.view (Rect.unit (s := S64x1024) ![56, 512] S8x128.size inb_S64x1024_S8x128_56_512).toLoadRect X_arg12)
            (View.readAt (Elt F) arg12.view (Rect.unit (s := S64x1024) ![56, 640] S8x128.size inb_S64x1024_S8x128_56_640).toLoadRect X_arg12)
            (View.readAt (Elt F) arg12.view (Rect.unit (s := S64x1024) ![56, 768] S8x128.size inb_S64x1024_S8x128_56_768).toLoadRect X_arg12)
            (View.readAt (Elt F) arg12.view (Rect.unit (s := S64x1024) ![56, 896] S8x128.size inb_S64x1024_S8x128_56_896).toLoadRect X_arg12)) := by
  dsimp only [trip_k0_t1.sl.r_292, trip_k0_t1.sl.r_291, trip_k0_t1.sl.r_255, k0_pay307, k0_pay306, k0_pay374, k0_pay56._proof_1, trip_k0_t1.sl.r_290, k0_pay373, trip_k0_t1.sl.r_289, k0_pay372, trip_k0_t1.sl.r_288, k0_pay371, trip_k0_t1.sl.v2710, trip_k0_t1.sl.v21, trip_k0_t1.sl.r_258, k0_pay310, trip_k0_t1.sl.r_257, k0_pay309, trip_k0_t1.sl.r_256, k0_pay308, k0_pay375, look8, bitOf, laneOf, rowId]

/-- The squared norms of the 128 vectors of a trip. -/
theorem norm_eq (arg5 : Memref sig .tc .vmem S1x4096 .i8) (arg6 : Memref sig .tc .vmem S1x256 .f32)
    (X_arg5 : BufTy.Contents (Elt F) arg5.view.ty) (X_arg6 : BufTy.Contents (Elt F) arg6.view.ty) (k : Fin k0_t1_loop.trips) :
    trip_k0_t1.sl.r_293 arg5 arg6 X_arg5 X_arg6 k = (normOf (F := F) (View.readAt (Elt F) arg5.view (Rect.unit (s := S1x4096) (k0_off17 k) S1x128.size (k0_off17_inb k)).toLoadRect X_arg5) (View.readAt (Elt F) arg6.view (Rect.unit (s := S1x256) ![0, 128] S1x128.size inb_S1x256_S1x128_0_128).toLoadRect X_arg6) (View.readAt (Elt F) arg6.view (Rect.unit (s := S1x256) ![0, 0] S1x128.size inb_S1x256_S1x128_0_0).toLoadRect X_arg6)) := rfl

/-- What trip `k` stores for the rows 0 to 7. -/
def tripVal0 (arg5 : Memref sig .tc .vmem S1x4096 .i8) (arg6 : Memref sig .tc .vmem S1x256 .f32) (arg7 : Memref sig .tc .vmem S1x4096 .i32) (arg11 : Memref sig .tc .vmem S64x4096 .f32) (arg12 : Memref sig .tc .vmem S64x1024 .f32) (arg13 : Memref sig .tc .vmem S64x128 .f32) (arg14 : Memref sig .tc .vmem S16x4096 .i32)
    (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t1_loop.trips) : FVec F S8x128 .f32 :=
  distOf (trip_k0_t1.sl.r_260 arg7 arg11 arg12 arg14 X_arg7 X_arg11 X_arg12 X_arg14 k) (trip_k0_t1.sl.r_293 arg5 arg6 X_arg5 X_arg6 k)
    (View.readAt (Elt F) arg13.view (Rect.unit (s := S64x128) ![0, 0] S8x128.size inb_S64x128_S8x128_0_0).toLoadRect X_arg13)

/-- What trip `k` stores for the rows 8 to 15. -/
def tripVal1 (arg5 : Memref sig .tc .vmem S1x4096 .i8) (arg6 : Memref sig .tc .vmem S1x256 .f32) (arg7 : Memref sig .tc .vmem S1x4096 .i32) (arg11 : Memref sig .tc .vmem S64x4096 .f32) (arg12 : Memref sig .tc .vmem S64x1024 .f32) (arg13 : Memref sig .tc .vmem S64x128 .f32) (arg14 : Memref sig .tc .vmem S16x4096 .i32)
    (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t1_loop.trips) : FVec F S8x128 .f32 :=
  distOf (trip_k0_t1.sl.r_262 arg7 arg11 arg12 arg14 X_arg7 X_arg11 X_arg12 X_arg14 k) (trip_k0_t1.sl.r_293 arg5 arg6 X_arg5 X_arg6 k)
    (View.readAt (Elt F) arg13.view (Rect.unit (s := S64x128) ![8, 0] S8x128.size inb_S64x128_S8x128_8_0).toLoadRect X_arg13)

/-- What trip `k` stores for the rows 16 to 23. -/
def tripVal2 (arg5 : Memref sig .tc .vmem S1x4096 .i8) (arg6 : Memref sig .tc .vmem S1x256 .f32) (arg7 : Memref sig .tc .vmem S1x4096 .i32) (arg11 : Memref sig .tc .vmem S64x4096 .f32) (arg12 : Memref sig .tc .vmem S64x1024 .f32) (arg13 : Memref sig .tc .vmem S64x128 .f32) (arg14 : Memref sig .tc .vmem S16x4096 .i32)
    (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t1_loop.trips) : FVec F S8x128 .f32 :=
  distOf (trip_k0_t1.sl.r_265 arg7 arg11 arg12 arg14 X_arg7 X_arg11 X_arg12 X_arg14 k) (trip_k0_t1.sl.r_293 arg5 arg6 X_arg5 X_arg6 k)
    (View.readAt (Elt F) arg13.view (Rect.unit (s := S64x128) ![16, 0] S8x128.size inb_S64x128_S8x128_16_0).toLoadRect X_arg13)

/-- What trip `k` stores for the rows 24 to 31. -/
def tripVal3 (arg5 : Memref sig .tc .vmem S1x4096 .i8) (arg6 : Memref sig .tc .vmem S1x256 .f32) (arg7 : Memref sig .tc .vmem S1x4096 .i32) (arg11 : Memref sig .tc .vmem S64x4096 .f32) (arg12 : Memref sig .tc .vmem S64x1024 .f32) (arg13 : Memref sig .tc .vmem S64x128 .f32) (arg14 : Memref sig .tc .vmem S16x4096 .i32)
    (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t1_loop.trips) : FVec F S8x128 .f32 :=
  distOf (trip_k0_t1.sl.r_270 arg7 arg11 arg12 arg14 X_arg7 X_arg11 X_arg12 X_arg14 k) (trip_k0_t1.sl.r_293 arg5 arg6 X_arg5 X_arg6 k)
    (View.readAt (Elt F) arg13.view (Rect.unit (s := S64x128) ![24, 0] S8x128.size inb_S64x128_S8x128_24_0).toLoadRect X_arg13)

/-- What trip `k` stores for the rows 32 to 39. -/
def tripVal4 (arg5 : Memref sig .tc .vmem S1x4096 .i8) (arg6 : Memref sig .tc .vmem S1x256 .f32) (arg7 : Memref sig .tc .vmem S1x4096 .i32) (arg11 : Memref sig .tc .vmem S64x4096 .f32) (arg12 : Memref sig .tc .vmem S64x1024 .f32) (arg13 : Memref sig .tc .vmem S64x128 .f32) (arg14 : Memref sig .tc .vmem S16x4096 .i32)
    (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t1_loop.trips) : FVec F S8x128 .f32 :=
  distOf (trip_k0_t1.sl.r_275 arg7 arg11 arg12 arg14 X_arg7 X_arg11 X_arg12 X_arg14 k) (trip_k0_t1.sl.r_293 arg5 arg6 X_arg5 X_arg6 k)
    (View.readAt (Elt F) arg13.view (Rect.unit (s := S64x128) ![32, 0] S8x128.size inb_S64x128_S8x128_32_0).toLoadRect X_arg13)

/-- What trip `k` stores for the rows 40 to 47. -/
def tripVal5 (arg5 : Memref sig .tc .vmem S1x4096 .i8) (arg6 : Memref sig .tc .vmem S1x256 .f32) (arg7 : Memref sig .tc .vmem S1x4096 .i32) (arg11 : Memref sig .tc .vmem S64x4096 .f32) (arg12 : Memref sig .tc .vmem S64x1024 .f32) (arg13 : Memref sig .tc .vmem S64x128 .f32) (arg14 : Memref sig .tc .vmem S16x4096 .i32)
    (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t1_loop.trips) : FVec F S8x128 .f32 :=
  distOf (trip_k0_t1.sl.r_281 arg7 arg11 arg12 arg14 X_arg7 X_arg11 X_arg12 X_arg14 k) (trip_k0_t1.sl.r_293 arg5 arg6 X_arg5 X_arg6 k)
    (View.readAt (Elt F) arg13.view (Rect.unit (s := S64x128) ![40, 0] S8x128.size inb_S64x128_S8x128_40_0).toLoadRect X_arg13)

/-- What trip `k` stores for the rows 48 to 55. -/
def tripVal6 (arg5 : Memref sig .tc .vmem S1x4096 .i8) (arg6 : Memref sig .tc .vmem S1x256 .f32) (arg7 : Memref sig .tc .vmem S1x4096 .i32) (arg11 : Memref sig .tc .vmem S64x4096 .f32) (arg12 : Memref sig .tc .vmem S64x1024 .f32) (arg13 : Memref sig .tc .vmem S64x128 .f32) (arg14 : Memref sig .tc .vmem S16x4096 .i32)
    (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t1_loop.trips) : FVec F S8x128 .f32 :=
  distOf (trip_k0_t1.sl.r_287 arg7 arg11 arg12 arg14 X_arg7 X_arg11 X_arg12 X_arg14 k) (trip_k0_t1.sl.r_293 arg5 arg6 X_arg5 X_arg6 k)
    (View.readAt (Elt F) arg13.view (Rect.unit (s := S64x128) ![48, 0] S8x128.size inb_S64x128_S8x128_48_0).toLoadRect X_arg13)

/-- What trip `k` stores for the rows 56 to 63. -/
def tripVal7 (arg5 : Memref sig .tc .vmem S1x4096 .i8) (arg6 : Memref sig .tc .vmem S1x256 .f32) (arg7 : Memref sig .tc .vmem S1x4096 .i32) (arg11 : Memref sig .tc .vmem S64x4096 .f32) (arg12 : Memref sig .tc .vmem S64x1024 .f32) (arg13 : Memref sig .tc .vmem S64x128 .f32) (arg14 : Memref sig .tc .vmem S16x4096 .i32)
    (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t1_loop.trips) : FVec F S8x128 .f32 :=
  distOf (trip_k0_t1.sl.r_292 arg7 arg11 arg12 arg14 X_arg7 X_arg11 X_arg12 X_arg14 k) (trip_k0_t1.sl.r_293 arg5 arg6 X_arg5 X_arg6 k)
    (View.readAt (Elt F) arg13.view (Rect.unit (s := S64x128) ![56, 0] S8x128.size inb_S64x128_S8x128_56_0).toLoadRect X_arg13)

/-- The pieces one trip of the loop stores, the last group of rows first. -/
theorem tripL_eq (𝒱 : Variants) (c : Dev nD) (bd : Option 𝒱.V) (i : grid0.Coords) (arg1 : Memref sig .tc .vmem S64x384 .bf16) (harg1 : arg1.IsWhole) (arg2 : Memref sig .tc .vmem S16x256x384 .bf16) (harg2 : arg2.IsWhole) (arg3 : Memref sig .tc .vmem S1000x384 .bf16) (harg3 : arg3.IsWhole) (arg4 : Memref sig .tc .vmem S16x4096 .i8) (harg4 : arg4.IsWhole) (arg5 : Memref sig .tc .vmem S1x4096 .i8) (harg5 : arg5.IsWhole) (arg6 : Memref sig .tc .vmem S1x256 .f32) (harg6 : arg6.IsWhole) (arg7 : Memref sig .tc .vmem S1x4096 .i32) (harg7 : arg7.IsWhole) (arg8 : Memref sig .tc .vmem S64x4096 .f32) (harg8 : arg8.IsWhole) (arg9 : Memref sig .tc .vmem S64x16x256 .f32) (harg9 : arg9.IsWhole) (arg10 : Memref sig .tc .vmem S64x1000 .f32) (harg10 : arg10.IsWhole) (arg11 : Memref sig .tc .vmem S64x4096 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S16x4096 .i32) (harg14 : arg14.IsWhole)
    (X_arg5 : BufTy.Contents (Elt F) arg5.view.ty) (X_arg6 : BufTy.Contents (Elt F) arg6.view.ty) (X_arg7 : BufTy.Contents (Elt F) arg7.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty)
    (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X_arg5 X_arg6 X_arg7 X_arg11 X_arg12 X_arg13 X_arg14 k
    = [⟨Rect.unit (k0_off25 k) S8x128.size (k0_off25_inb k), tripVal7 arg5 arg6 arg7 arg11 arg12 arg13 arg14 X_arg5 X_arg6 X_arg7 X_arg11 X_arg12 X_arg13 X_arg14 k⟩,
       ⟨Rect.unit (k0_off24 k) S8x128.size (k0_off24_inb k), tripVal6 arg5 arg6 arg7 arg11 arg12 arg13 arg14 X_arg5 X_arg6 X_arg7 X_arg11 X_arg12 X_arg13 X_arg14 k⟩,
       ⟨Rect.unit (k0_off23 k) S8x128.size (k0_off23_inb k), tripVal5 arg5 arg6 arg7 arg11 arg12 arg13 arg14 X_arg5 X_arg6 X_arg7 X_arg11 X_arg12 X_arg13 X_arg14 k⟩,
       ⟨Rect.unit (k0_off22 k) S8x128.size (k0_off22_inb k), tripVal4 arg5 arg6 arg7 arg11 arg12 arg13 arg14 X_arg5 X_arg6 X_arg7 X_arg11 X_arg12 X_arg13 X_arg14 k⟩,
       ⟨Rect.unit (k0_off21 k) S8x128.size (k0_off21_inb k), tripVal3 arg5 arg6 arg7 arg11 arg12 arg13 arg14 X_arg5 X_arg6 X_arg7 X_arg11 X_arg12 X_arg13 X_arg14 k⟩,
       ⟨Rect.unit (k0_off20 k) S8x128.size (k0_off20_inb k), tripVal2 arg5 arg6 arg7 arg11 arg12 arg13 arg14 X_arg5 X_arg6 X_arg7 X_arg11 X_arg12 X_arg13 X_arg14 k⟩,
       ⟨Rect.unit (k0_off19 k) S8x128.size (k0_off19_inb k), tripVal1 arg5 arg6 arg7 arg11 arg12 arg13 arg14 X_arg5 X_arg6 X_arg7 X_arg11 X_arg12 X_arg13 X_arg14 k⟩,
       ⟨Rect.unit (k0_off18 k) S8x128.size (k0_off18_inb k), tripVal0 arg5 arg6 arg7 arg11 arg12 arg13 arg14 X_arg5 X_arg6 X_arg7 X_arg11 X_arg12 X_arg13 X_arg14 k⟩] := by
  unfold tripL_k0_t1
  delta trip_k0_t1
  dsimp only
  rfl

end Cert.KernelIdeal.Gen

end
-- ==== Proof.KernelIdeal.Cells.lean ====
module

public import proofs.«01_k».proof.Proof.KernelIdeal.Trip

@[expose] public section

set_option maxRecDepth 16384

noncomputable section

namespace Cert.KernelIdeal.Gen

open Idealize.ShloMosaic Idealize.ShloMosaic.TcCoe Idealize.ShloMosaic.Tactic Idealize.ShloMosaic.WordCmp

/-! # What the loop over the 128-column steps leaves in the block of distances -/

/-- A table's entry at row `r` and column `c`, for any numbers `r` and `c`. -/
def cell2 {α : Type} {a b : ℕ} [NeZero a] [NeZero b] (X : (⟨2, ![a, b]⟩ : Shape).Idx → α) (r c : ℕ) : α :=
  X (ix2 (Fin.ofNat a r) (Fin.ofNat b c))

/-- An entry by its row and column. -/
theorem cell2_of_lt {α : Type} {a b : ℕ} [NeZero a] [NeZero b] (X : (⟨2, ![a, b]⟩ : Shape).Idx → α) (r c : ℕ)
    (hr : r < a) (hc : c < b) : cell2 X r c = X (ix2 ⟨r, hr⟩ ⟨c, hc⟩) := by
  unfold cell2
  congr 2
  · exact Fin.ext (Nat.mod_eq_of_lt hr)
  · exact Fin.ext (Nat.mod_eq_of_lt hc)

/-- A load of a box reads the table's entries from the box's corner on. -/
theorem ld_cell {κ : Kind} {sp : Space} {e : EltTy} {a b h w : ℕ} [NeZero a] [NeZero b]
    (v : View sig κ sp ⟨2, ![a, b]⟩ e) (X : v.ty.Contents (Elt Ideal)) (off : Fin 2 → ℕ) (r0 c0 : ℕ)
    (hoff : off = ![r0, c0]) (inb) (x : Fin h) (y : Fin w) :
    v.readAt (Elt Ideal) (Rect.unit (s := ⟨2, ![a, b]⟩) off ![h, w] inb).toLoadRect X (ix2 x y)
      = cell2 (v.read (Elt Ideal) X) (r0 + x.val) (c0 + y.val) := by
  subst hoff
  have h0 : r0 + h ≤ a := inb 0
  have h1 : c0 + w ≤ b := inb 1
  rw [cell2_of_lt _ _ _ (by omega) (by omega)]
  show v.read (Elt Ideal) X _ = v.read (Elt Ideal) X _
  refine congrArg _ (funext fun i => ?_)
  match i with
  | ⟨0, _⟩ => exact Fin.ext (by show r0 + 1 * x.val = r0 + x.val; omega)
  | ⟨1, _⟩ => exact Fin.ext (by show c0 + 1 * y.val = c0 + y.val; omega)

/-- The distance of the query `r` from the vector `c` of a block, from the tables: the query's squared norm, less
    twice the sum of the sixteen entries its codes name and the entry its list names, plus the norm its norm code
    names. -/
def distN (L : Vec Ideal S64x4096 .f32) (C : Vec Ideal S64x1024 .f32) (Q : Vec Ideal S64x128 .f32)
    (T : Vec Ideal S1x256 .f32) (W : Vec Ideal S16x4096 .i32) (N : Vec Ideal S1x4096 .i8) (I : Vec Ideal S1x4096 .i32)
    (r c : ℕ) : EReal :=
  (cell2 Q r (c % 128) - (Scalar.ofBits (F := Ideal) .f32 0x40000000#32 : EReal)
      * ((∑ m : Fin 16, cell2 L r (256 * m.val + (show BitVec 32 from cell2 W m.val c).toNat))
        + cell2 C r ((show BitVec 32 from cell2 I 0 c).toNat % 1024)))
    + cell2 T 0 (show BitVec 8 from cell2 N 0 c).toNat

/-- Sixteen terms added one after the other are their sum. -/
theorem sum16 (f : Fin 16 → EReal) :
    f 0 + f 1 + f 2 + f 3 + f 4 + f 5 + f 6 + f 7 + f 8 + f 9 + f 10 + f 11 + f 12 + f 13 + f 14 + f 15
      = ∑ m, f m := by
  rw [Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_eight]
  rfl

/-- One codebook's entry at a cell. -/
theorem look_cell (arg14 : Memref sig .tc .vmem S16x4096 .i32) (arg11 : Memref sig .tc .vmem S64x4096 .f32)
    (X_arg14 : BufTy.Contents (Elt Ideal) arg14.view.ty) (X_arg11 : BufTy.Contents (Elt Ideal) arg11.view.ty)
    (hW : ∀ j, (show BitVec 32 from arg14.view.read (Elt Ideal) X_arg14 j).toNat < 256)
    (off : Fin 2 → ℕ) (m k ro co co' : ℕ) (hoff : off = ![m, 128 * k]) (hco : co' = co + 128)
    (inb inb0 inb1) (r : Fin 8) (l : Fin 128) :
    look2 (F := Ideal)
        (rowCode (F := Ideal) (View.readAt (Elt Ideal) arg14.view (Rect.unit (s := S16x4096) off S1x128.size inb).toLoadRect X_arg14))
        (View.readAt (Elt Ideal) arg11.view (Rect.unit (s := S64x4096) ![ro, co] S8x128.size inb0).toLoadRect X_arg11)
        (View.readAt (Elt Ideal) arg11.view (Rect.unit (s := S64x4096) ![ro, co'] S8x128.size inb1).toLoadRect X_arg11)
        (ix2 r l)
      = cell2 (arg11.view.read (Elt Ideal) X_arg11) (ro + r.val)
          (co + (show BitVec 32 from cell2 (arg14.view.read (Elt Ideal) X_arg14) m (128 * k + l.val)).toNat) := by
  subst hco
  have e : rowCode (F := Ideal) (View.readAt (Elt Ideal) arg14.view (Rect.unit (s := S16x4096) off S1x128.size inb).toLoadRect X_arg14) (ix2 r l)
      = cell2 (arg14.view.read (Elt Ideal) X_arg14) m (128 * k + l.val) :=
    (rowCode_apply _ _).trans (ld_cell arg14.view X_arg14 off m (128 * k) hoff inb (0 : Fin 1) l)
  rw [look2_read _ _ _ (fun r n => cell2 (arg11.view.read (Elt Ideal) X_arg11) (ro + r.val) (co + n))
    (fun r l => (ld_cell arg11.view X_arg11 _ ro co rfl inb0 r l).trans (by rw [Nat.zero_add]))
    (fun r l => (ld_cell arg11.view X_arg11 _ ro (co + 128) rfl inb1 r l).trans (by rw [Nat.add_assoc])) r l
    (by rw [e]; exact hW _), e]

/-- The centroid's entry at a cell. -/
theorem cent_cell (arg7 : Memref sig .tc .vmem S1x4096 .i32) (arg12 : Memref sig .tc .vmem S64x1024 .f32)
    (X_arg7 : BufTy.Contents (Elt Ideal) arg7.view.ty) (X_arg12 : BufTy.Contents (Elt Ideal) arg12.view.ty)
    (off : Fin 2 → ℕ) (k ro : ℕ) (hoff : off = ![0, 128 * k]) (inb inb0 inb1 inb2 inb3 inb4 inb5 inb6 inb7)
    (r : Fin 8) (l : Fin 128) :
    look8 (F := Ideal)
        (rowId (F := Ideal) (View.readAt (Elt Ideal) arg7.view (Rect.unit (s := S1x4096) off S1x128.size inb).toLoadRect X_arg7))
        (View.readAt (Elt Ideal) arg12.view (Rect.unit (s := S64x1024) ![ro, 0] S8x128.size inb0).toLoadRect X_arg12)
        (View.readAt (Elt Ideal) arg12.view (Rect.unit (s := S64x1024) ![ro, 128] S8x128.size inb1).toLoadRect X_arg12)
        (View.readAt (Elt Ideal) arg12.view (Rect.unit (s := S64x1024) ![ro, 256] S8x128.size inb2).toLoadRect X_arg12)
        (View.readAt (Elt Ideal) arg12.view (Rect.unit (s := S64x1024) ![ro, 384] S8x128.size inb3).toLoadRect X_arg12)
        (View.readAt (Elt Ideal) arg12.view (Rect.unit (s := S64x1024) ![ro, 512] S8x128.size inb4).toLoadRect X_arg12)
        (View.readAt (Elt Ideal) arg12.view (Rect.unit (s := S64x1024) ![ro, 640] S8x128.size inb5).toLoadRect X_arg12)
        (View.readAt (Elt Ideal) arg12.view (Rect.unit (s := S64x1024) ![ro, 768] S8x128.size inb6).toLoadRect X_arg12)
        (View.readAt (Elt Ideal) arg12.view (Rect.unit (s := S64x1024) ![ro, 896] S8x128.size inb7).toLoadRect X_arg12)
        (ix2 r l)
      = cell2 (arg12.view.read (Elt Ideal) X_arg12) (ro + r.val)
          ((show BitVec 32 from cell2 (arg7.view.read (Elt Ideal) X_arg7) 0 (128 * k + l.val)).toNat % 1024) := by
  have e : rowId (F := Ideal) (View.readAt (Elt Ideal) arg7.view (Rect.unit (s := S1x4096) off S1x128.size inb).toLoadRect X_arg7) (ix2 r l)
      = cell2 (arg7.view.read (Elt Ideal) X_arg7) 0 (128 * k + l.val) :=
    (rowId_apply _ _).trans (ld_cell arg7.view X_arg7 off 0 (128 * k) hoff inb (0 : Fin 1) l)
  rw [look8_read _ _ _ _ _ _ _ _ _ (fun r n => cell2 (arg12.view.read (Elt Ideal) X_arg12) (ro + r.val) n)
    (fun r l => ld_cell arg12.view X_arg12 _ ro 0 rfl inb0 r l)
    (fun r l => ld_cell arg12.view X_arg12 _ ro 128 rfl inb1 r l)
    (fun r l => ld_cell arg12.view X_arg12 _ ro 256 rfl inb2 r l)
    (fun r l => ld_cell arg12.view X_arg12 _ ro 384 rfl inb3 r l)
    (fun r l => ld_cell arg12.view X_arg12 _ ro 512 rfl inb4 r l)
    (fun r l => ld_cell arg12.view X_arg12 _ ro 640 rfl inb5 r l)
    (fun r l => ld_cell arg12.view X_arg12 _ ro 768 rfl inb6 r l)
    (fun r l => ld_cell arg12.view X_arg12 _ ro 896 rfl inb7 r l)
    r l, e]

/-- The squared norm at a cell. -/
theorem norm_cell (arg5 : Memref sig .tc .vmem S1x4096 .i8) (arg6 : Memref sig .tc .vmem S1x256 .f32)
    (X_arg5 : BufTy.Contents (Elt Ideal) arg5.view.ty) (X_arg6 : BufTy.Contents (Elt Ideal) arg6.view.ty)
    (off : Fin 2 → ℕ) (k : ℕ) (hoff : off = ![0, 128 * k]) (inb inb0 inb1) (r : Fin 8) (l : Fin 128) :
    normOf (F := Ideal)
        (View.readAt (Elt Ideal) arg5.view (Rect.unit (s := S1x4096) off S1x128.size inb).toLoadRect X_arg5)
        (View.readAt (Elt Ideal) arg6.view (Rect.unit (s := S1x256) ![0, 128] S1x128.size inb1).toLoadRect X_arg6)
        (View.readAt (Elt Ideal) arg6.view (Rect.unit (s := S1x256) ![0, 0] S1x128.size inb0).toLoadRect X_arg6)
        (ix2 r l)
      = cell2 (arg6.view.read (Elt Ideal) X_arg6) 0
          (show BitVec 8 from cell2 (arg5.view.read (Elt Ideal) X_arg5) 0 (128 * k + l.val)).toNat := by
  rw [normOf_read _ _ _ (fun n => cell2 (arg6.view.read (Elt Ideal) X_arg6) 0 n)
    (fun l => (ld_cell arg6.view X_arg6 _ 0 0 rfl inb0 (0 : Fin 1) l).trans (by simp))
    (fun l => (ld_cell arg6.view X_arg6 _ 0 128 rfl inb1 (0 : Fin 1) l).trans (by simp)) r l]
  rw [ld_cell arg5.view X_arg5 off 0 (128 * k) hoff inb (0 : Fin 1) l]
  rfl

/-- A sum of two tiles at a cell. -/
theorem addf_at (a b : FVec Ideal S8x128 .f32) (j : S8x128.Idx) : (addf a b j : EReal) = a j + b j := rfl

/-- The distance at a cell. -/
theorem distOf_at (acc xn : FVec Ideal S8x128 .f32) (qn : Vec Ideal S8x128 .f32) (j : S8x128.Idx) :
    (distOf (F := Ideal) acc xn qn j : EReal)
      = (qn j - (Scalar.ofBits (F := Ideal) .f32 0x40000000#32 : EReal) * acc j) + xn j := rfl

/-- What a trip stores for the rows 0 to 7, at a cell. -/
theorem tripVal0_cell (arg5 : Memref sig .tc .vmem S1x4096 .i8) (arg6 : Memref sig .tc .vmem S1x256 .f32) (arg7 : Memref sig .tc .vmem S1x4096 .i32) (arg11 : Memref sig .tc .vmem S64x4096 .f32) (arg12 : Memref sig .tc .vmem S64x1024 .f32) (arg13 : Memref sig .tc .vmem S64x128 .f32) (arg14 : Memref sig .tc .vmem S16x4096 .i32)
    (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (k : Fin k0_t1_loop.trips)
    (hW : ∀ j, (show BitVec 32 from arg14.view.read (Elt Ideal) X_arg14 j).toNat < 256) (r : Fin 8) (l : Fin 128) :
    tripVal0 (F := Ideal) arg5 arg6 arg7 arg11 arg12 arg13 arg14 X_arg5 X_arg6 X_arg7 X_arg11 X_arg12 X_arg13 X_arg14 k (ix2 r l)
      = distN (arg11.view.read (Elt Ideal) X_arg11) (arg12.view.read (Elt Ideal) X_arg12) (arg13.view.read (Elt Ideal) X_arg13)
          (arg6.view.read (Elt Ideal) X_arg6) (arg14.view.read (Elt Ideal) X_arg14) (arg5.view.read (Elt Ideal) X_arg5) (arg7.view.read (Elt Ideal) X_arg7) (0 + r.val) (128 * k.val + l.val) := by
  unfold tripVal0
  rw [acc17_0, acc16_0, norm_eq, distOf_at]
  simp only [addf_at]
  rw [norm_cell arg5 arg6 X_arg5 X_arg6 _ k.val (k0_off17_eq k) _ _ _ r l,
    cent_cell arg7 arg12 X_arg7 X_arg12 _ k.val 0 (k0_off17_eq k) _ _ _ _ _ _ _ _ _ r l,
    ld_cell arg13.view X_arg13 _ 0 0 rfl _ r l,
    look_cell arg14 arg11 X_arg14 X_arg11 hW _ 0 k.val 0 0 128 (k0_off1_eq k) rfl _ _ _ r l,
    look_cell arg14 arg11 X_arg14 X_arg11 hW _ 1 k.val 0 256 384 (k0_off2_eq k) rfl _ _ _ r l,
    look_cell arg14 arg11 X_arg14 X_arg11 hW _ 2 k.val 0 512 640 (k0_off3_eq k) rfl _ _ _ r l,
    look_cell arg14 arg11 X_arg14 X_arg11 hW _ 3 k.val 0 768 896 (k0_off4_eq k) rfl _ _ _ r l,
    look_cell arg14 arg11 X_arg14 X_arg11 hW _ 4 k.val 0 1024 1152 (k0_off5_eq k) rfl _ _ _ r l,
    look_cell arg14 arg11 X_arg14 X_arg11 hW _ 5 k.val 0 1280 1408 (k0_off6_eq k) rfl _ _ _ r l,
    look_cell arg14 arg11 X_arg14 X_arg11 hW _ 6 k.val 0 1536 1664 (k0_off7_eq k) rfl _ _ _ r l,
    look_cell arg14 arg11 X_arg14 X_arg11 hW _ 7 k.val 0 1792 1920 (k0_off8_eq k) rfl _ _ _ r l,
    look_cell arg14 arg11 X_arg14 X_arg11 hW _ 8 k.val 0 2048 2176 (k0_off9_eq k) rfl _ _ _ r l,
    look_cell arg14 arg11 X_arg14 X_arg11 hW _ 9 k.val 0 2304 2432 (k0_off10_eq k) rfl _ _ _ r l,
    look_cell arg14 arg11 X_arg14 X_arg11 hW _ 10 k.val 0 2560 2688 (k0_off11_eq k) rfl _ _ _ r l,
    look_cell arg14 arg11 X_arg14 X_arg11 hW _ 11 k.val 0 2816 2944 (k0_off12_eq k) rfl _ _ _ r l,
    look_cell arg14 arg11 X_arg14 X_arg11 hW _ 12 k.val 0 3072 3200 (k0_off13_eq k) rfl _ _ _ r l,
    look_cell arg14 arg11 X_arg14 X_arg11 hW _ 13 k.val 0 3328 3456 (k0_off14_eq k) rfl _ _ _ r l,
    look_cell arg14 arg11 X_arg14 X_arg11 hW _ 14 k.val 0 3584 3712 (k0_off15_eq k) rfl _ _ _ r l,
    look_cell arg14 arg11 X_arg14 X_arg11 hW _ 15 k.val 0 3840 3968 (k0_off16_eq k) rfl _ _ _ r l]
  unfold distN
  rw [show (128 * k.val + l.val) % 128 = 0 + l.val by omega, ← sum16]
  rfl

/-- What a trip stores for the rows 8 to 15, at a cell. -/
theorem tripVal1_cell (arg5 : Memref sig .tc .vmem S1x4096 .i8) (arg6 : Memref sig .tc .vmem S1x256 .f32) (arg7 : Memref sig .tc .vmem S1x4096 .i32) (arg11 : Memref sig .tc .vmem S64x4096 .f32) (arg12 : Memref sig .tc .vmem S64x1024 .f32) (arg13 : Memref sig .tc .vmem S64x128 .f32) (arg14 : Memref sig .tc .vmem S16x4096 .i32)
    (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (k : Fin k0_t1_loop.trips)
    (hW : ∀ j, (show BitVec 32 from arg14.view.read (Elt Ideal) X_arg14 j).toNat < 256) (r : Fin 8) (l : Fin 128) :
    tripVal1 (F := Ideal) arg5 arg6 arg7 arg11 arg12 arg13 arg14 X_arg5 X_arg6 X_arg7 X_arg11 X_arg12 X_arg13 X_arg14 k (ix2 r l)
      = distN (arg11.view.read (Elt Ideal) X_arg11) (arg12.view.read (Elt Ideal) X_arg12) (arg13.view.read (Elt Ideal) X_arg13)
          (arg6.view.read (Elt Ideal) X_arg6) (arg14.view.read (Elt Ideal) X_arg14) (arg5.view.read (Elt Ideal) X_arg5) (arg7.view.read (Elt Ideal) X_arg7) (8 + r.val) (128 * k.val + l.val) := by
  unfold tripVal1
  rw [acc17_1, acc16_1, norm_eq, distOf_at]
  simp only [addf_at]
  rw [norm_cell arg5 arg6 X_arg5 X_arg6 _ k.val (k0_off17_eq k) _ _ _ r l,
    cent_cell arg7 arg12 X_arg7 X_arg12 _ k.val 8 (k0_off17_eq k) _ _ _ _ _ _ _ _ _ r l,
    ld_cell arg13.view X_arg13 _ 8 0 rfl _ r l,
    look_cell arg14 arg11 X_arg14 X_arg11 hW _ 0 k.val 8 0 128 (k0_off1_eq k) rfl _ _ _ r l,
    look_cell arg14 arg11 X_arg14 X_arg11 hW _ 1 k.val 8 256 384 (k0_off2_eq k) rfl _ _ _ r l,
    look_cell arg14 arg11 X_arg14 X_arg11 hW _ 2 k.val 8 512 640 (k0_off3_eq k) rfl _ _ _ r l,
    look_cell arg14 arg11 X_arg14 X_arg11 hW _ 3 k.val 8 768 896 (k0_off4_eq k) rfl _ _ _ r l,
    look_cell arg14 arg11 X_arg14 X_arg11 hW _ 4 k.val 8 1024 1152 (k0_off5_eq k) rfl _ _ _ r l,
    look_cell arg14 arg11 X_arg14 X_arg11 hW _ 5 k.val 8 1280 1408 (k0_off6_eq k) rfl _ _ _ r l,
    look_cell arg14 arg11 X_arg14 X_arg11 hW _ 6 k.val 8 1536 1664 (k0_off7_eq k) rfl _ _ _ r l,
    look_cell arg14 arg11 X_arg14 X_arg11 hW _ 7 k.val 8 1792 1920 (k0_off8_eq k) rfl _ _ _ r l,
    look_cell arg14 arg11 X_arg14 X_arg11 hW _ 8 k.val 8 2048 2176 (k0_off9_eq k) rfl _ _ _ r l,
    look_cell arg14 arg11 X_arg14 X_arg11 hW _ 9 k.val 8 2304 2432 (k0_off10_eq k) rfl _ _ _ r l,
    look_cell arg14 arg11 X_arg14 X_arg11 hW _ 10 k.val 8 2560 2688 (k0_off11_eq k) rfl _ _ _ r l,
    look_cell arg14 arg11 X_arg14 X_arg11 hW _ 11 k.val 8 2816 2944 (k0_off12_eq k) rfl _ _ _ r l,
    look_cell arg14 arg11 X_arg14 X_arg11 hW _ 12 k.val 8 3072 3200 (k0_off13_eq k) rfl _ _ _ r l,
    look_cell arg14 arg11 X_arg14 X_arg11 hW _ 13 k.val 8 3328 3456 (k0_off14_eq k) rfl _ _ _ r l,
    look_cell arg14 arg11 X_arg14 X_arg11 hW _ 14 k.val 8 3584 3712 (k0_off15_eq k) rfl _ _ _ r l,
    look_cell arg14 arg11 X_arg14 X_arg11 hW _ 15 k.val 8 3840 3968 (k0_off16_eq k) rfl _ _ _ r l]
  unfold distN
  rw [show (128 * k.val + l.val) % 128 = 0 + l.val by omega, ← sum16]
  rfl

/-- What a trip stores for the rows 16 to 23, at a cell. -/
theorem tripVal2_cell (arg5 : Memref sig .tc .vmem S1x4096 .i8) (arg6 : Memref sig .tc .vmem S1x256 .f32) (arg7 : Memref sig .tc .vmem S1x4096 .i32) (arg11 : Memref sig .tc .vmem S64x4096 .f32) (arg12 : Memref sig .tc .vmem S64x1024 .f32) (arg13 : Memref sig .tc .vmem S64x128 .f32) (arg14 : Memref sig .tc .vmem S16x4096 .i32)
    (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (k : Fin k0_t1_loop.trips)
    (hW : ∀ j, (show BitVec 32 from arg14.view.read (Elt Ideal) X_arg14 j).toNat < 256) (r : Fin 8) (l : Fin 128) :
    tripVal2 (F := Ideal) arg5 arg6 arg7 arg11 arg12 arg13 arg14 X_arg5 X_arg6 X_arg7 X_arg11 X_arg12 X_arg13 X_arg14 k (ix2 r l)
      = distN (arg11.view.read (Elt Ideal) X_arg11) (arg12.view.read (Elt Ideal) X_arg12) (arg13.view.read (Elt Ideal) X_arg13)
          (arg6.view.read (Elt Ideal) X_arg6) (arg14.view.read (Elt Ideal) X_arg14) (arg5.view.read (Elt Ideal) X_arg5) (arg7.view.read (Elt Ideal) X_arg7) (16 + r.val) (128 * k.val + l.val) := by
  unfold tripVal2
  rw [acc17_2, acc16_2, norm_eq, distOf_at]
  simp only [addf_at]
  rw [norm_cell arg5 arg6 X_arg5 X_arg6 _ k.val (k0_off17_eq k) _ _ _ r l,
    cent_cell arg7 arg12 X_arg7 X_arg12 _ k.val 16 (k0_off17_eq k) _ _ _ _ _ _ _ _ _ r l,
    ld_cell arg13.view X_arg13 _ 16 0 rfl _ r l,
    look_cell arg14 arg11 X_arg14 X_arg11 hW _ 0 k.val 16 0 128 (k0_off1_eq k) rfl _ _ _ r l,
    look_cell arg14 arg11 X_arg14 X_arg11 hW _ 1 k.val 16 256 384 (k0_off2_eq k) rfl _ _ _ r l,
    look_cell arg14 arg11 X_arg14 X_arg11 hW _ 2 k.val 16 512 640 (k0_off3_eq k) rfl _ _ _ r l,
    look_cell arg14 arg11 X_arg14 X_arg11 hW _ 3 k.val 16 768 896 (k0_off4_eq k) rfl _ _ _ r l,
    look_cell arg14 arg11 X_arg14 X_arg11 hW _ 4 k.val 16 1024 1152 (k0_off5_eq k) rfl _ _ _ r l,
    look_cell arg14 arg11 X_arg14 X_arg11 hW _ 5 k.val 16 1280 1408 (k0_off6_eq k) rfl _ _ _ r l,
    look_cell arg14 arg11 X_arg14 X_arg11 hW _ 6 k.val 16 1536 1664 (k0_off7_eq k) rfl _ _ _ r l,
    look_cell arg14 arg11 X_arg14 X_arg11 hW _ 7 k.val 16 1792 1920 (k0_off8_eq k) rfl _ _ _ r l,
    look_cell arg14 arg11 X_arg14 X_arg11 hW _ 8 k.val 16 2048 2176 (k0_off9_eq k) rfl _ _ _ r l,
    look_cell arg14 arg11 X_arg14 X_arg11 hW _ 9 k.val 16 2304 2432 (k0_off10_eq k) rfl _ _ _ r l,
    look_cell arg14 arg11 X_arg14 X_arg11 hW _ 10 k.val 16 2560 2688 (k0_off11_eq k) rfl _ _ _ r l,
    look_cell arg14 arg11 X_arg14 X_arg11 hW _ 11 k.val 16 2816 2944 (k0_off12_eq k) rfl _ _ _ r l,
    look_cell arg14 arg11 X_arg14 X_arg11 hW _ 12 k.val 16 3072 3200 (k0_off13_eq k) rfl _ _ _ r l,
    look_cell arg14 arg11 X_arg14 X_arg11 hW _ 13 k.val 16 3328 3456 (k0_off14_eq k) rfl _ _ _ r l,
    look_cell arg14 arg11 X_arg14 X_arg11 hW _ 14 k.val 16 3584 3712 (k0_off15_eq k) rfl _ _ _ r l,
    look_cell arg14 arg11 X_arg14 X_arg11 hW _ 15 k.val 16 3840 3968 (k0_off16_eq k) rfl _ _ _ r l]
  unfold distN
  rw [show (128 * k.val + l.val) % 128 = 0 + l.val by omega, ← sum16]
  rfl

/-- What a trip stores for the rows 24 to 31, at a cell. -/
theorem tripVal3_cell (arg5 : Memref sig .tc .vmem S1x4096 .i8) (arg6 : Memref sig .tc .vmem S1x256 .f32) (arg7 : Memref sig .tc .vmem S1x4096 .i32) (arg11 : Memref sig .tc .vmem S64x4096 .f32) (arg12 : Memref sig .tc .vmem S64x1024 .f32) (arg13 : Memref sig .tc .vmem S64x128 .f32) (arg14 : Memref sig .tc .vmem S16x4096 .i32)
    (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (k : Fin k0_t1_loop.trips)
    (hW : ∀ j, (show BitVec 32 from arg14.view.read (Elt Ideal) X_arg14 j).toNat < 256) (r : Fin 8) (l : Fin 128) :
    tripVal3 (F := Ideal) arg5 arg6 arg7 arg11 arg12 arg13 arg14 X_arg5 X_arg6 X_arg7 X_arg11 X_arg12 X_arg13 X_arg14 k (ix2 r l)
      = distN (arg11.view.read (Elt Ideal) X_arg11) (arg12.view.read (Elt Ideal) X_arg12) (arg13.view.read (Elt Ideal) X_arg13)
          (arg6.view.read (Elt Ideal) X_arg6) (arg14.view.read (Elt Ideal) X_arg14) (arg5.view.read (Elt Ideal) X_arg5) (arg7.view.read (Elt Ideal) X_arg7) (24 + r.val) (128 * k.val + l.val) := by
  unfold tripVal3
  rw [acc17_3, acc16_3, norm_eq, distOf_at]
  simp only [addf_at]
  rw [norm_cell arg5 arg6 X_arg5 X_arg6 _ k.val (k0_off17_eq k) _ _ _ r l,
    cent_cell arg7 arg12 X_arg7 X_arg12 _ k.val 24 (k0_off17_eq k) _ _ _ _ _ _ _ _ _ r l,
    ld_cell arg13.view X_arg13 _ 24 0 rfl _ r l,
    look_cell arg14 arg11 X_arg14 X_arg11 hW _ 0 k.val 24 0 128 (k0_off1_eq k) rfl _ _ _ r l,
    look_cell arg14 arg11 X_arg14 X_arg11 hW _ 1 k.val 24 256 384 (k0_off2_eq k) rfl _ _ _ r l,
    look_cell arg14 arg11 X_arg14 X_arg11 hW _ 2 k.val 24 512 640 (k0_off3_eq k) rfl _ _ _ r l,
    look_cell arg14 arg11 X_arg14 X_arg11 hW _ 3 k.val 24 768 896 (k0_off4_eq k) rfl _ _ _ r l,
    look_cell arg14 arg11 X_arg14 X_arg11 hW _ 4 k.val 24 1024 1152 (k0_off5_eq k) rfl _ _ _ r l,
    look_cell arg14 arg11 X_arg14 X_arg11 hW _ 5 k.val 24 1280 1408 (k0_off6_eq k) rfl _ _ _ r l,
    look_cell arg14 arg11 X_arg14 X_arg11 hW _ 6 k.val 24 1536 1664 (k0_off7_eq k) rfl _ _ _ r l,
    look_cell arg14 arg11 X_arg14 X_arg11 hW _ 7 k.val 24 1792 1920 (k0_off8_eq k) rfl _ _ _ r l,
    look_cell arg14 arg11 X_arg14 X_arg11 hW _ 8 k.val 24 2048 2176 (k0_off9_eq k) rfl _ _ _ r l,
    look_cell arg14 arg11 X_arg14 X_arg11 hW _ 9 k.val 24 2304 2432 (k0_off10_eq k) rfl _ _ _ r l,
    look_cell arg14 arg11 X_arg14 X_arg11 hW _ 10 k.val 24 2560 2688 (k0_off11_eq k) rfl _ _ _ r l,
    look_cell arg14 arg11 X_arg14 X_arg11 hW _ 11 k.val 24 2816 2944 (k0_off12_eq k) rfl _ _ _ r l,
    look_cell arg14 arg11 X_arg14 X_arg11 hW _ 12 k.val 24 3072 3200 (k0_off13_eq k) rfl _ _ _ r l,
    look_cell arg14 arg11 X_arg14 X_arg11 hW _ 13 k.val 24 3328 3456 (k0_off14_eq k) rfl _ _ _ r l,
    look_cell arg14 arg11 X_arg14 X_arg11 hW _ 14 k.val 24 3584 3712 (k0_off15_eq k) rfl _ _ _ r l,
    look_cell arg14 arg11 X_arg14 X_arg11 hW _ 15 k.val 24 3840 3968 (k0_off16_eq k) rfl _ _ _ r l]
  unfold distN
  rw [show (128 * k.val + l.val) % 128 = 0 + l.val by omega, ← sum16]
  rfl

/-- What a trip stores for the rows 32 to 39, at a cell. -/
theorem tripVal4_cell (arg5 : Memref sig .tc .vmem S1x4096 .i8) (arg6 : Memref sig .tc .vmem S1x256 .f32) (arg7 : Memref sig .tc .vmem S1x4096 .i32) (arg11 : Memref sig .tc .vmem S64x4096 .f32) (arg12 : Memref sig .tc .vmem S64x1024 .f32) (arg13 : Memref sig .tc .vmem S64x128 .f32) (arg14 : Memref sig .tc .vmem S16x4096 .i32)
    (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (k : Fin k0_t1_loop.trips)
    (hW : ∀ j, (show BitVec 32 from arg14.view.read (Elt Ideal) X_arg14 j).toNat < 256) (r : Fin 8) (l : Fin 128) :
    tripVal4 (F := Ideal) arg5 arg6 arg7 arg11 arg12 arg13 arg14 X_arg5 X_arg6 X_arg7 X_arg11 X_arg12 X_arg13 X_arg14 k (ix2 r l)
      = distN (arg11.view.read (Elt Ideal) X_arg11) (arg12.view.read (Elt Ideal) X_arg12) (arg13.view.read (Elt Ideal) X_arg13)
          (arg6.view.read (Elt Ideal) X_arg6) (arg14.view.read (Elt Ideal) X_arg14) (arg5.view.read (Elt Ideal) X_arg5) (arg7.view.read (Elt Ideal) X_arg7) (32 + r.val) (128 * k.val + l.val) := by
  unfold tripVal4
  rw [acc17_4, acc16_4, norm_eq, distOf_at]
  simp only [addf_at]
  rw [norm_cell arg5 arg6 X_arg5 X_arg6 _ k.val (k0_off17_eq k) _ _ _ r l,
    cent_cell arg7 arg12 X_arg7 X_arg12 _ k.val 32 (k0_off17_eq k) _ _ _ _ _ _ _ _ _ r l,
    ld_cell arg13.view X_arg13 _ 32 0 rfl _ r l,
    look_cell arg14 arg11 X_arg14 X_arg11 hW _ 0 k.val 32 0 128 (k0_off1_eq k) rfl _ _ _ r l,
    look_cell arg14 arg11 X_arg14 X_arg11 hW _ 1 k.val 32 256 384 (k0_off2_eq k) rfl _ _ _ r l,
    look_cell arg14 arg11 X_arg14 X_arg11 hW _ 2 k.val 32 512 640 (k0_off3_eq k) rfl _ _ _ r l,
    look_cell arg14 arg11 X_arg14 X_arg11 hW _ 3 k.val 32 768 896 (k0_off4_eq k) rfl _ _ _ r l,
    look_cell arg14 arg11 X_arg14 X_arg11 hW _ 4 k.val 32 1024 1152 (k0_off5_eq k) rfl _ _ _ r l,
    look_cell arg14 arg11 X_arg14 X_arg11 hW _ 5 k.val 32 1280 1408 (k0_off6_eq k) rfl _ _ _ r l,
    look_cell arg14 arg11 X_arg14 X_arg11 hW _ 6 k.val 32 1536 1664 (k0_off7_eq k) rfl _ _ _ r l,
    look_cell arg14 arg11 X_arg14 X_arg11 hW _ 7 k.val 32 1792 1920 (k0_off8_eq k) rfl _ _ _ r l,
    look_cell arg14 arg11 X_arg14 X_arg11 hW _ 8 k.val 32 2048 2176 (k0_off9_eq k) rfl _ _ _ r l,
    look_cell arg14 arg11 X_arg14 X_arg11 hW _ 9 k.val 32 2304 2432 (k0_off10_eq k) rfl _ _ _ r l,
    look_cell arg14 arg11 X_arg14 X_arg11 hW _ 10 k.val 32 2560 2688 (k0_off11_eq k) rfl _ _ _ r l,
    look_cell arg14 arg11 X_arg14 X_arg11 hW _ 11 k.val 32 2816 2944 (k0_off12_eq k) rfl _ _ _ r l,
    look_cell arg14 arg11 X_arg14 X_arg11 hW _ 12 k.val 32 3072 3200 (k0_off13_eq k) rfl _ _ _ r l,
    look_cell arg14 arg11 X_arg14 X_arg11 hW _ 13 k.val 32 3328 3456 (k0_off14_eq k) rfl _ _ _ r l,
    look_cell arg14 arg11 X_arg14 X_arg11 hW _ 14 k.val 32 3584 3712 (k0_off15_eq k) rfl _ _ _ r l,
    look_cell arg14 arg11 X_arg14 X_arg11 hW _ 15 k.val 32 3840 3968 (k0_off16_eq k) rfl _ _ _ r l]
  unfold distN
  rw [show (128 * k.val + l.val) % 128 = 0 + l.val by omega, ← sum16]
  rfl

/-- What a trip stores for the rows 40 to 47, at a cell. -/
theorem tripVal5_cell (arg5 : Memref sig .tc .vmem S1x4096 .i8) (arg6 : Memref sig .tc .vmem S1x256 .f32) (arg7 : Memref sig .tc .vmem S1x4096 .i32) (arg11 : Memref sig .tc .vmem S64x4096 .f32) (arg12 : Memref sig .tc .vmem S64x1024 .f32) (arg13 : Memref sig .tc .vmem S64x128 .f32) (arg14 : Memref sig .tc .vmem S16x4096 .i32)
    (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (k : Fin k0_t1_loop.trips)
    (hW : ∀ j, (show BitVec 32 from arg14.view.read (Elt Ideal) X_arg14 j).toNat < 256) (r : Fin 8) (l : Fin 128) :
    tripVal5 (F := Ideal) arg5 arg6 arg7 arg11 arg12 arg13 arg14 X_arg5 X_arg6 X_arg7 X_arg11 X_arg12 X_arg13 X_arg14 k (ix2 r l)
      = distN (arg11.view.read (Elt Ideal) X_arg11) (arg12.view.read (Elt Ideal) X_arg12) (arg13.view.read (Elt Ideal) X_arg13)
          (arg6.view.read (Elt Ideal) X_arg6) (arg14.view.read (Elt Ideal) X_arg14) (arg5.view.read (Elt Ideal) X_arg5) (arg7.view.read (Elt Ideal) X_arg7) (40 + r.val) (128 * k.val + l.val) := by
  unfold tripVal5
  rw [acc17_5, acc16_5, norm_eq, distOf_at]
  simp only [addf_at]
  rw [norm_cell arg5 arg6 X_arg5 X_arg6 _ k.val (k0_off17_eq k) _ _ _ r l,
    cent_cell arg7 arg12 X_arg7 X_arg12 _ k.val 40 (k0_off17_eq k) _ _ _ _ _ _ _ _ _ r l,
    ld_cell arg13.view X_arg13 _ 40 0 rfl _ r l,
    look_cell arg14 arg11 X_arg14 X_arg11 hW _ 0 k.val 40 0 128 (k0_off1_eq k) rfl _ _ _ r l,
    look_cell arg14 arg11 X_arg14 X_arg11 hW _ 1 k.val 40 256 384 (k0_off2_eq k) rfl _ _ _ r l,
    look_cell arg14 arg11 X_arg14 X_arg11 hW _ 2 k.val 40 512 640 (k0_off3_eq k) rfl _ _ _ r l,
    look_cell arg14 arg11 X_arg14 X_arg11 hW _ 3 k.val 40 768 896 (k0_off4_eq k) rfl _ _ _ r l,
    look_cell arg14 arg11 X_arg14 X_arg11 hW _ 4 k.val 40 1024 1152 (k0_off5_eq k) rfl _ _ _ r l,
    look_cell arg14 arg11 X_arg14 X_arg11 hW _ 5 k.val 40 1280 1408 (k0_off6_eq k) rfl _ _ _ r l,
    look_cell arg14 arg11 X_arg14 X_arg11 hW _ 6 k.val 40 1536 1664 (k0_off7_eq k) rfl _ _ _ r l,
    look_cell arg14 arg11 X_arg14 X_arg11 hW _ 7 k.val 40 1792 1920 (k0_off8_eq k) rfl _ _ _ r l,
    look_cell arg14 arg11 X_arg14 X_arg11 hW _ 8 k.val 40 2048 2176 (k0_off9_eq k) rfl _ _ _ r l,
    look_cell arg14 arg11 X_arg14 X_arg11 hW _ 9 k.val 40 2304 2432 (k0_off10_eq k) rfl _ _ _ r l,
    look_cell arg14 arg11 X_arg14 X_arg11 hW _ 10 k.val 40 2560 2688 (k0_off11_eq k) rfl _ _ _ r l,
    look_cell arg14 arg11 X_arg14 X_arg11 hW _ 11 k.val 40 2816 2944 (k0_off12_eq k) rfl _ _ _ r l,
    look_cell arg14 arg11 X_arg14 X_arg11 hW _ 12 k.val 40 3072 3200 (k0_off13_eq k) rfl _ _ _ r l,
    look_cell arg14 arg11 X_arg14 X_arg11 hW _ 13 k.val 40 3328 3456 (k0_off14_eq k) rfl _ _ _ r l,
    look_cell arg14 arg11 X_arg14 X_arg11 hW _ 14 k.val 40 3584 3712 (k0_off15_eq k) rfl _ _ _ r l,
    look_cell arg14 arg11 X_arg14 X_arg11 hW _ 15 k.val 40 3840 3968 (k0_off16_eq k) rfl _ _ _ r l]
  unfold distN
  rw [show (128 * k.val + l.val) % 128 = 0 + l.val by omega, ← sum16]
  rfl

/-- What a trip stores for the rows 48 to 55, at a cell. -/
theorem tripVal6_cell (arg5 : Memref sig .tc .vmem S1x4096 .i8) (arg6 : Memref sig .tc .vmem S1x256 .f32) (arg7 : Memref sig .tc .vmem S1x4096 .i32) (arg11 : Memref sig .tc .vmem S64x4096 .f32) (arg12 : Memref sig .tc .vmem S64x1024 .f32) (arg13 : Memref sig .tc .vmem S64x128 .f32) (arg14 : Memref sig .tc .vmem S16x4096 .i32)
    (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (k : Fin k0_t1_loop.trips)
    (hW : ∀ j, (show BitVec 32 from arg14.view.read (Elt Ideal) X_arg14 j).toNat < 256) (r : Fin 8) (l : Fin 128) :
    tripVal6 (F := Ideal) arg5 arg6 arg7 arg11 arg12 arg13 arg14 X_arg5 X_arg6 X_arg7 X_arg11 X_arg12 X_arg13 X_arg14 k (ix2 r l)
      = distN (arg11.view.read (Elt Ideal) X_arg11) (arg12.view.read (Elt Ideal) X_arg12) (arg13.view.read (Elt Ideal) X_arg13)
          (arg6.view.read (Elt Ideal) X_arg6) (arg14.view.read (Elt Ideal) X_arg14) (arg5.view.read (Elt Ideal) X_arg5) (arg7.view.read (Elt Ideal) X_arg7) (48 + r.val) (128 * k.val + l.val) := by
  unfold tripVal6
  rw [acc17_6, acc16_6, norm_eq, distOf_at]
  simp only [addf_at]
  rw [norm_cell arg5 arg6 X_arg5 X_arg6 _ k.val (k0_off17_eq k) _ _ _ r l,
    cent_cell arg7 arg12 X_arg7 X_arg12 _ k.val 48 (k0_off17_eq k) _ _ _ _ _ _ _ _ _ r l,
    ld_cell arg13.view X_arg13 _ 48 0 rfl _ r l,
    look_cell arg14 arg11 X_arg14 X_arg11 hW _ 0 k.val 48 0 128 (k0_off1_eq k) rfl _ _ _ r l,
    look_cell arg14 arg11 X_arg14 X_arg11 hW _ 1 k.val 48 256 384 (k0_off2_eq k) rfl _ _ _ r l,
    look_cell arg14 arg11 X_arg14 X_arg11 hW _ 2 k.val 48 512 640 (k0_off3_eq k) rfl _ _ _ r l,
    look_cell arg14 arg11 X_arg14 X_arg11 hW _ 3 k.val 48 768 896 (k0_off4_eq k) rfl _ _ _ r l,
    look_cell arg14 arg11 X_arg14 X_arg11 hW _ 4 k.val 48 1024 1152 (k0_off5_eq k) rfl _ _ _ r l,
    look_cell arg14 arg11 X_arg14 X_arg11 hW _ 5 k.val 48 1280 1408 (k0_off6_eq k) rfl _ _ _ r l,
    look_cell arg14 arg11 X_arg14 X_arg11 hW _ 6 k.val 48 1536 1664 (k0_off7_eq k) rfl _ _ _ r l,
    look_cell arg14 arg11 X_arg14 X_arg11 hW _ 7 k.val 48 1792 1920 (k0_off8_eq k) rfl _ _ _ r l,
    look_cell arg14 arg11 X_arg14 X_arg11 hW _ 8 k.val 48 2048 2176 (k0_off9_eq k) rfl _ _ _ r l,
    look_cell arg14 arg11 X_arg14 X_arg11 hW _ 9 k.val 48 2304 2432 (k0_off10_eq k) rfl _ _ _ r l,
    look_cell arg14 arg11 X_arg14 X_arg11 hW _ 10 k.val 48 2560 2688 (k0_off11_eq k) rfl _ _ _ r l,
    look_cell arg14 arg11 X_arg14 X_arg11 hW _ 11 k.val 48 2816 2944 (k0_off12_eq k) rfl _ _ _ r l,
    look_cell arg14 arg11 X_arg14 X_arg11 hW _ 12 k.val 48 3072 3200 (k0_off13_eq k) rfl _ _ _ r l,
    look_cell arg14 arg11 X_arg14 X_arg11 hW _ 13 k.val 48 3328 3456 (k0_off14_eq k) rfl _ _ _ r l,
    look_cell arg14 arg11 X_arg14 X_arg11 hW _ 14 k.val 48 3584 3712 (k0_off15_eq k) rfl _ _ _ r l,
    look_cell arg14 arg11 X_arg14 X_arg11 hW _ 15 k.val 48 3840 3968 (k0_off16_eq k) rfl _ _ _ r l]
  unfold distN
  rw [show (128 * k.val + l.val) % 128 = 0 + l.val by omega, ← sum16]
  rfl

/-- What a trip stores for the rows 56 to 63, at a cell. -/
theorem tripVal7_cell (arg5 : Memref sig .tc .vmem S1x4096 .i8) (arg6 : Memref sig .tc .vmem S1x256 .f32) (arg7 : Memref sig .tc .vmem S1x4096 .i32) (arg11 : Memref sig .tc .vmem S64x4096 .f32) (arg12 : Memref sig .tc .vmem S64x1024 .f32) (arg13 : Memref sig .tc .vmem S64x128 .f32) (arg14 : Memref sig .tc .vmem S16x4096 .i32)
    (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (k : Fin k0_t1_loop.trips)
    (hW : ∀ j, (show BitVec 32 from arg14.view.read (Elt Ideal) X_arg14 j).toNat < 256) (r : Fin 8) (l : Fin 128) :
    tripVal7 (F := Ideal) arg5 arg6 arg7 arg11 arg12 arg13 arg14 X_arg5 X_arg6 X_arg7 X_arg11 X_arg12 X_arg13 X_arg14 k (ix2 r l)
      = distN (arg11.view.read (Elt Ideal) X_arg11) (arg12.view.read (Elt Ideal) X_arg12) (arg13.view.read (Elt Ideal) X_arg13)
          (arg6.view.read (Elt Ideal) X_arg6) (arg14.view.read (Elt Ideal) X_arg14) (arg5.view.read (Elt Ideal) X_arg5) (arg7.view.read (Elt Ideal) X_arg7) (56 + r.val) (128 * k.val + l.val) := by
  unfold tripVal7
  rw [acc17_7, acc16_7, norm_eq, distOf_at]
  simp only [addf_at]
  rw [norm_cell arg5 arg6 X_arg5 X_arg6 _ k.val (k0_off17_eq k) _ _ _ r l,
    cent_cell arg7 arg12 X_arg7 X_arg12 _ k.val 56 (k0_off17_eq k) _ _ _ _ _ _ _ _ _ r l,
    ld_cell arg13.view X_arg13 _ 56 0 rfl _ r l,
    look_cell arg14 arg11 X_arg14 X_arg11 hW _ 0 k.val 56 0 128 (k0_off1_eq k) rfl _ _ _ r l,
    look_cell arg14 arg11 X_arg14 X_arg11 hW _ 1 k.val 56 256 384 (k0_off2_eq k) rfl _ _ _ r l,
    look_cell arg14 arg11 X_arg14 X_arg11 hW _ 2 k.val 56 512 640 (k0_off3_eq k) rfl _ _ _ r l,
    look_cell arg14 arg11 X_arg14 X_arg11 hW _ 3 k.val 56 768 896 (k0_off4_eq k) rfl _ _ _ r l,
    look_cell arg14 arg11 X_arg14 X_arg11 hW _ 4 k.val 56 1024 1152 (k0_off5_eq k) rfl _ _ _ r l,
    look_cell arg14 arg11 X_arg14 X_arg11 hW _ 5 k.val 56 1280 1408 (k0_off6_eq k) rfl _ _ _ r l,
    look_cell arg14 arg11 X_arg14 X_arg11 hW _ 6 k.val 56 1536 1664 (k0_off7_eq k) rfl _ _ _ r l,
    look_cell arg14 arg11 X_arg14 X_arg11 hW _ 7 k.val 56 1792 1920 (k0_off8_eq k) rfl _ _ _ r l,
    look_cell arg14 arg11 X_arg14 X_arg11 hW _ 8 k.val 56 2048 2176 (k0_off9_eq k) rfl _ _ _ r l,
    look_cell arg14 arg11 X_arg14 X_arg11 hW _ 9 k.val 56 2304 2432 (k0_off10_eq k) rfl _ _ _ r l,
    look_cell arg14 arg11 X_arg14 X_arg11 hW _ 10 k.val 56 2560 2688 (k0_off11_eq k) rfl _ _ _ r l,
    look_cell arg14 arg11 X_arg14 X_arg11 hW _ 11 k.val 56 2816 2944 (k0_off12_eq k) rfl _ _ _ r l,
    look_cell arg14 arg11 X_arg14 X_arg11 hW _ 12 k.val 56 3072 3200 (k0_off13_eq k) rfl _ _ _ r l,
    look_cell arg14 arg11 X_arg14 X_arg11 hW _ 13 k.val 56 3328 3456 (k0_off14_eq k) rfl _ _ _ r l,
    look_cell arg14 arg11 X_arg14 X_arg11 hW _ 14 k.val 56 3584 3712 (k0_off15_eq k) rfl _ _ _ r l,
    look_cell arg14 arg11 X_arg14 X_arg11 hW _ 15 k.val 56 3840 3968 (k0_off16_eq k) rfl _ _ _ r l]
  unfold distN
  rw [show (128 * k.val + l.val) % 128 = 0 + l.val by omega, ← sum16]
  rfl

end Cert.KernelIdeal.Gen

end
-- ==== Proof.KernelIdeal.Loop.lean ====
module

public import proofs.«01_k».proof.Proof.KernelIdeal.Cells

@[expose] public section

set_option maxRecDepth 16384

noncomputable section

namespace Cert.KernelIdeal.Gen

open Idealize.ShloMosaic Idealize.ShloMosaic.TcCoe Idealize.ShloMosaic.Tactic Idealize.ShloMosaic.WordCmp

/-! # The block of distances the whole loop leaves -/

/-- The block whose entry at row `r` and column `c` is `f r c`. -/
def blockOf (f : ℕ → ℕ → EReal) : S64x4096.Idx → EReal := fun y => f (y 0).val (y 1).val

/-- A tile stored at a corner agrees with the block, if its cells do. -/
theorem piece_ok (f : ℕ → ℕ → EReal) (off : Fin 2 → ℕ) (ro co : ℕ) (hoff : off = ![ro, co]) (inb)
    (V : FVec Ideal S8x128 .f32) (hV : ∀ (r : Fin 8) (l : Fin 128), V (ix2 r l) = f (ro + r.val) (co + l.val))
    (x : (Rect.unit (s := S64x4096) off S8x128.size inb).shape.Idx) :
    V x = blockOf f ((Rect.unit (s := S64x4096) off S8x128.size inb).emb x) := by
  subst hoff
  have hx : x = ix2 (n0 := 8) (n1 := 128) (x 0) (x 1) := eq_ix2 (n0 := 8) (n1 := 128) x
  have e := hV (x 0) (x 1)
  rw [← hx] at e
  refine e.trans ?_
  show f _ _ = f (ro + 1 * (x 0).val) (co + 1 * (x 1).val)
  rw [Nat.one_mul, Nat.one_mul]

/-- The cells a tile at a corner covers. -/
theorem piece_cov (off : Fin 2 → ℕ) (ro co : ℕ) (hoff : off = ![ro, co]) (inb) (y : S64x4096.Idx)
    (h0 : ro ≤ (y 0).val) (h0' : (y 0).val < ro + 8) (h1 : co ≤ (y 1).val) (h1' : (y 1).val < co + 128) :
    y ∈ (Rect.unit (s := S64x4096) off S8x128.size inb).set := by
  subst hoff
  refine Rect.mem_set_unit.mpr fun a => ?_
  match a with
  | ⟨0, _⟩ => exact ⟨h0, h0'⟩
  | ⟨1, _⟩ => exact ⟨h1, h1'⟩

/-- Every piece the loop's trips store agrees with the block of distances. -/
theorem pb_ok (𝒱 : Variants) (c : Dev nD) (bd : Option 𝒱.V) (i : grid0.Coords) (arg1 : Memref sig .tc .vmem S64x384 .bf16) (harg1 : arg1.IsWhole) (arg2 : Memref sig .tc .vmem S16x256x384 .bf16) (harg2 : arg2.IsWhole) (arg3 : Memref sig .tc .vmem S1000x384 .bf16) (harg3 : arg3.IsWhole) (arg4 : Memref sig .tc .vmem S16x4096 .i8) (harg4 : arg4.IsWhole) (arg5 : Memref sig .tc .vmem S1x4096 .i8) (harg5 : arg5.IsWhole) (arg6 : Memref sig .tc .vmem S1x256 .f32) (harg6 : arg6.IsWhole) (arg7 : Memref sig .tc .vmem S1x4096 .i32) (harg7 : arg7.IsWhole) (arg8 : Memref sig .tc .vmem S64x4096 .f32) (harg8 : arg8.IsWhole) (arg9 : Memref sig .tc .vmem S64x16x256 .f32) (harg9 : arg9.IsWhole) (arg10 : Memref sig .tc .vmem S64x1000 .f32) (harg10 : arg10.IsWhole) (arg11 : Memref sig .tc .vmem S64x4096 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S16x4096 .i32) (harg14 : arg14.IsWhole)
    (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty)
    (hW : ∀ j, (show BitVec 32 from arg14.view.read (Elt Ideal) X_arg14 j).toNat < 256) :
    ∀ n, n ≤ k0_t1_loop.trips → ∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X_arg5 X_arg6 X_arg7 X_arg11 X_arg12 X_arg13 X_arg14 n, ∀ x : p.1.shape.Idx, p.2 x = blockOf (distN (arg11.view.read (Elt Ideal) X_arg11) (arg12.view.read (Elt Ideal) X_arg12) (arg13.view.read (Elt Ideal) X_arg13)
        (arg6.view.read (Elt Ideal) X_arg6) (arg14.view.read (Elt Ideal) X_arg14) (arg5.view.read (Elt Ideal) X_arg5) (arg7.view.read (Elt Ideal) X_arg7)) (p.1.emb x)
  | 0, _, p, hp, x => absurd hp List.not_mem_nil
  | n + 1, hn, p, hp, x => by
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X_arg5 X_arg6 X_arg7 X_arg11 X_arg12 X_arg13 X_arg14 ⟨n, hn⟩
    rw [tripL_eq] at e
    have hp' := e ▸ hp
    rcases List.mem_append.mp hp' with h | h
    · simp only [List.mem_cons, List.not_mem_nil, or_false] at h
      rcases h with rfl | rfl | rfl | rfl | rfl | rfl | rfl | rfl
      · exact piece_ok _ _ 56 (128 * n) (k0_off25_eq ⟨n, hn⟩) (k0_off25_inb ⟨n, hn⟩) _ (fun r l => tripVal7_cell arg5 arg6 arg7 arg11 arg12 arg13 arg14 X_arg5 X_arg6 X_arg7 X_arg11 X_arg12 X_arg13 X_arg14 ⟨n, hn⟩ hW r l) x
      · exact piece_ok _ _ 48 (128 * n) (k0_off24_eq ⟨n, hn⟩) (k0_off24_inb ⟨n, hn⟩) _ (fun r l => tripVal6_cell arg5 arg6 arg7 arg11 arg12 arg13 arg14 X_arg5 X_arg6 X_arg7 X_arg11 X_arg12 X_arg13 X_arg14 ⟨n, hn⟩ hW r l) x
      · exact piece_ok _ _ 40 (128 * n) (k0_off23_eq ⟨n, hn⟩) (k0_off23_inb ⟨n, hn⟩) _ (fun r l => tripVal5_cell arg5 arg6 arg7 arg11 arg12 arg13 arg14 X_arg5 X_arg6 X_arg7 X_arg11 X_arg12 X_arg13 X_arg14 ⟨n, hn⟩ hW r l) x
      · exact piece_ok _ _ 32 (128 * n) (k0_off22_eq ⟨n, hn⟩) (k0_off22_inb ⟨n, hn⟩) _ (fun r l => tripVal4_cell arg5 arg6 arg7 arg11 arg12 arg13 arg14 X_arg5 X_arg6 X_arg7 X_arg11 X_arg12 X_arg13 X_arg14 ⟨n, hn⟩ hW r l) x
      · exact piece_ok _ _ 24 (128 * n) (k0_off21_eq ⟨n, hn⟩) (k0_off21_inb ⟨n, hn⟩) _ (fun r l => tripVal3_cell arg5 arg6 arg7 arg11 arg12 arg13 arg14 X_arg5 X_arg6 X_arg7 X_arg11 X_arg12 X_arg13 X_arg14 ⟨n, hn⟩ hW r l) x
      · exact piece_ok _ _ 16 (128 * n) (k0_off20_eq ⟨n, hn⟩) (k0_off20_inb ⟨n, hn⟩) _ (fun r l => tripVal2_cell arg5 arg6 arg7 arg11 arg12 arg13 arg14 X_arg5 X_arg6 X_arg7 X_arg11 X_arg12 X_arg13 X_arg14 ⟨n, hn⟩ hW r l) x
      · exact piece_ok _ _ 8 (128 * n) (k0_off19_eq ⟨n, hn⟩) (k0_off19_inb ⟨n, hn⟩) _ (fun r l => tripVal1_cell arg5 arg6 arg7 arg11 arg12 arg13 arg14 X_arg5 X_arg6 X_arg7 X_arg11 X_arg12 X_arg13 X_arg14 ⟨n, hn⟩ hW r l) x
      · exact piece_ok _ _ 0 (128 * n) (k0_off18_eq ⟨n, hn⟩) (k0_off18_inb ⟨n, hn⟩) _ (fun r l => tripVal0_cell arg5 arg6 arg7 arg11 arg12 arg13 arg14 X_arg5 X_arg6 X_arg7 X_arg11 X_arg12 X_arg13 X_arg14 ⟨n, hn⟩ hW r l) x
    · exact pb_ok 𝒱 c bd i arg1 harg1 arg2 harg2 arg3 harg3 arg4 harg4 arg5 harg5 arg6 harg6 arg7 harg7 arg8 harg8 arg9 harg9 arg10 harg10 arg11 harg11 arg12 harg12 arg13 harg13 arg14 harg14 X_arg5 X_arg6 X_arg7 X_arg11 X_arg12 X_arg13 X_arg14 hW n (Nat.le_of_succ_le hn) p h x

/-- The first `n` trips cover the first `128 * n` columns. -/
theorem pb_cov (𝒱 : Variants) (c : Dev nD) (bd : Option 𝒱.V) (i : grid0.Coords) (arg1 : Memref sig .tc .vmem S64x384 .bf16) (harg1 : arg1.IsWhole) (arg2 : Memref sig .tc .vmem S16x256x384 .bf16) (harg2 : arg2.IsWhole) (arg3 : Memref sig .tc .vmem S1000x384 .bf16) (harg3 : arg3.IsWhole) (arg4 : Memref sig .tc .vmem S16x4096 .i8) (harg4 : arg4.IsWhole) (arg5 : Memref sig .tc .vmem S1x4096 .i8) (harg5 : arg5.IsWhole) (arg6 : Memref sig .tc .vmem S1x256 .f32) (harg6 : arg6.IsWhole) (arg7 : Memref sig .tc .vmem S1x4096 .i32) (harg7 : arg7.IsWhole) (arg8 : Memref sig .tc .vmem S64x4096 .f32) (harg8 : arg8.IsWhole) (arg9 : Memref sig .tc .vmem S64x16x256 .f32) (harg9 : arg9.IsWhole) (arg10 : Memref sig .tc .vmem S64x1000 .f32) (harg10 : arg10.IsWhole) (arg11 : Memref sig .tc .vmem S64x4096 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S16x4096 .i32) (harg14 : arg14.IsWhole)
    (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) :
    ∀ n, n ≤ k0_t1_loop.trips → ∀ y : S64x4096.Idx, (y 1).val < 128 * n → ∃ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X_arg5 X_arg6 X_arg7 X_arg11 X_arg12 X_arg13 X_arg14 n, y ∈ p.1.set
  | 0, _, y, hy => absurd hy (by omega)
  | n + 1, hn, y, hy => by
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X_arg5 X_arg6 X_arg7 X_arg11 X_arg12 X_arg13 X_arg14 ⟨n, hn⟩
    rw [tripL_eq] at e
    show ∃ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X_arg5 X_arg6 X_arg7 X_arg11 X_arg12 X_arg13 X_arg14 ((⟨n, hn⟩ : Fin k0_t1_loop.trips).val + 1), y ∈ p.1.set
    rw [e]
    by_cases hc : (y 1).val < 128 * n
    · obtain ⟨p, hp, hm⟩ := pb_cov 𝒱 c bd i arg1 harg1 arg2 harg2 arg3 harg3 arg4 harg4 arg5 harg5 arg6 harg6 arg7 harg7 arg8 harg8 arg9 harg9 arg10 harg10 arg11 harg11 arg12 harg12 arg13 harg13 arg14 harg14 X_arg5 X_arg6 X_arg7 X_arg11 X_arg12 X_arg13 X_arg14 n (Nat.le_of_succ_le hn) y hc
      exact ⟨p, List.mem_append.mpr (Or.inr hp), hm⟩
    · have h64 : (y 0).val < 64 := (y 0).isLt
      by_cases h0 : (y 0).val < 8
      · exact ⟨_, List.mem_append.mpr (Or.inl (List.mem_cons_of_mem _ (List.mem_cons_of_mem _ (List.mem_cons_of_mem _ (List.mem_cons_of_mem _ (List.mem_cons_of_mem _ (List.mem_cons_of_mem _ (List.mem_cons_of_mem _ (List.mem_cons.mpr (Or.inl rfl)))))))))),
          piece_cov _ 0 (128 * n) (k0_off18_eq ⟨n, hn⟩) (k0_off18_inb ⟨n, hn⟩) y (by omega) (by omega) (by omega) (by omega)⟩
      by_cases h1 : (y 0).val < 16
      · exact ⟨_, List.mem_append.mpr (Or.inl (List.mem_cons_of_mem _ (List.mem_cons_of_mem _ (List.mem_cons_of_mem _ (List.mem_cons_of_mem _ (List.mem_cons_of_mem _ (List.mem_cons_of_mem _ (List.mem_cons.mpr (Or.inl rfl))))))))),
          piece_cov _ 8 (128 * n) (k0_off19_eq ⟨n, hn⟩) (k0_off19_inb ⟨n, hn⟩) y (by omega) (by omega) (by omega) (by omega)⟩
      by_cases h2 : (y 0).val < 24
      · exact ⟨_, List.mem_append.mpr (Or.inl (List.mem_cons_of_mem _ (List.mem_cons_of_mem _ (List.mem_cons_of_mem _ (List.mem_cons_of_mem _ (List.mem_cons_of_mem _ (List.mem_cons.mpr (Or.inl rfl)))))))),
          piece_cov _ 16 (128 * n) (k0_off20_eq ⟨n, hn⟩) (k0_off20_inb ⟨n, hn⟩) y (by omega) (by omega) (by omega) (by omega)⟩
      by_cases h3 : (y 0).val < 32
      · exact ⟨_, List.mem_append.mpr (Or.inl (List.mem_cons_of_mem _ (List.mem_cons_of_mem _ (List.mem_cons_of_mem _ (List.mem_cons_of_mem _ (List.mem_cons.mpr (Or.inl rfl))))))),
          piece_cov _ 24 (128 * n) (k0_off21_eq ⟨n, hn⟩) (k0_off21_inb ⟨n, hn⟩) y (by omega) (by omega) (by omega) (by omega)⟩
      by_cases h4 : (y 0).val < 40
      · exact ⟨_, List.mem_append.mpr (Or.inl (List.mem_cons_of_mem _ (List.mem_cons_of_mem _ (List.mem_cons_of_mem _ (List.mem_cons.mpr (Or.inl rfl)))))),
          piece_cov _ 32 (128 * n) (k0_off22_eq ⟨n, hn⟩) (k0_off22_inb ⟨n, hn⟩) y (by omega) (by omega) (by omega) (by omega)⟩
      by_cases h5 : (y 0).val < 48
      · exact ⟨_, List.mem_append.mpr (Or.inl (List.mem_cons_of_mem _ (List.mem_cons_of_mem _ (List.mem_cons.mpr (Or.inl rfl))))),
          piece_cov _ 40 (128 * n) (k0_off23_eq ⟨n, hn⟩) (k0_off23_inb ⟨n, hn⟩) y (by omega) (by omega) (by omega) (by omega)⟩
      by_cases h6 : (y 0).val < 56
      · exact ⟨_, List.mem_append.mpr (Or.inl (List.mem_cons_of_mem _ (List.mem_cons.mpr (Or.inl rfl)))),
          piece_cov _ 48 (128 * n) (k0_off24_eq ⟨n, hn⟩) (k0_off24_inb ⟨n, hn⟩) y (by omega) (by omega) (by omega) (by omega)⟩
      exact ⟨_, List.mem_append.mpr (Or.inl (List.mem_cons.mpr (Or.inl rfl))),
        piece_cov _ 56 (128 * n) (k0_off25_eq ⟨n, hn⟩) (k0_off25_inb ⟨n, hn⟩) y (by omega) (by omega) (by omega) (by omega)⟩

/-- What the whole loop leaves in the block of distances, whatever it held before. -/
theorem loop_value (𝒱 : Variants) (c : Dev nD) (bd : Option 𝒱.V) (i : grid0.Coords) (arg1 : Memref sig .tc .vmem S64x384 .bf16) (harg1 : arg1.IsWhole) (arg2 : Memref sig .tc .vmem S16x256x384 .bf16) (harg2 : arg2.IsWhole) (arg3 : Memref sig .tc .vmem S1000x384 .bf16) (harg3 : arg3.IsWhole) (arg4 : Memref sig .tc .vmem S16x4096 .i8) (harg4 : arg4.IsWhole) (arg5 : Memref sig .tc .vmem S1x4096 .i8) (harg5 : arg5.IsWhole) (arg6 : Memref sig .tc .vmem S1x256 .f32) (harg6 : arg6.IsWhole) (arg7 : Memref sig .tc .vmem S1x4096 .i32) (harg7 : arg7.IsWhole) (arg8 : Memref sig .tc .vmem S64x4096 .f32) (harg8 : arg8.IsWhole) (arg9 : Memref sig .tc .vmem S64x16x256 .f32) (harg9 : arg9.IsWhole) (arg10 : Memref sig .tc .vmem S64x1000 .f32) (harg10 : arg10.IsWhole) (arg11 : Memref sig .tc .vmem S64x4096 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S16x4096 .i32) (harg14 : arg14.IsWhole)
    (X_arg5 : BufTy.Contents (Elt Ideal) arg5.view.ty) (X_arg6 : BufTy.Contents (Elt Ideal) arg6.view.ty) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty)
    (hW : ∀ j, (show BitVec 32 from arg14.view.read (Elt Ideal) X_arg14 j).toNat < 256)
    (G : BufTy.Contents (Elt Ideal) arg8.view.ty) :
    arg8.view.read (Elt Ideal) (arg8.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X_arg5 X_arg6 X_arg7 X_arg11 X_arg12 X_arg13 X_arg14 k0_t1_loop.trips))
      = blockOf (distN (arg11.view.read (Elt Ideal) X_arg11) (arg12.view.read (Elt Ideal) X_arg12) (arg13.view.read (Elt Ideal) X_arg13)
        (arg6.view.read (Elt Ideal) X_arg6) (arg14.view.read (Elt Ideal) X_arg14) (arg5.view.read (Elt Ideal) X_arg5) (arg7.view.read (Elt Ideal) X_arg7)) := by
  funext y
  have hc : ∃ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X_arg5 X_arg6 X_arg7 X_arg11 X_arg12 X_arg13 X_arg14 k0_t1_loop.trips, y ∈ p.1.set :=
    pb_cov 𝒱 c bd i arg1 harg1 arg2 harg2 arg3 harg3 arg4 harg4 arg5 harg5 arg6 harg6 arg7 harg7 arg8 harg8 arg9 harg9 arg10 harg10 arg11 harg11 arg12 harg12 arg13 harg13 arg14 harg14 X_arg5 X_arg6 X_arg7 X_arg11 X_arg12 X_arg13 X_arg14 k0_t1_loop.trips le_rfl y (lt_of_lt_of_le (y 1).isLt (by decide))
  rw [View.read_writes_apply_eq_canon _ _ _ _ hc]
  exact View.canon_apply_of_pieces _ _ (pb_ok 𝒱 c bd i arg1 harg1 arg2 harg2 arg3 harg3 arg4 harg4 arg5 harg5 arg6 harg6 arg7 harg7 arg8 harg8 arg9 harg9 arg10 harg10 arg11 harg11 arg12 harg12 arg13 harg13 arg14 harg14 X_arg5 X_arg6 X_arg7 X_arg11 X_arg12 X_arg13 X_arg14 hW k0_t1_loop.trips le_rfl) y hc

end Cert.KernelIdeal.Gen

end
-- ==== Proof.KernelIdeal.Tables.lean ====
module

public import proofs.«01_k».proof.Proof.KernelIdeal.Loop

@[expose] public section

set_option maxRecDepth 16384

noncomputable section

namespace Cert.KernelIdeal.Gen

open Idealize.ShloMosaic Idealize.ShloMosaic.TcCoe Idealize.ShloMosaic.Tactic Idealize.ShloMosaic.WordCmp

/-! # The tables the first grid point leaves, as plain sums -/

/-- The dot product of query `r` with entry `k` of codebook `m`. -/
def lutAt (x0 : Vec Ideal S64x384 .bf16) (x1 : Vec Ideal S16x256x384 .bf16) (r m k : ℕ) : EReal :=
  ∑ d : Fin 384, (cell2 x0 r d.val : EReal) * (x1 (ix3 (Fin.ofNat 16 m) (Fin.ofNat 256 k) d) : EReal)

/-- The dot product of query `r` with centroid `n`. -/
def centAt (x0 : Vec Ideal S64x384 .bf16) (x2 : Vec Ideal S1000x384 .bf16) (r n : ℕ) : EReal :=
  ∑ d : Fin 384, (cell2 x0 r d.val : EReal) * (cell2 x2 n d.val : EReal)

/-- The squared norm of query `r`. -/
def qnormAt (x0 : Vec Ideal S64x384 .bf16) (r : ℕ) : EReal :=
  ∑ d : Fin 384, (cell2 x0 r d.val : EReal) * (cell2 x0 r d.val : EReal)

/-- The codebooks' dot products side by side, 256 columns a codebook. -/
def lutV (x0 : Vec Ideal S64x384 .bf16) (x1 : Vec Ideal S16x256x384 .bf16) : Vec Ideal S64x4096 .f32 :=
  fun y => lutAt x0 x1 (y 0).val ((y 1).val / 256) ((y 1).val % 256)

/-- The codebooks' dot products, one plane a codebook. -/
def lut3V (x0 : Vec Ideal S64x384 .bf16) (x1 : Vec Ideal S16x256x384 .bf16) : Vec Ideal S64x16x256 .f32 :=
  fun y => lutAt x0 x1 (y 0).val (y 1).val (y 2).val

/-- The centroids' dot products. -/
def cqV (x0 : Vec Ideal S64x384 .bf16) (x2 : Vec Ideal S1000x384 .bf16) : Vec Ideal S64x1000 .f32 :=
  fun y => centAt x0 x2 (y 0).val (y 1).val

/-- The centroids' dot products, followed by 24 columns of zeros. -/
def cqPV (x0 : Vec Ideal S64x384 .bf16) (x2 : Vec Ideal S1000x384 .bf16) : Vec Ideal S64x1024 .f32 :=
  fun y => if (y 1).val < 1000 then centAt x0 x2 (y 0).val (y 1).val else 0

/-- The queries' squared norms, repeated over 128 columns. -/
def qnV (x0 : Vec Ideal S64x384 .bf16) : Vec Ideal S64x128 .f32 := fun y => qnormAt x0 (y 0).val

/-- The byte codes as words. -/
def codesOf (x3 : Vec Ideal S16x4096 .i8) : Vec Ideal S16x4096 .i32 :=
  fun j => (show BitVec 8 from x3 j).setWidth 32

/-- A word that was a byte is below 256. -/
theorem codesOf_lt (x3 : Vec Ideal S16x4096 .i8) (j : S16x4096.Idx) : (show BitVec 32 from codesOf x3 j).toNat < 256 := by
  show ((show BitVec 8 from x3 j).setWidth 32).toNat < 256
  rw [BitVec.toNat_setWidth]
  exact lt_of_le_of_lt (Nat.mod_le _ _) (show BitVec 8 from x3 j).isLt

/-- The block of distances of a grid point, from the tables and the point's codes, norm codes and list ids. -/
def distB (L : Vec Ideal S64x4096 .f32) (C : Vec Ideal S64x1024 .f32) (Q : Vec Ideal S64x128 .f32)
    (x3 : Vec Ideal S16x4096 .i8) (x4 : Vec Ideal S1x4096 .i8) (x5 : Vec Ideal S1x256 .f32)
    (x6 : Vec Ideal S1x4096 .i32) : Vec Ideal S64x4096 .f32 :=
  blockOf (distN L C Q x5 (codesOf x3) x4 x6)

end Cert.KernelIdeal.Gen

end
-- ==== Proof.KernelIdeal.Facts.lean ====
module

public import Idealize.ShloMosaic.Lib.Ring
public import Idealize.ShloMosaic.Lib.MatmulPlain
public import proofs.«01_k».proof.Proof.KernelIdeal.Tables

@[expose] public section

set_option maxRecDepth 16384

noncomputable section

namespace Cert.KernelIdeal.Gen

open Idealize.ShloMosaic Idealize.ShloMosaic.TcCoe Idealize.ShloMosaic.Tactic Idealize.ShloMosaic.WordCmp

/-! # The pieces the first grid point stores are the tables -/

/-- The loaded queries' entries. -/
theorem query_cell (arg1 : Memref sig .tc .vmem S64x384 .bf16) (harg1 : arg1.IsWhole) (x0 : Vec Ideal S64x384 .bf16) (r : Fin 64) (d : Fin 384) :
    (arg1.view.readAt (Elt Ideal) (Rect.unit (s := S64x384) ![0, 0] S64x384.size inb_S64x384_S64x384_0_0).toLoadRect (harg1.unread x0)) (ix2 r d) = cell2 x0 r.val d.val := by
  refine (ld_cell arg1.view (harg1.unread x0) ![0, 0] 0 0 rfl _ r d).trans ?_
  rw [harg1.read_unread, Nat.zero_add, Nat.zero_add]

/-- The loaded centroids' entries. -/
theorem centroid_cell (arg3 : Memref sig .tc .vmem S1000x384 .bf16) (harg3 : arg3.IsWhole) (x2 : Vec Ideal S1000x384 .bf16) (n : Fin 1000) (d : Fin 384) :
    (arg3.view.readAt (Elt Ideal) (Rect.unit (s := S1000x384) ![0, 0] S1000x384.size inb_S1000x384_S1000x384_0_0).toLoadRect (harg3.unread x2)) (ix2 n d) = cell2 x2 n.val d.val := by
  refine (ld_cell arg3.view (harg3.unread x2) ![0, 0] 0 0 rfl _ n d).trans ?_
  rw [harg3.read_unread, Nat.zero_add, Nat.zero_add]

/-- The entries of a loaded codebook. -/
theorem book_cell (arg2 : Memref sig .tc .vmem S16x256x384 .bf16) (harg2 : arg2.IsWhole) (x1 : Vec Ideal S16x256x384 .bf16) (m : ℕ) (hm : m < 16) (off : Fin 3 → ℕ) (hoff : off = ![m, 0, 0]) (inb)
    (k : Fin 256) (d : Fin 384) :
    shapeCast S256x384 (arg2.view.readAt (Elt Ideal) (Rect.unit (s := S16x256x384) off S1x256x384.size inb).toLoadRect (harg2.unread x1))
        shapeCasts_S1x256x384_S256x384 (ix2 k d)
      = x1 (ix3 (Fin.ofNat 16 m) (Fin.ofNat 256 k.val) d) := by
  subst hoff
  refine (shapeCast_apply _ _ (ix2 (n0 := 256) (n1 := 384) k d) (ix3 (n0 := 1) (n1 := 256) (n2 := 384) 0 k d) ?_).trans ?_
  · simp only [Shape.rowMajor_val_two, Shape.rowMajor_val_three]
    show (0 * 256 + k.val) * 384 + d.val = k.val * 384 + d.val
    omega
  · show arg2.view.read (Elt Ideal) (harg2.unread x1) _ = _
    rw [harg2.read_unread]
    refine congrArg x1 (funext fun i => ?_)
    match i with
    | ⟨0, _⟩ => exact Fin.ext (by show m + 1 * 0 = m % 16; rw [Nat.mod_eq_of_lt hm]; omega)
    | ⟨1, _⟩ => exact Fin.ext (by show 0 + 1 * k.val = k.val % 256; rw [Nat.mod_eq_of_lt k.isLt]; omega)
    | ⟨2, _⟩ => exact Fin.ext (by show 0 + 1 * d.val = d.val; omega)

/-- The product of the queries with a table of 256 rows, at an entry. -/
theorem prod256_cell (u : FVec Ideal S64x384 .bf16) (v : FVec Ideal S256x384 .bf16) (r : Fin 64) (k : Fin 256) :
    matmul dot_S64x384_S256x384_S64x256_1_1_0_0_n_n none u v (constant S64x256 .f32 0x00000000#32) (ix2 r k)
      = ∑ d : Fin 384, (u (ix2 r d) : EReal) * (v (ix2 k d) : EReal) := by
  refine (Ideal.matmul_transposedRhs_apply (M := 64) (K := 384) (N := 256) none u v (constant S64x256 .f32 0x00000000#32) r k).trans ?_
  show Ideal.ofBits .f32 0x00000000#32 + _ = _
  rw [Ideal.ofBits_zero_f32, zero_add]
  refine Finset.sum_congr rfl fun d _ => ?_
  rw [show ValueIdx.ix2 r d = ix2 r d from eq_ix2 _, show ValueIdx.ix2 k d = ix2 k d from eq_ix2 _]

/-- The product of the queries with the centroids, at an entry. -/
theorem prod1000_cell (u : FVec Ideal S64x384 .bf16) (v : FVec Ideal S1000x384 .bf16) (r : Fin 64) (k : Fin 1000) :
    matmul dot_S64x384_S1000x384_S64x1000_1_1_0_0_n_n none u v (constant S64x1000 .f32 0x00000000#32) (ix2 r k)
      = ∑ d : Fin 384, (u (ix2 r d) : EReal) * (v (ix2 k d) : EReal) := by
  refine (Ideal.matmul_transposedRhs_apply (M := 64) (K := 384) (N := 1000) none u v (constant S64x1000 .f32 0x00000000#32) r k).trans ?_
  show Ideal.ofBits .f32 0x00000000#32 + _ = _
  rw [Ideal.ofBits_zero_f32, zero_add]
  refine Finset.sum_congr rfl fun d _ => ?_
  rw [show ValueIdx.ix2 r d = ix2 r d from eq_ix2 _, show ValueIdx.ix2 k d = ix2 k d from eq_ix2 _]

/-- The product of the queries with a loaded codebook, at an entry. -/
theorem lut_cell (arg1 : Memref sig .tc .vmem S64x384 .bf16) (harg1 : arg1.IsWhole) (arg2 : Memref sig .tc .vmem S16x256x384 .bf16) (harg2 : arg2.IsWhole) (x0 : Vec Ideal S64x384 .bf16) (x1 : Vec Ideal S16x256x384 .bf16) (m : ℕ) (hm : m < 16)
    (off : Fin 3 → ℕ) (hoff : off = ![m, 0, 0]) (inb) (r : Fin 64) (k : Fin 256) :
    k0_pay5 (F := Ideal) (arg1.view.readAt (Elt Ideal) (Rect.unit (s := S64x384) ![0, 0] S64x384.size inb_S64x384_S64x384_0_0).toLoadRect (harg1.unread x0))
        (arg2.view.readAt (Elt Ideal) (Rect.unit (s := S16x256x384) off S1x256x384.size inb).toLoadRect (harg2.unread x1)) (ix2 r k)
      = lutAt x0 x1 r.val m k.val := by
  refine (prod256_cell _ _ r k).trans (Finset.sum_congr rfl fun d _ => ?_)
  exact congrArg₂ (fun a b : EReal => a * b) (query_cell arg1 harg1 x0 r d) (book_cell arg2 harg2 x1 m hm off hoff inb k d)

/-- A codebook's product stored at its 256 columns agrees with the table. -/
theorem lut_piece (arg1 : Memref sig .tc .vmem S64x384 .bf16) (harg1 : arg1.IsWhole) (arg2 : Memref sig .tc .vmem S16x256x384 .bf16) (harg2 : arg2.IsWhole) (x0 : Vec Ideal S64x384 .bf16) (x1 : Vec Ideal S16x256x384 .bf16) (m : ℕ) (hm : m < 16)
    (off : Fin 3 → ℕ) (hoff : off = ![m, 0, 0]) (inb) (co : Fin 2 → ℕ) (hco : co = ![0, 256 * m]) (inb')
    (x : (Rect.unit (s := S64x4096) co S64x256.size inb').shape.Idx) :
    shapeCast S64x256 (k0_pay5 (F := Ideal) (arg1.view.readAt (Elt Ideal) (Rect.unit (s := S64x384) ![0, 0] S64x384.size inb_S64x384_S64x384_0_0).toLoadRect (harg1.unread x0))
        (arg2.view.readAt (Elt Ideal) (Rect.unit (s := S16x256x384) off S1x256x384.size inb).toLoadRect (harg2.unread x1)))
        shapeCasts_S64x256_S64x256 x
      = lutV x0 x1 ((Rect.unit (s := S64x4096) co S64x256.size inb').emb x) := by
  subst hco
  rw [shapeCast_self]
  have hx : x = ix2 (n0 := 64) (n1 := 256) (x 0) (x 1) := eq_ix2 (n0 := 64) (n1 := 256) x
  have e := lut_cell arg1 harg1 arg2 harg2 x0 x1 m hm off hoff inb (x 0) (x 1)
  rw [← hx] at e
  refine e.trans ?_
  have h1 : (x 1).val < 256 := (x 1).isLt
  show _ = lutAt x0 x1 (0 + 1 * (x 0).val) ((256 * m + 1 * (x 1).val) / 256) ((256 * m + 1 * (x 1).val) % 256)
  congr 1 <;> omega

/-- A codebook's product stored at its plane agrees with the table. -/
theorem lut3_piece (arg1 : Memref sig .tc .vmem S64x384 .bf16) (harg1 : arg1.IsWhole) (arg2 : Memref sig .tc .vmem S16x256x384 .bf16) (harg2 : arg2.IsWhole) (x0 : Vec Ideal S64x384 .bf16) (x1 : Vec Ideal S16x256x384 .bf16) (m : ℕ) (hm : m < 16)
    (off : Fin 3 → ℕ) (hoff : off = ![m, 0, 0]) (inb) (co : Fin 3 → ℕ) (hco : co = ![0, m, 0]) (inb')
    (x : (Rect.unit (s := S64x16x256) co S64x1x256.size inb').shape.Idx) :
    shapeCast S64x1x256 (k0_pay5 (F := Ideal) (arg1.view.readAt (Elt Ideal) (Rect.unit (s := S64x384) ![0, 0] S64x384.size inb_S64x384_S64x384_0_0).toLoadRect (harg1.unread x0))
        (arg2.view.readAt (Elt Ideal) (Rect.unit (s := S16x256x384) off S1x256x384.size inb).toLoadRect (harg2.unread x1)))
        shapeCasts_S64x256_S64x1x256 x
      = lut3V x0 x1 ((Rect.unit (s := S64x16x256) co S64x1x256.size inb').emb x) := by
  subst hco
  have hx : x = ix3 (n0 := 64) (n1 := 1) (n2 := 256) (x 0) (x 1) (x 2) := eq_ix3 (n0 := 64) (n1 := 1) (n2 := 256) x
  have h1 : (x 1).val < 1 := (x 1).isLt
  refine (shapeCast_apply _ _ x (ix2 (n0 := 64) (n1 := 256) (x 0) (x 2)) ?_).trans ?_
  · refine (Shape.rowMajor_val_two (d := ![64, 256]) _).trans (Eq.trans ?_ (Shape.rowMajor_val_three (d := ![64, 1, 256]) x).symm)
    show (x 0).val * 256 + (x 2).val = ((x 0).val * 1 + (x 1).val) * 256 + (x 2).val
    omega
  · refine (lut_cell arg1 harg1 arg2 harg2 x0 x1 m hm off hoff inb (x 0) (x 2)).trans ?_
    show _ = lutAt x0 x1 (0 + 1 * (x 0).val) (m + 1 * (x 1).val) (0 + 1 * (x 2).val)
    congr 1 <;> omega

/-- The pieces of the table of codebook products, the last first. -/
def lutL (arg1 : Memref sig .tc .vmem S64x384 .bf16) (harg1 : arg1.IsWhole) (arg2 : Memref sig .tc .vmem S16x256x384 .bf16) (harg2 : arg2.IsWhole) (x0 : Vec Ideal S64x384 .bf16) (x1 : Vec Ideal S16x256x384 .bf16) : List (View.Piece (Elt Ideal) S64x4096 .f32) :=
  [⟨Rect.unit (s := S64x4096) ![0, 3840] S64x256.size inb_S64x4096_S64x256_0_3840, shapeCast S64x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![15, 0, 0] S1x256x384.size inb_S16x256x384_S1x256x384_15_0_0).toLoadRect (harg2.unread x1))) shapeCasts_S64x256_S64x256⟩,
   ⟨Rect.unit (s := S64x4096) ![0, 3584] S64x256.size inb_S64x4096_S64x256_0_3584, shapeCast S64x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![14, 0, 0] S1x256x384.size inb_S16x256x384_S1x256x384_14_0_0).toLoadRect (harg2.unread x1))) shapeCasts_S64x256_S64x256⟩,
   ⟨Rect.unit (s := S64x4096) ![0, 3328] S64x256.size inb_S64x4096_S64x256_0_3328, shapeCast S64x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![13, 0, 0] S1x256x384.size inb_S16x256x384_S1x256x384_13_0_0).toLoadRect (harg2.unread x1))) shapeCasts_S64x256_S64x256⟩,
   ⟨Rect.unit (s := S64x4096) ![0, 3072] S64x256.size inb_S64x4096_S64x256_0_3072, shapeCast S64x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![12, 0, 0] S1x256x384.size inb_S16x256x384_S1x256x384_12_0_0).toLoadRect (harg2.unread x1))) shapeCasts_S64x256_S64x256⟩,
   ⟨Rect.unit (s := S64x4096) ![0, 2816] S64x256.size inb_S64x4096_S64x256_0_2816, shapeCast S64x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![11, 0, 0] S1x256x384.size inb_S16x256x384_S1x256x384_11_0_0).toLoadRect (harg2.unread x1))) shapeCasts_S64x256_S64x256⟩,
   ⟨Rect.unit (s := S64x4096) ![0, 2560] S64x256.size inb_S64x4096_S64x256_0_2560, shapeCast S64x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![10, 0, 0] S1x256x384.size inb_S16x256x384_S1x256x384_10_0_0).toLoadRect (harg2.unread x1))) shapeCasts_S64x256_S64x256⟩,
   ⟨Rect.unit (s := S64x4096) ![0, 2304] S64x256.size inb_S64x4096_S64x256_0_2304, shapeCast S64x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![9, 0, 0] S1x256x384.size inb_S16x256x384_S1x256x384_9_0_0).toLoadRect (harg2.unread x1))) shapeCasts_S64x256_S64x256⟩,
   ⟨Rect.unit (s := S64x4096) ![0, 2048] S64x256.size inb_S64x4096_S64x256_0_2048, shapeCast S64x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![8, 0, 0] S1x256x384.size inb_S16x256x384_S1x256x384_8_0_0).toLoadRect (harg2.unread x1))) shapeCasts_S64x256_S64x256⟩,
   ⟨Rect.unit (s := S64x4096) ![0, 1792] S64x256.size inb_S64x4096_S64x256_0_1792, shapeCast S64x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![7, 0, 0] S1x256x384.size inb_S16x256x384_S1x256x384_7_0_0).toLoadRect (harg2.unread x1))) shapeCasts_S64x256_S64x256⟩,
   ⟨Rect.unit (s := S64x4096) ![0, 1536] S64x256.size inb_S64x4096_S64x256_0_1536, shapeCast S64x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![6, 0, 0] S1x256x384.size inb_S16x256x384_S1x256x384_6_0_0).toLoadRect (harg2.unread x1))) shapeCasts_S64x256_S64x256⟩,
   ⟨Rect.unit (s := S64x4096) ![0, 1280] S64x256.size inb_S64x4096_S64x256_0_1280, shapeCast S64x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![5, 0, 0] S1x256x384.size inb_S16x256x384_S1x256x384_5_0_0).toLoadRect (harg2.unread x1))) shapeCasts_S64x256_S64x256⟩,
   ⟨Rect.unit (s := S64x4096) ![0, 1024] S64x256.size inb_S64x4096_S64x256_0_1024, shapeCast S64x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![4, 0, 0] S1x256x384.size inb_S16x256x384_S1x256x384_4_0_0).toLoadRect (harg2.unread x1))) shapeCasts_S64x256_S64x256⟩,
   ⟨Rect.unit (s := S64x4096) ![0, 768] S64x256.size inb_S64x4096_S64x256_0_768, shapeCast S64x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![3, 0, 0] S1x256x384.size inb_S16x256x384_S1x256x384_3_0_0).toLoadRect (harg2.unread x1))) shapeCasts_S64x256_S64x256⟩,
   ⟨Rect.unit (s := S64x4096) ![0, 512] S64x256.size inb_S64x4096_S64x256_0_512, shapeCast S64x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![2, 0, 0] S1x256x384.size inb_S16x256x384_S1x256x384_2_0_0).toLoadRect (harg2.unread x1))) shapeCasts_S64x256_S64x256⟩,
   ⟨Rect.unit (s := S64x4096) ![0, 256] S64x256.size inb_S64x4096_S64x256_0_256, shapeCast S64x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![1, 0, 0] S1x256x384.size inb_S16x256x384_S1x256x384_1_0_0).toLoadRect (harg2.unread x1))) shapeCasts_S64x256_S64x256⟩,
   ⟨Rect.unit (s := S64x4096) ![0, 0] S64x256.size inb_S64x4096_S64x256_0_0, shapeCast S64x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![0, 0, 0] S1x256x384.size inb_S16x256x384_S1x256x384_0_0_0).toLoadRect (harg2.unread x1))) shapeCasts_S64x256_S64x256⟩]

/-- The pieces of the planes of codebook products, the last first. -/
def lut3L (arg1 : Memref sig .tc .vmem S64x384 .bf16) (harg1 : arg1.IsWhole) (arg2 : Memref sig .tc .vmem S16x256x384 .bf16) (harg2 : arg2.IsWhole) (x0 : Vec Ideal S64x384 .bf16) (x1 : Vec Ideal S16x256x384 .bf16) : List (View.Piece (Elt Ideal) S64x16x256 .f32) :=
  [⟨Rect.unit (s := S64x16x256) ![0, 15, 0] S64x1x256.size inb_S64x16x256_S64x1x256_0_15_0, shapeCast S64x1x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![15, 0, 0] S1x256x384.size inb_S16x256x384_S1x256x384_15_0_0).toLoadRect (harg2.unread x1))) shapeCasts_S64x256_S64x1x256⟩,
   ⟨Rect.unit (s := S64x16x256) ![0, 14, 0] S64x1x256.size inb_S64x16x256_S64x1x256_0_14_0, shapeCast S64x1x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![14, 0, 0] S1x256x384.size inb_S16x256x384_S1x256x384_14_0_0).toLoadRect (harg2.unread x1))) shapeCasts_S64x256_S64x1x256⟩,
   ⟨Rect.unit (s := S64x16x256) ![0, 13, 0] S64x1x256.size inb_S64x16x256_S64x1x256_0_13_0, shapeCast S64x1x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![13, 0, 0] S1x256x384.size inb_S16x256x384_S1x256x384_13_0_0).toLoadRect (harg2.unread x1))) shapeCasts_S64x256_S64x1x256⟩,
   ⟨Rect.unit (s := S64x16x256) ![0, 12, 0] S64x1x256.size inb_S64x16x256_S64x1x256_0_12_0, shapeCast S64x1x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![12, 0, 0] S1x256x384.size inb_S16x256x384_S1x256x384_12_0_0).toLoadRect (harg2.unread x1))) shapeCasts_S64x256_S64x1x256⟩,
   ⟨Rect.unit (s := S64x16x256) ![0, 11, 0] S64x1x256.size inb_S64x16x256_S64x1x256_0_11_0, shapeCast S64x1x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![11, 0, 0] S1x256x384.size inb_S16x256x384_S1x256x384_11_0_0).toLoadRect (harg2.unread x1))) shapeCasts_S64x256_S64x1x256⟩,
   ⟨Rect.unit (s := S64x16x256) ![0, 10, 0] S64x1x256.size inb_S64x16x256_S64x1x256_0_10_0, shapeCast S64x1x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![10, 0, 0] S1x256x384.size inb_S16x256x384_S1x256x384_10_0_0).toLoadRect (harg2.unread x1))) shapeCasts_S64x256_S64x1x256⟩,
   ⟨Rect.unit (s := S64x16x256) ![0, 9, 0] S64x1x256.size inb_S64x16x256_S64x1x256_0_9_0, shapeCast S64x1x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![9, 0, 0] S1x256x384.size inb_S16x256x384_S1x256x384_9_0_0).toLoadRect (harg2.unread x1))) shapeCasts_S64x256_S64x1x256⟩,
   ⟨Rect.unit (s := S64x16x256) ![0, 8, 0] S64x1x256.size inb_S64x16x256_S64x1x256_0_8_0, shapeCast S64x1x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![8, 0, 0] S1x256x384.size inb_S16x256x384_S1x256x384_8_0_0).toLoadRect (harg2.unread x1))) shapeCasts_S64x256_S64x1x256⟩,
   ⟨Rect.unit (s := S64x16x256) ![0, 7, 0] S64x1x256.size inb_S64x16x256_S64x1x256_0_7_0, shapeCast S64x1x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![7, 0, 0] S1x256x384.size inb_S16x256x384_S1x256x384_7_0_0).toLoadRect (harg2.unread x1))) shapeCasts_S64x256_S64x1x256⟩,
   ⟨Rect.unit (s := S64x16x256) ![0, 6, 0] S64x1x256.size inb_S64x16x256_S64x1x256_0_6_0, shapeCast S64x1x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![6, 0, 0] S1x256x384.size inb_S16x256x384_S1x256x384_6_0_0).toLoadRect (harg2.unread x1))) shapeCasts_S64x256_S64x1x256⟩,
   ⟨Rect.unit (s := S64x16x256) ![0, 5, 0] S64x1x256.size inb_S64x16x256_S64x1x256_0_5_0, shapeCast S64x1x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![5, 0, 0] S1x256x384.size inb_S16x256x384_S1x256x384_5_0_0).toLoadRect (harg2.unread x1))) shapeCasts_S64x256_S64x1x256⟩,
   ⟨Rect.unit (s := S64x16x256) ![0, 4, 0] S64x1x256.size inb_S64x16x256_S64x1x256_0_4_0, shapeCast S64x1x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![4, 0, 0] S1x256x384.size inb_S16x256x384_S1x256x384_4_0_0).toLoadRect (harg2.unread x1))) shapeCasts_S64x256_S64x1x256⟩,
   ⟨Rect.unit (s := S64x16x256) ![0, 3, 0] S64x1x256.size inb_S64x16x256_S64x1x256_0_3_0, shapeCast S64x1x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![3, 0, 0] S1x256x384.size inb_S16x256x384_S1x256x384_3_0_0).toLoadRect (harg2.unread x1))) shapeCasts_S64x256_S64x1x256⟩,
   ⟨Rect.unit (s := S64x16x256) ![0, 2, 0] S64x1x256.size inb_S64x16x256_S64x1x256_0_2_0, shapeCast S64x1x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![2, 0, 0] S1x256x384.size inb_S16x256x384_S1x256x384_2_0_0).toLoadRect (harg2.unread x1))) shapeCasts_S64x256_S64x1x256⟩,
   ⟨Rect.unit (s := S64x16x256) ![0, 1, 0] S64x1x256.size inb_S64x16x256_S64x1x256_0_1_0, shapeCast S64x1x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![1, 0, 0] S1x256x384.size inb_S16x256x384_S1x256x384_1_0_0).toLoadRect (harg2.unread x1))) shapeCasts_S64x256_S64x1x256⟩,
   ⟨Rect.unit (s := S64x16x256) ![0, 0, 0] S64x1x256.size inb_S64x16x256_S64x1x256_0_0_0, shapeCast S64x1x256 (k0_pay5 (F := Ideal) (arg1.view.readAt (Elt Ideal) (Rect.unit (s := S64x384) ![0, 0] S64x384.size inb_S64x384_S64x384_0_0).toLoadRect (harg1.unread x0))
      (arg2.view.readAt (Elt Ideal) (Rect.unit (s := S16x256x384) ![0, 0, 0] S1x256x384.size inb_S16x256x384_S1x256x384_0_0_0).toLoadRect (harg2.unread x1))) shapeCasts_S64x256_S64x1x256⟩]

/-- What the pieces of the table of codebook products leave. -/
theorem lutL_read (arg : Memref sig .tc .vmem S64x4096 .f32) (f : BufTy.Contents (Elt Ideal) arg.view.ty)
    (arg1 : Memref sig .tc .vmem S64x384 .bf16) (harg1 : arg1.IsWhole) (arg2 : Memref sig .tc .vmem S16x256x384 .bf16) (harg2 : arg2.IsWhole) (x0 : Vec Ideal S64x384 .bf16) (x1 : Vec Ideal S16x256x384 .bf16) :
    arg.view.read (Elt Ideal) (arg.view.writes (Elt Ideal) f (lutL arg1 harg1 arg2 harg2 x0 x1)) = lutV x0 x1 := by
  have hcov := View.cover_of_tiledL (lutL arg1 harg1 arg2 harg2 x0 x1) S64x256.size (by sl_kernel_rfl)
  refine (View.read_writes_eq_canon (Val := Elt Ideal) _ _ _ hcov).trans (funext fun y => ?_)
  refine View.canon_apply_of_pieces (Val := Elt Ideal) _ _ (fun p hp x => ?_) y (hcov y)
  simp only [lutL, List.mem_cons, List.not_mem_nil, or_false] at hp
  rcases hp with rfl | rfl | rfl | rfl | rfl | rfl | rfl | rfl | rfl | rfl | rfl | rfl | rfl | rfl | rfl | rfl
  · exact lut_piece arg1 harg1 arg2 harg2 x0 x1 15 (by omega) ![15, 0, 0] rfl inb_S16x256x384_S1x256x384_15_0_0 ![0, 3840] rfl inb_S64x4096_S64x256_0_3840 x
  · exact lut_piece arg1 harg1 arg2 harg2 x0 x1 14 (by omega) ![14, 0, 0] rfl inb_S16x256x384_S1x256x384_14_0_0 ![0, 3584] rfl inb_S64x4096_S64x256_0_3584 x
  · exact lut_piece arg1 harg1 arg2 harg2 x0 x1 13 (by omega) ![13, 0, 0] rfl inb_S16x256x384_S1x256x384_13_0_0 ![0, 3328] rfl inb_S64x4096_S64x256_0_3328 x
  · exact lut_piece arg1 harg1 arg2 harg2 x0 x1 12 (by omega) ![12, 0, 0] rfl inb_S16x256x384_S1x256x384_12_0_0 ![0, 3072] rfl inb_S64x4096_S64x256_0_3072 x
  · exact lut_piece arg1 harg1 arg2 harg2 x0 x1 11 (by omega) ![11, 0, 0] rfl inb_S16x256x384_S1x256x384_11_0_0 ![0, 2816] rfl inb_S64x4096_S64x256_0_2816 x
  · exact lut_piece arg1 harg1 arg2 harg2 x0 x1 10 (by omega) ![10, 0, 0] rfl inb_S16x256x384_S1x256x384_10_0_0 ![0, 2560] rfl inb_S64x4096_S64x256_0_2560 x
  · exact lut_piece arg1 harg1 arg2 harg2 x0 x1 9 (by omega) ![9, 0, 0] rfl inb_S16x256x384_S1x256x384_9_0_0 ![0, 2304] rfl inb_S64x4096_S64x256_0_2304 x
  · exact lut_piece arg1 harg1 arg2 harg2 x0 x1 8 (by omega) ![8, 0, 0] rfl inb_S16x256x384_S1x256x384_8_0_0 ![0, 2048] rfl inb_S64x4096_S64x256_0_2048 x
  · exact lut_piece arg1 harg1 arg2 harg2 x0 x1 7 (by omega) ![7, 0, 0] rfl inb_S16x256x384_S1x256x384_7_0_0 ![0, 1792] rfl inb_S64x4096_S64x256_0_1792 x
  · exact lut_piece arg1 harg1 arg2 harg2 x0 x1 6 (by omega) ![6, 0, 0] rfl inb_S16x256x384_S1x256x384_6_0_0 ![0, 1536] rfl inb_S64x4096_S64x256_0_1536 x
  · exact lut_piece arg1 harg1 arg2 harg2 x0 x1 5 (by omega) ![5, 0, 0] rfl inb_S16x256x384_S1x256x384_5_0_0 ![0, 1280] rfl inb_S64x4096_S64x256_0_1280 x
  · exact lut_piece arg1 harg1 arg2 harg2 x0 x1 4 (by omega) ![4, 0, 0] rfl inb_S16x256x384_S1x256x384_4_0_0 ![0, 1024] rfl inb_S64x4096_S64x256_0_1024 x
  · exact lut_piece arg1 harg1 arg2 harg2 x0 x1 3 (by omega) ![3, 0, 0] rfl inb_S16x256x384_S1x256x384_3_0_0 ![0, 768] rfl inb_S64x4096_S64x256_0_768 x
  · exact lut_piece arg1 harg1 arg2 harg2 x0 x1 2 (by omega) ![2, 0, 0] rfl inb_S16x256x384_S1x256x384_2_0_0 ![0, 512] rfl inb_S64x4096_S64x256_0_512 x
  · exact lut_piece arg1 harg1 arg2 harg2 x0 x1 1 (by omega) ![1, 0, 0] rfl inb_S16x256x384_S1x256x384_1_0_0 ![0, 256] rfl inb_S64x4096_S64x256_0_256 x
  · exact lut_piece arg1 harg1 arg2 harg2 x0 x1 0 (by omega) ![0, 0, 0] rfl inb_S16x256x384_S1x256x384_0_0_0 ![0, 0] rfl inb_S64x4096_S64x256_0_0 x

/-- What the pieces of the planes of codebook products leave. -/
theorem lut3L_read (arg : Memref sig .tc .vmem S64x16x256 .f32) (f : BufTy.Contents (Elt Ideal) arg.view.ty)
    (arg1 : Memref sig .tc .vmem S64x384 .bf16) (harg1 : arg1.IsWhole) (arg2 : Memref sig .tc .vmem S16x256x384 .bf16) (harg2 : arg2.IsWhole) (x0 : Vec Ideal S64x384 .bf16) (x1 : Vec Ideal S16x256x384 .bf16) :
    arg.view.read (Elt Ideal) (arg.view.writes (Elt Ideal) f (lut3L arg1 harg1 arg2 harg2 x0 x1)) = lut3V x0 x1 := by
  have hcov := View.cover_of_tiledL (lut3L arg1 harg1 arg2 harg2 x0 x1) S64x1x256.size (by sl_kernel_rfl)
  refine (View.read_writes_eq_canon (Val := Elt Ideal) _ _ _ hcov).trans (funext fun y => ?_)
  refine View.canon_apply_of_pieces (Val := Elt Ideal) _ _ (fun p hp x => ?_) y (hcov y)
  simp only [lut3L, List.mem_cons, List.not_mem_nil, or_false] at hp
  rcases hp with rfl | rfl | rfl | rfl | rfl | rfl | rfl | rfl | rfl | rfl | rfl | rfl | rfl | rfl | rfl | rfl
  · exact lut3_piece arg1 harg1 arg2 harg2 x0 x1 15 (by omega) ![15, 0, 0] rfl inb_S16x256x384_S1x256x384_15_0_0 ![0, 15, 0] rfl inb_S64x16x256_S64x1x256_0_15_0 x
  · exact lut3_piece arg1 harg1 arg2 harg2 x0 x1 14 (by omega) ![14, 0, 0] rfl inb_S16x256x384_S1x256x384_14_0_0 ![0, 14, 0] rfl inb_S64x16x256_S64x1x256_0_14_0 x
  · exact lut3_piece arg1 harg1 arg2 harg2 x0 x1 13 (by omega) ![13, 0, 0] rfl inb_S16x256x384_S1x256x384_13_0_0 ![0, 13, 0] rfl inb_S64x16x256_S64x1x256_0_13_0 x
  · exact lut3_piece arg1 harg1 arg2 harg2 x0 x1 12 (by omega) ![12, 0, 0] rfl inb_S16x256x384_S1x256x384_12_0_0 ![0, 12, 0] rfl inb_S64x16x256_S64x1x256_0_12_0 x
  · exact lut3_piece arg1 harg1 arg2 harg2 x0 x1 11 (by omega) ![11, 0, 0] rfl inb_S16x256x384_S1x256x384_11_0_0 ![0, 11, 0] rfl inb_S64x16x256_S64x1x256_0_11_0 x
  · exact lut3_piece arg1 harg1 arg2 harg2 x0 x1 10 (by omega) ![10, 0, 0] rfl inb_S16x256x384_S1x256x384_10_0_0 ![0, 10, 0] rfl inb_S64x16x256_S64x1x256_0_10_0 x
  · exact lut3_piece arg1 harg1 arg2 harg2 x0 x1 9 (by omega) ![9, 0, 0] rfl inb_S16x256x384_S1x256x384_9_0_0 ![0, 9, 0] rfl inb_S64x16x256_S64x1x256_0_9_0 x
  · exact lut3_piece arg1 harg1 arg2 harg2 x0 x1 8 (by omega) ![8, 0, 0] rfl inb_S16x256x384_S1x256x384_8_0_0 ![0, 8, 0] rfl inb_S64x16x256_S64x1x256_0_8_0 x
  · exact lut3_piece arg1 harg1 arg2 harg2 x0 x1 7 (by omega) ![7, 0, 0] rfl inb_S16x256x384_S1x256x384_7_0_0 ![0, 7, 0] rfl inb_S64x16x256_S64x1x256_0_7_0 x
  · exact lut3_piece arg1 harg1 arg2 harg2 x0 x1 6 (by omega) ![6, 0, 0] rfl inb_S16x256x384_S1x256x384_6_0_0 ![0, 6, 0] rfl inb_S64x16x256_S64x1x256_0_6_0 x
  · exact lut3_piece arg1 harg1 arg2 harg2 x0 x1 5 (by omega) ![5, 0, 0] rfl inb_S16x256x384_S1x256x384_5_0_0 ![0, 5, 0] rfl inb_S64x16x256_S64x1x256_0_5_0 x
  · exact lut3_piece arg1 harg1 arg2 harg2 x0 x1 4 (by omega) ![4, 0, 0] rfl inb_S16x256x384_S1x256x384_4_0_0 ![0, 4, 0] rfl inb_S64x16x256_S64x1x256_0_4_0 x
  · exact lut3_piece arg1 harg1 arg2 harg2 x0 x1 3 (by omega) ![3, 0, 0] rfl inb_S16x256x384_S1x256x384_3_0_0 ![0, 3, 0] rfl inb_S64x16x256_S64x1x256_0_3_0 x
  · exact lut3_piece arg1 harg1 arg2 harg2 x0 x1 2 (by omega) ![2, 0, 0] rfl inb_S16x256x384_S1x256x384_2_0_0 ![0, 2, 0] rfl inb_S64x16x256_S64x1x256_0_2_0 x
  · exact lut3_piece arg1 harg1 arg2 harg2 x0 x1 1 (by omega) ![1, 0, 0] rfl inb_S16x256x384_S1x256x384_1_0_0 ![0, 1, 0] rfl inb_S64x16x256_S64x1x256_0_1_0 x
  · exact lut3_piece arg1 harg1 arg2 harg2 x0 x1 0 (by omega) ![0, 0, 0] rfl inb_S16x256x384_S1x256x384_0_0_0 ![0, 0, 0] rfl inb_S64x16x256_S64x1x256_0_0_0 x

/-- The product of the queries with the loaded centroids, at an entry. -/
theorem cent_at (arg1 : Memref sig .tc .vmem S64x384 .bf16) (harg1 : arg1.IsWhole) (arg3 : Memref sig .tc .vmem S1000x384 .bf16) (harg3 : arg3.IsWhole) (x0 : Vec Ideal S64x384 .bf16) (x2 : Vec Ideal S1000x384 .bf16) (r : Fin 64) (k : Fin 1000) :
    k0_pay53 (F := Ideal) (arg1.view.readAt (Elt Ideal) (Rect.unit (s := S64x384) ![0, 0] S64x384.size inb_S64x384_S64x384_0_0).toLoadRect (harg1.unread x0))
        (arg3.view.readAt (Elt Ideal) (Rect.unit (s := S1000x384) ![0, 0] S1000x384.size inb_S1000x384_S1000x384_0_0).toLoadRect (harg3.unread x2)) (ix2 r k) = centAt x0 x2 r.val k.val := by
  refine (prod1000_cell _ _ r k).trans (Finset.sum_congr rfl fun d _ => ?_)
  exact congrArg₂ (fun a b : EReal => a * b) (query_cell arg1 harg1 x0 r d) (centroid_cell arg3 harg3 x2 k d)

/-- What the one piece of the centroids' products leaves. -/
theorem cqL_read (arg : Memref sig .tc .vmem S64x1000 .f32) (f : BufTy.Contents (Elt Ideal) arg.view.ty)
    (arg1 : Memref sig .tc .vmem S64x384 .bf16) (harg1 : arg1.IsWhole) (arg3 : Memref sig .tc .vmem S1000x384 .bf16) (harg3 : arg3.IsWhole) (x0 : Vec Ideal S64x384 .bf16) (x2 : Vec Ideal S1000x384 .bf16) :
    arg.view.read (Elt Ideal) (arg.view.writes (Elt Ideal) f
      [⟨Rect.unit (s := S64x1000) ![0, 0] S64x1000.size inb_S64x1000_S64x1000_0_0, k0_pay53 (F := Ideal) (arg1.view.readAt (Elt Ideal) (Rect.unit (s := S64x384) ![0, 0] S64x384.size inb_S64x384_S64x384_0_0).toLoadRect (harg1.unread x0))
        (arg3.view.readAt (Elt Ideal) (Rect.unit (s := S1000x384) ![0, 0] S1000x384.size inb_S1000x384_S1000x384_0_0).toLoadRect (harg3.unread x2))⟩]) = cqV x0 x2 := by
  refine (View.read_writes_eq_canon _ _ _ (View.cover_of_tiledL _ S64x1000.size (by sl_kernel_rfl))).trans (funext fun y => ?_)
  refine View.canon_apply_of_pieces (Val := Elt Ideal) _ _ (fun p hp x => ?_) y (View.cover_of_tiledL _ S64x1000.size (by sl_kernel_rfl) y)
  obtain rfl := List.mem_singleton.mp hp
  have hx : x = ix2 (n0 := 64) (n1 := 1000) (x 0) (x 1) := eq_ix2 (n0 := 64) (n1 := 1000) x
  have e := cent_at arg1 harg1 arg3 harg3 x0 x2 (x 0) (x 1)
  rw [← hx] at e
  refine e.trans ?_
  show _ = centAt x0 x2 (0 + 1 * (x 0).val) (0 + 1 * (x 1).val)
  congr 1 <;> omega

/-- What the two pieces of the padded centroids' products leave. -/
theorem cqPL_read (arg : Memref sig .tc .vmem S64x1024 .f32) (f : BufTy.Contents (Elt Ideal) arg.view.ty)
    (arg1 : Memref sig .tc .vmem S64x384 .bf16) (harg1 : arg1.IsWhole) (arg3 : Memref sig .tc .vmem S1000x384 .bf16) (harg3 : arg3.IsWhole) (x0 : Vec Ideal S64x384 .bf16) (x2 : Vec Ideal S1000x384 .bf16) :
    arg.view.read (Elt Ideal) (arg.view.writes (Elt Ideal) f
      [⟨Rect.unit (s := S64x1024) ![0, 1000] S64x24.size inb_S64x1024_S64x24_0_1000, k0_pay55 (F := Ideal)⟩,
       ⟨Rect.unit (s := S64x1024) ![0, 0] S64x1000.size inb_S64x1024_S64x1000_0_0, k0_pay54 (F := Ideal) (arg1.view.readAt (Elt Ideal) (Rect.unit (s := S64x384) ![0, 0] S64x384.size inb_S64x384_S64x384_0_0).toLoadRect (harg1.unread x0))
        (arg3.view.readAt (Elt Ideal) (Rect.unit (s := S1000x384) ![0, 0] S1000x384.size inb_S1000x384_S1000x384_0_0).toLoadRect (harg3.unread x2))⟩]) = cqPV x0 x2 := by
  refine (View.read_writes_eq_canon _ _ _ (View.cover_of_tiledBy _ ![64, 8] (by sl_kernel_rfl))).trans (funext fun y => ?_)
  refine View.canon_apply_of_pieces (Val := Elt Ideal) _ _ (fun p hp x => ?_) y (View.cover_of_tiledBy _ ![64, 8] (by sl_kernel_rfl) y)
  simp only [List.mem_cons, List.not_mem_nil, or_false] at hp
  rcases hp with rfl | rfl
  · show (Ideal.ofBits .f32 0x00000000#32 : EReal) = if 1000 + 1 * (x 1).val < 1000 then _ else 0
    rw [if_neg (by omega), Ideal.ofBits_zero_f32]
  · have hx : x = ix2 (n0 := 64) (n1 := 1000) (x 0) (x 1) := eq_ix2 (n0 := 64) (n1 := 1000) x
    have e := cent_at arg1 harg1 arg3 harg3 x0 x2 (x 0) (x 1)
    rw [← hx] at e
    refine (congrFun (shapeCast_self _ _) x).trans (e.trans ?_)
    have h1 : (x 1).val < 1000 := (x 1).isLt
    show _ = if 0 + 1 * (x 1).val < 1000 then centAt x0 x2 (0 + 1 * (x 0).val) (0 + 1 * (x 1).val) else 0
    rw [if_pos (by omega)]
    congr 1 <;> omega

/-- The squared norm of a query, at an entry of its row. -/
theorem qn_at (arg1 : Memref sig .tc .vmem S64x384 .bf16) (harg1 : arg1.IsWhole) (x0 : Vec Ideal S64x384 .bf16) (r : Fin 64) (l : Fin 128) :
    k0_pay56 (F := Ideal) (arg1.view.readAt (Elt Ideal) (Rect.unit (s := S64x384) ![0, 0] S64x384.size inb_S64x384_S64x384_0_0).toLoadRect (harg1.unread x0)) (ix2 r l) = qnormAt x0 r.val := by
  unfold k0_pay56
  dsimp only
  refine (broadcastTo_apply _ _ (ix2 (n0 := 64) (n1 := 128) r l) (ix2 (n0 := 64) (n1 := 1) r 0) ?_).trans ?_
  · intro a
    match a with
    | ⟨0, _⟩ => exact (if_neg (show ¬ (64 = 1) by decide)).symm
    | ⟨1, _⟩ => exact (if_pos (show 1 = 1 from rfl)).symm
  rw [shapeCast_self]
  refine (shapeCast_apply _ _ (ix2 (n0 := 64) (n1 := 1) r 0) (ix1 (n0 := 64) r) ?_).trans ?_
  · refine (Shape.rowMajor_val_one (d := ![64]) _).trans (Eq.trans ?_ (Shape.rowMajor_val_two (d := ![64, 1]) _).symm)
    show r.val = r.val * 1 + 0
    omega
  refine (Ideal.multiReduction_add_single _ _ _ _ _ _).trans (Finset.sum_congr rfl fun d _ => ?_)
  refine Eq.trans ?_ (congrArg₂ (fun a b : EReal => a * b) (query_cell arg1 harg1 x0 r d) (query_cell arg1 harg1 x0 r d))
  refine congrArg (fun j => (((arg1.view.readAt (Elt Ideal) (Rect.unit (s := S64x384) ![0, 0] S64x384.size inb_S64x384_S64x384_0_0).toLoadRect (harg1.unread x0)) j : EReal) * ((arg1.view.readAt (Elt Ideal) (Rect.unit (s := S64x384) ![0, 0] S64x384.size inb_S64x384_S64x384_0_0).toLoadRect (harg1.unread x0)) j : EReal) : EReal)) (funext fun i => ?_)
  match i with
  | ⟨0, _⟩ => rfl
  | ⟨1, _⟩ => rfl

/-- What the one piece of the queries' squared norms leaves. -/
theorem qnL_read (arg : Memref sig .tc .vmem S64x128 .f32) (f : BufTy.Contents (Elt Ideal) arg.view.ty)
    (arg1 : Memref sig .tc .vmem S64x384 .bf16) (harg1 : arg1.IsWhole) (x0 : Vec Ideal S64x384 .bf16) :
    arg.view.read (Elt Ideal) (arg.view.writes (Elt Ideal) f
      [⟨Rect.unit (s := S64x128) ![0, 0] ![64, 128] inb_S64x128_S64x128_0_0, k0_pay1 (F := Ideal) (k0_pay56 (F := Ideal) (arg1.view.readAt (Elt Ideal) (Rect.unit (s := S64x384) ![0, 0] S64x384.size inb_S64x384_S64x384_0_0).toLoadRect (harg1.unread x0)))⟩]) = qnV x0 := by
  refine (View.read_writes_eq_canon _ _ _ (View.cover_of_tiledL _ S64x128.size (by sl_kernel_rfl))).trans (funext fun y => ?_)
  refine View.canon_apply_of_pieces (Val := Elt Ideal) _ _ (fun p hp x => ?_) y (View.cover_of_tiledL _ S64x128.size (by sl_kernel_rfl) y)
  obtain rfl := List.mem_singleton.mp hp
  have hx : x = ix2 (n0 := 64) (n1 := 128) (x 0) (x 1) := eq_ix2 (n0 := 64) (n1 := 128) x
  have e := qn_at arg1 harg1 x0 (x 0) (x 1)
  rw [← hx] at e
  refine (congrFun (shapeCast_self _ _) x).trans (e.trans ?_)
  show _ = qnormAt x0 (0 + 1 * (x 0).val)
  congr 1; omega

/-- What the one piece of the widened codes leaves. -/
theorem codesL_read (arg : Memref sig .tc .vmem S16x4096 .i32) (f : BufTy.Contents (Elt Ideal) arg.view.ty)
    (arg4 : Memref sig .tc .vmem S16x4096 .i8) (harg4 : arg4.IsWhole) (x3 : Vec Ideal S16x4096 .i8) :
    arg.view.read (Elt Ideal) (arg.view.writes (Elt Ideal) f
      [⟨Rect.unit (s := S16x4096) ![0, 0] ![16, 4096] inb_S16x4096_S16x4096_0_0, k0_pay2 (F := Ideal)
        (arg4.view.readAt (Elt Ideal) (Rect.unit (s := S16x4096) ![0, 0] ![16, 4096] inb_S16x4096_S16x4096_0_0).toLoadRect (harg4.unread x3))⟩]) = codesOf x3 := by
  refine (View.read_writes_eq_canon _ _ _ (View.cover_of_tiledL _ S16x4096.size (by sl_kernel_rfl))).trans (funext fun y => ?_)
  refine View.canon_apply_of_pieces (Val := Elt Ideal) _ _ (fun p hp x => ?_) y (View.cover_of_tiledL _ S16x4096.size (by sl_kernel_rfl) y)
  obtain rfl := List.mem_singleton.mp hp
  have e : arg4.view.readAt (Elt Ideal) (Rect.unit (s := S16x4096) ![0, 0] ![16, 4096] inb_S16x4096_S16x4096_0_0).toLoadRect (harg4.unread x3)
      = fun x => x3 ((Rect.unit (s := S16x4096) ![0, 0] ![16, 4096] inb_S16x4096_S16x4096_0_0).emb x) := by
    funext x
    show arg4.view.read (Elt Ideal) (harg4.unread x3) _ = _
    rw [harg4.read_unread]
    rfl
  rw [e]
  unfold k0_pay2
  dsimp only
  rw [shapeCast_self, shapeCast_self]
  rfl

end Cert.KernelIdeal.Gen

end
-- ==== Proof.KernelIdeal.RunA.lean ====
module

public import proofs.«01_k».proof.Proof.Gen.KernelIdeal.Frame
public import proofs.«01_k».proof.Proof.KernelIdeal.Facts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1000000 in
/-- The first grid point fills the tables and its block of distances. -/
theorem runA (c : Dev nD) (i : grid0.Coords) (arg1 : Memref sig .tc .vmem S64x384 .bf16) (harg1 : arg1.IsWhole) (arg2 : Memref sig .tc .vmem S16x256x384 .bf16) (harg2 : arg2.IsWhole) (arg3 : Memref sig .tc .vmem S1000x384 .bf16) (harg3 : arg3.IsWhole) (arg4 : Memref sig .tc .vmem S16x4096 .i8) (harg4 : arg4.IsWhole) (arg5 : Memref sig .tc .vmem S1x4096 .i8) (harg5 : arg5.IsWhole) (arg6 : Memref sig .tc .vmem S1x256 .f32) (harg6 : arg6.IsWhole) (arg7 : Memref sig .tc .vmem S1x4096 .i32) (harg7 : arg7.IsWhole) (arg8 : Memref sig .tc .vmem S64x4096 .f32) (harg8 : arg8.IsWhole) (arg9 : Memref sig .tc .vmem S64x16x256 .f32) (harg9 : arg9.IsWhole) (arg10 : Memref sig .tc .vmem S64x1000 .f32) (harg10 : arg10.IsWhole) (arg11 : Memref sig .tc .vmem S64x4096 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S16x4096 .i32) (harg14 : arg14.IsWhole)
    (hc0 : k0_cond1 i = 1#1)
    (x0 : Vec Ideal S64x384 .bf16) (x1 : Vec Ideal S16x256x384 .bf16) (x2 : Vec Ideal S1000x384 .bf16) (x3 : Vec Ideal S16x4096 .i8) (x4 : Vec Ideal S1x4096 .i8) (x5 : Vec Ideal S1x256 .f32) (x6 : Vec Ideal S1x4096 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (distB (lutV x0 x1) (cqPV x0 x2) (qnV x0) x3 x4 x5 x6) ∗ owns (c : Thread nD τ) arg9 fullShare (lut3V x0 x1) ∗ owns (c : Thread nD τ) arg10 fullShare (cqV x0 x2) ∗ owns (c : Thread nD τ) arg11 fullShare (lutV x0 x1) ∗ owns (c : Thread nD τ) arg12 fullShare (cqPV x0 x2) ∗ owns (c : Thread nD τ) arg13 fullShare (qnV x0) ∗ (∃ d, owns (c : Thread nD τ) arg14 fullShare d)) -∗ K ⟨⟩))
      ⊢ wp frame (wpE (defs₀ (F := Ideal)) Variants.none c none) E (cc0_adc_search i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_adc_search_eq_skeleton]; unfold cc0_adc_search_skel
  simp only [k0_part6_eq_skeleton, k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    have e11 : arg11.view.read (Elt Ideal) (arg11.view.writes (Elt Ideal) arg11.view.junk (runA.sl.HS0_16 c arg1 harg1 arg2 harg2 x0 x1)) = lutV x0 x1 := lutL_read arg11 _ arg1 harg1 arg2 harg2 x0 x1
    have e12 : arg12.view.read (Elt Ideal) (arg12.view.writes (Elt Ideal) arg12.view.junk (runA.sl.HS1_2 c arg1 harg1 arg3 harg3 x0 x2)) = cqPV x0 x2 := cqPL_read arg12 _ arg1 harg1 arg3 harg3 x0 x2
    have e13 : arg13.view.read (Elt Ideal) (arg13.view.writes (Elt Ideal) arg13.view.junk (runA.sl.HS2_1 c arg1 harg1 x0)) = qnV x0 := qnL_read arg13 _ arg1 harg1 x0
    have e14 : arg14.view.read (Elt Ideal) (arg14.view.writes (Elt Ideal) arg14.view.junk (runA.sl.HS3_1 c arg4 harg4 x3)) = codesOf x3 := codesL_read arg14 _ arg4 harg4 x3
    refine (loop_value Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ (fun j => by rw [e14]; exact codesOf_lt x3 j) f7).trans ?_
    rw [e11, e12, e13, e14, harg5.read_unread, harg6.read_unread, harg7.read_unread]
    rfl
  isplitl [H8]
  · iexists _; isplitr; swap; · iexact H8
    ipureintro
    exact lut3L_read arg9 _ arg1 harg1 arg2 harg2 x0 x1
  isplitl [H9]
  · iexists _; isplitr; swap; · iexact H9
    ipureintro
    exact cqL_read arg10 _ arg1 harg1 arg3 harg3 x0 x2
  isplitl [HS0]
  · iexists _; isplitr; swap; · iexact HS0
    ipureintro
    exact lutL_read arg11 _ arg1 harg1 arg2 harg2 x0 x1
  isplitl [HS1]
  · iexists _; isplitr; swap; · iexact HS1
    ipureintro
    exact cqPL_read arg12 _ arg1 harg1 arg3 harg3 x0 x2
  isplitl [HS2]
  · iexists _; isplitr; swap; · iexact HS2
    ipureintro
    exact qnL_read arg13 _ arg1 harg1 x0
  iexists _, _; isplitr; swap; · iexact HS3
  ipureintro; rfl

end Cert.KernelIdeal.Gen

end
-- ==== Proof.KernelIdeal.RunB.lean ====
module

public import proofs.«01_k».proof.Proof.Gen.KernelIdeal.Frame
public import proofs.«01_k».proof.Proof.KernelIdeal.Facts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1000000 in
/-- A later grid point fills its block of distances from the tables, which it keeps. -/
theorem runB (c : Dev nD) (i : grid0.Coords) (arg1 : Memref sig .tc .vmem S64x384 .bf16) (harg1 : arg1.IsWhole) (arg2 : Memref sig .tc .vmem S16x256x384 .bf16) (harg2 : arg2.IsWhole) (arg3 : Memref sig .tc .vmem S1000x384 .bf16) (harg3 : arg3.IsWhole) (arg4 : Memref sig .tc .vmem S16x4096 .i8) (harg4 : arg4.IsWhole) (arg5 : Memref sig .tc .vmem S1x4096 .i8) (harg5 : arg5.IsWhole) (arg6 : Memref sig .tc .vmem S1x256 .f32) (harg6 : arg6.IsWhole) (arg7 : Memref sig .tc .vmem S1x4096 .i32) (harg7 : arg7.IsWhole) (arg8 : Memref sig .tc .vmem S64x4096 .f32) (harg8 : arg8.IsWhole) (arg9 : Memref sig .tc .vmem S64x16x256 .f32) (harg9 : arg9.IsWhole) (arg10 : Memref sig .tc .vmem S64x1000 .f32) (harg10 : arg10.IsWhole) (arg11 : Memref sig .tc .vmem S64x4096 .f32) (harg11 : arg11.IsWhole) (arg12 : Memref sig .tc .vmem S64x1024 .f32) (harg12 : arg12.IsWhole) (arg13 : Memref sig .tc .vmem S64x128 .f32) (harg13 : arg13.IsWhole) (arg14 : Memref sig .tc .vmem S16x4096 .i32) (harg14 : arg14.IsWhole)
    (hc0 : ¬k0_cond1 i = 1#1)
    (x0 : Vec Ideal S64x384 .bf16) (x1 : Vec Ideal S16x256x384 .bf16) (x2 : Vec Ideal S1000x384 .bf16) (x3 : Vec Ideal S16x4096 .i8) (x4 : Vec Ideal S1x4096 .i8) (x5 : Vec Ideal S1x256 .f32) (x6 : Vec Ideal S1x4096 .i32) (y8 : Vec Ideal S64x16x256 .f32) (y9 : Vec Ideal S64x1000 .f32) (xs0 : Vec Ideal S64x4096 .f32) (xs1 : Vec Ideal S64x1024 .f32) (xs2 : Vec Ideal S64x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y8 ∗ owns (c : Thread nD τ) arg10 fullShare y9 ∗ owns (c : Thread nD τ) arg11 fullShare xs0 ∗ owns (c : Thread nD τ) arg12 fullShare xs1 ∗ owns (c : Thread nD τ) arg13 fullShare xs2 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (distB xs0 xs1 xs2 x3 x4 x5 x6) ∗ owns (c : Thread nD τ) arg9 fullShare y8 ∗ owns (c : Thread nD τ) arg10 fullShare y9 ∗ owns (c : Thread nD τ) arg11 fullShare xs0 ∗ owns (c : Thread nD τ) arg12 fullShare xs1 ∗ owns (c : Thread nD τ) arg13 fullShare xs2 ∗ (∃ d, owns (c : Thread nD τ) arg14 fullShare d)) -∗ K ⟨⟩))
      ⊢ wp frame (wpE (defs₀ (F := Ideal)) Variants.none c none) E (cc0_adc_search i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_adc_search_eq_skeleton]; unfold cc0_adc_search_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, ⟨%ds3, %fs3, -, HS3⟩, Hk⟩
  obtain rfl := harg11.eq_unread hfs0; obtain rfl := harg12.eq_unread hfs1; obtain rfl := harg13.eq_unread hfs2
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    have e14 : arg14.view.read (Elt Ideal) (arg14.view.writes (Elt Ideal) arg14.view.junk (runB.sl.HS3_1 c arg4 harg4 x3)) = codesOf x3 := codesL_read arg14 _ arg4 harg4 x3
    refine (loop_value Variants.none c none i arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ (fun j => by rw [e14]; exact codesOf_lt x3 j) f7).trans ?_
    rw [e14, harg5.read_unread, harg6.read_unread, harg7.read_unread, harg11.read_unread, harg12.read_unread, harg13.read_unread]
    rfl
  isplitl [H8]
  · iexists _; isplitr; swap; · iexact H8
    ipureintro; exact hf8
  isplitl [H9]
  · iexists _; isplitr; swap; · iexact H9
    ipureintro; exact hf9
  isplitl [HS0]
  · iexists _; isplitr; swap; · iexact HS0
    ipureintro; exact harg11.read_unread _
  isplitl [HS1]
  · iexists _; isplitr; swap; · iexact HS1
    ipureintro; exact harg12.read_unread _
  isplitl [HS2]
  · iexists _; isplitr; swap; · iexact HS2
    ipureintro; exact harg13.read_unread _
  iexists _, _; isplitr; swap; · iexact HS3
  ipureintro; rfl

end Cert.KernelIdeal.Gen

end
-- ==== Proof.KernelIdeal.Points.lean ====
module

public import proofs.«01_k».proof.Proof.Gen.KernelIdeal.Frame
public import proofs.«01_k».proof.Proof.KernelIdeal.RunA
public import proofs.«01_k».proof.Proof.KernelIdeal.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! # What every grid point leaves, and the run of the whole program -/

/-- The body's branch is taken at the first point only. -/
theorem hcond0_0 : ∀ t : Fin cfg0.N, k0_cond1 (grid0.coords t) = 1#1 ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [k0_cond1, e0]
    word_cmp
   : ∀ t : Fin grid0.N, k0_cond1 (grid0.coords t) = 1#1 ↔ t.val % 64 = 0)

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl
/-- Window 6 is never idle. -/
theorem liveAt0_6 : ∀ t : Fin cfg0.N, cfg0.idle 6 (grid0.coords t) = false := fun _ => rfl
/-- Window 7 is never idle. -/
theorem liveAt0_7 : ∀ t : Fin cfg0.N, cfg0.idle 7 (grid0.coords t) = false := fun _ => rfl
/-- Window 8 is in use at the first point, -/
theorem liveAt0_8 (t : Fin cfg0.N) (h : t.val % 64 = 0) : cfg0.idle 8 (grid0.coords t) = false := by
  show (!(k0_cond1 (grid0.coords t) == 1#1)) = false
  rw [(hcond0_0 t).mpr h]; rfl
/-- and at no later one. -/
theorem idleAt0_8 (t : Fin cfg0.N) (h : ¬ t.val % 64 = 0) : cfg0.idle 8 (grid0.coords t) = true := by
  show (!(k0_cond1 (grid0.coords t) == 1#1)) = true
  have : ¬ k0_cond1 (grid0.coords t) = 1#1 := fun e => h ((hcond0_0 t).mp e)
  simp [this]
/-- Window 9 is in use at the first point, -/
theorem liveAt0_9 (t : Fin cfg0.N) (h : t.val % 64 = 0) : cfg0.idle 9 (grid0.coords t) = false := by
  show (!(k0_cond1 (grid0.coords t) == 1#1)) = false
  rw [(hcond0_0 t).mpr h]; rfl
/-- and at no later one. -/
theorem idleAt0_9 (t : Fin cfg0.N) (h : ¬ t.val % 64 = 0) : cfg0.idle 9 (grid0.coords t) = true := by
  show (!(k0_cond1 (grid0.coords t) == 1#1)) = true
  have : ¬ k0_cond1 (grid0.coords t) = 1#1 := fun e => h ((hcond0_0 t).mp e)
  simp [this]

/-- Window 0's buffer in use at point `t`, -/
abbrev ms0_0 (t : Fin cfg0.N) : Memref sig .tc .vmem S64x384 .bf16 := win0_0.stage (cfg0.slots t 0)
/-- which is whole. -/
theorem hs0_0 (t : Fin cfg0.N) : (ms0_0 t).IsWhole := hstage0_0 ((cfg0.slots t 0).cast nbuf0_0)
/-- Window 1's buffer in use at point `t`, -/
abbrev ms0_1 (t : Fin cfg0.N) : Memref sig .tc .vmem S16x256x384 .bf16 := win0_1.stage (cfg0.slots t 1)
/-- which is whole. -/
theorem hs0_1 (t : Fin cfg0.N) : (ms0_1 t).IsWhole := hstage0_1 ((cfg0.slots t 1).cast nbuf0_1)
/-- Window 2's buffer in use at point `t`, -/
abbrev ms0_2 (t : Fin cfg0.N) : Memref sig .tc .vmem S1000x384 .bf16 := win0_2.stage (cfg0.slots t 2)
/-- which is whole. -/
theorem hs0_2 (t : Fin cfg0.N) : (ms0_2 t).IsWhole := hstage0_2 ((cfg0.slots t 2).cast nbuf0_2)
/-- Window 3's buffer in use at point `t`, -/
abbrev ms0_3 (t : Fin cfg0.N) : Memref sig .tc .vmem S16x4096 .i8 := win0_3.stage (cfg0.slots t 3)
/-- which is whole. -/
theorem hs0_3 (t : Fin cfg0.N) : (ms0_3 t).IsWhole := hstage0_3 ((cfg0.slots t 3).cast nbuf0_3)
/-- Window 4's buffer in use at point `t`, -/
abbrev ms0_4 (t : Fin cfg0.N) : Memref sig .tc .vmem S1x4096 .i8 := win0_4.stage (cfg0.slots t 4)
/-- which is whole. -/
theorem hs0_4 (t : Fin cfg0.N) : (ms0_4 t).IsWhole := hstage0_4 ((cfg0.slots t 4).cast nbuf0_4)
/-- Window 5's buffer in use at point `t`, -/
abbrev ms0_5 (t : Fin cfg0.N) : Memref sig .tc .vmem S1x256 .f32 := win0_5.stage (cfg0.slots t 5)
/-- which is whole. -/
theorem hs0_5 (t : Fin cfg0.N) : (ms0_5 t).IsWhole := hstage0_5 ((cfg0.slots t 5).cast nbuf0_5)
/-- Window 6's buffer in use at point `t`, -/
abbrev ms0_6 (t : Fin cfg0.N) : Memref sig .tc .vmem S1x4096 .i32 := win0_6.stage (cfg0.slots t 6)
/-- which is whole. -/
theorem hs0_6 (t : Fin cfg0.N) : (ms0_6 t).IsWhole := hstage0_6 ((cfg0.slots t 6).cast nbuf0_6)
/-- Window 7's buffer in use at point `t`, -/
abbrev ms0_7 (t : Fin cfg0.N) : Memref sig .tc .vmem S64x4096 .f32 := win0_7.stage (cfg0.slots t 7)
/-- which is whole. -/
theorem hs0_7 (t : Fin cfg0.N) : (ms0_7 t).IsWhole := hstage0_7 ((cfg0.slots t 7).cast nbuf0_7)
/-- Window 8's buffer in use at point `t`, -/
abbrev ms0_8 (t : Fin cfg0.N) : Memref sig .tc .vmem S64x16x256 .f32 := win0_8.stage (cfg0.slots t 8)
/-- which is whole. -/
theorem hs0_8 (t : Fin cfg0.N) : (ms0_8 t).IsWhole := hstage0_8 ((cfg0.slots t 8).cast nbuf0_8)
/-- Window 9's buffer in use at point `t`, -/
abbrev ms0_9 (t : Fin cfg0.N) : Memref sig .tc .vmem S64x1000 .f32 := win0_9.stage (cfg0.slots t 9)
/-- which is whole. -/
theorem hs0_9 (t : Fin cfg0.N) : (ms0_9 t).IsWhole := hstage0_9 ((cfg0.slots t 9).cast nbuf0_9)
/-- A scratch buffer of the kernel. -/
abbrev scM0_0 : Memref sig .tc .vmem S64x4096 .f32 := Memref.whole cc0_scratch0
/-- A scratch buffer of the kernel. -/
abbrev scM0_1 : Memref sig .tc .vmem S64x1024 .f32 := Memref.whole cc0_scratch1
/-- A scratch buffer of the kernel. -/
abbrev scM0_2 : Memref sig .tc .vmem S64x128 .f32 := Memref.whole cc0_scratch2
/-- A scratch buffer of the kernel. -/
abbrev scM0_3 : Memref sig .tc .vmem S16x4096 .i32 := Memref.whole cc0_scratch3

/-- The launch's invariant, the scratch buffers one by one at any contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The first grid point. -/
def T0 : Fin cfg0.N := ⟨0, lt_of_lt_of_eq (by decide : 0 < 64) N_0.symm⟩

/-- The table of codebook products the first point leaves in the scratch, -/
def tabL (c : Dev nD) : Vec Ideal S64x4096 .f32 := lutV (iblk m c 0 T0) (iblk m c 1 T0)
/-- the padded centroids' products, -/
def tabC (c : Dev nD) : Vec Ideal S64x1024 .f32 := cqPV (iblk m c 0 T0) (iblk m c 2 T0)
/-- the squared norms, -/
def tabQ (c : Dev nD) : Vec Ideal S64x128 .f32 := qnV (iblk m c 0 T0)
/-- the planes of codebook products it leaves in its output, -/
def out8 (c : Dev nD) : Vec Ideal S64x16x256 .f32 := lut3V (iblk m c 0 T0) (iblk m c 1 T0)
/-- and the centroids' products it leaves in its output. -/
def out9 (c : Dev nD) : Vec Ideal S64x1000 .f32 := cqV (iblk m c 0 T0) (iblk m c 2 T0)
/-- The block of distances point `t` leaves. -/
def out7 (c : Dev nD) (t : Fin cfg0.N) : Vec Ideal S64x4096 .f32 :=
  distB (tabL m c) (tabC m c) (tabQ m c) (iblk m c 3 t) (iblk m c 4 t) (iblk m c 5 t) (iblk m c 6 t)

/-- The invariant after a point: the tables in the scratch. -/
def PhiT (c : Dev nD) : sProp 𝕄 :=
  iprop(iprop(owns (c : Thread nD τ) scM0_0 fullShare (tabL m c) ∗ owns (c : Thread nD τ) scM0_1 fullShare (tabC m c) ∗ owns (c : Thread nD τ) scM0_2 fullShare (tabQ m c) ∗ (∃ d, owns (c : Thread nD τ) scM0_3 fullShare d)) ∗ (∃ r, prngReg c r))

/-- The invariant before position `n`: anything in the scratch before the first point, then the tables. -/
def PhiS (c : Dev nD) : ℕ → sProp 𝕄
  | 0 => Pipeline.ΦA spec0 c
  | _ + 1 => PhiT m c

/-- After the first point the invariant is the tables in the scratch. -/
theorem PhiS_pos (c : Dev nD) (n : ℕ) (hz : n ≠ 0) : PhiS m c n = PhiT m c := by
  cases n with
  | zero => exact absurd rfl hz
  | succ n => rfl

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c
    | ⟨9, _⟩ => out9 m c
  Φ t := PhiS m c t.val
  q _ := fullShare
  owed _ := 0

/-- The arrays are as the region finds them. -/
theorem A_eq (c : Dev nD) (w : Fin cfg0.W) : (dats m 0 c).A w = V m c (Pipeline.arrRef spec0 w) := by
  dsimp only [dats]

/-! What the body leaves, window by window. -/

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = out7 m c t := by dsimp only [dats]
/-- What the body leaves in window 8. -/
theorem after0_8 (c : Dev nD) (t : Fin cfg0.N) : (dats m 0 c).after 8 t = out8 m c := by dsimp only [dats]
/-- What the body leaves in window 9. -/
theorem after0_9 (c : Dev nD) (t : Fin cfg0.N) : (dats m 0 c).after 9 t = out9 m c := by dsimp only [dats]

/-! Each input's buffer holds its block at every point. -/

/-- Input window 0's buffer holds its block. -/
theorem before0_0 (c : Dev nD) (t : Fin cfg0.N) (d) : (dats m 0 c).before 0 t d = iblk m c 0 t :=
  before0_0_of m (dats m 0 c) (A_eq m c 0) (after0_0 m c) t d
/-- Input window 1's buffer holds its block. -/
theorem before0_1 (c : Dev nD) (t : Fin cfg0.N) (d) : (dats m 0 c).before 1 t d = iblk m c 1 t :=
  before0_1_of m (dats m 0 c) (A_eq m c 1) (after0_1 m c) t d
/-- Input window 2's buffer holds its block. -/
theorem before0_2 (c : Dev nD) (t : Fin cfg0.N) (d) : (dats m 0 c).before 2 t d = iblk m c 2 t :=
  before0_2_of m (dats m 0 c) (A_eq m c 2) (after0_2 m c) t d
/-- Input window 3's buffer holds its block. -/
theorem before0_3 (c : Dev nD) (t : Fin cfg0.N) (d) : (dats m 0 c).before 3 t d = iblk m c 3 t :=
  before0_3_of m (dats m 0 c) (A_eq m c 3) (after0_3 m c) t d
/-- Input window 4's buffer holds its block. -/
theorem before0_4 (c : Dev nD) (t : Fin cfg0.N) (d) : (dats m 0 c).before 4 t d = iblk m c 4 t :=
  before0_4_of m (dats m 0 c) (A_eq m c 4) (after0_4 m c) t d
/-- Input window 5's buffer holds its block. -/
theorem before0_5 (c : Dev nD) (t : Fin cfg0.N) (d) : (dats m 0 c).before 5 t d = iblk m c 5 t :=
  before0_5_of m (dats m 0 c) (A_eq m c 5) (after0_5 m c) t d
/-- Input window 6's buffer holds its block. -/
theorem before0_6 (c : Dev nD) (t : Fin cfg0.N) (d) : (dats m 0 c).before 6 t d = iblk m c 6 t :=
  before0_6_of m (dats m 0 c) (A_eq m c 6) (after0_6 m c) t d

/-- After the first point, window 8's buffer holds what the first point left. -/
theorem before0_8 (c : Dev nD) : ∀ (n : ℕ) (t : Fin cfg0.N) (_ : t.val = n + 1) (d), (dats m 0 c).before 8 t d = out8 m c
  | n, t, ht, d => by
    have hN : t.val < 64 := lt_of_lt_of_eq t.isLt (show cfg0.N = 64 from N_0)
    have hfl : (cfg0.win 8).flush ⟨t.val - 1, Nat.lt_of_le_of_lt (Nat.sub_le _ _) t.isLt⟩ = false := by
      refine Bool.eq_false_iff.mpr fun h => ?_
      have := (flush0_8 _).mp h
      dsimp only at this; omega
    rw [(dats m 0 c).before_of_pos 8 t (by omega) ((cfg0.win 8).fetch_out rfl t), hfl, if_neg Bool.false_ne_true]
    unfold Dat.left
    cases n with
    | zero =>
      rw [liveAt0_8 _ (by show (t.val - 1) % 64 = 0; omega)]
      show (dats m 0 c).kept 8 _ d = _
      unfold Dat.kept
      rw [Pipeline.fill_of_clip_none 8 _ (fun _ => rfl) d ((dats m 0 c).after 8 _), Window.fill_cut, after0_8]
    | succ n =>
      rw [idleAt0_8 _ (by show ¬ (t.val - 1) % 64 = 0; omega)]
      exact before0_8 c n _ (by show t.val - 1 = n + 1; omega) d

/-- So handing it back is what the pipeline asks at a later point. -/
theorem leaves0_8 (c : Dev nD) (t : Fin cfg0.N) (h : ¬ t.val % 64 = 0) :
    (owns (c : Thread nD τ) (ms0_8 t) fullShare (out8 m c) : sProp 𝕄) ⊢ (dats m 0 c).leavesExact 8 t := by
  have hz : t.val = (t.val - 1) + 1 := by omega
  by_cases hf : (cfg0.win 8).flush t = true
  · rw [show (dats m 0 c).leavesExact 8 t = owns (c : Thread nD τ) (ms0_8 t) fullShare ((dats m 0 c).after 8 t) from by
      unfold Dat.leavesExact; rw [idleAt0_8 t h, hf], after0_8]
    try exact Idealize.SL.BI.Entails.refl _
  · rw [Bool.not_eq_true] at hf
    rw [(dats m 0 c).leavesExact_idle 8 t (idleAt0_8 t h) hf]
    iintro H
    iexists (out8 m c)
    rw [before0_8 m c _ t hz]
    iexact H

/-- After the first point, window 9's buffer holds what the first point left. -/
theorem before0_9 (c : Dev nD) : ∀ (n : ℕ) (t : Fin cfg0.N) (_ : t.val = n + 1) (d), (dats m 0 c).before 9 t d = out9 m c
  | n, t, ht, d => by
    have hN : t.val < 64 := lt_of_lt_of_eq t.isLt (show cfg0.N = 64 from N_0)
    have hfl : (cfg0.win 9).flush ⟨t.val - 1, Nat.lt_of_le_of_lt (Nat.sub_le _ _) t.isLt⟩ = false := by
      refine Bool.eq_false_iff.mpr fun h => ?_
      have := (flush0_9 _).mp h
      dsimp only at this; omega
    rw [(dats m 0 c).before_of_pos 9 t (by omega) ((cfg0.win 9).fetch_out rfl t), hfl, if_neg Bool.false_ne_true]
    unfold Dat.left
    cases n with
    | zero =>
      rw [liveAt0_9 _ (by show (t.val - 1) % 64 = 0; omega)]
      show (dats m 0 c).kept 9 _ d = _
      unfold Dat.kept
      rw [Pipeline.fill_of_clip_none 9 _ (fun _ => rfl) d ((dats m 0 c).after 9 _), Window.fill_cut, after0_9]
    | succ n =>
      rw [idleAt0_9 _ (by show ¬ (t.val - 1) % 64 = 0; omega)]
      exact before0_9 c n _ (by show t.val - 1 = n + 1; omega) d

/-- So handing it back is what the pipeline asks at a later point. -/
theorem leaves0_9 (c : Dev nD) (t : Fin cfg0.N) (h : ¬ t.val % 64 = 0) :
    (owns (c : Thread nD τ) (ms0_9 t) fullShare (out9 m c) : sProp 𝕄) ⊢ (dats m 0 c).leavesExact 9 t := by
  have hz : t.val = (t.val - 1) + 1 := by omega
  by_cases hf : (cfg0.win 9).flush t = true
  · rw [show (dats m 0 c).leavesExact 9 t = owns (c : Thread nD τ) (ms0_9 t) fullShare ((dats m 0 c).after 9 t) from by
      unfold Dat.leavesExact; rw [idleAt0_9 t h, hf], after0_9]
    try exact Idealize.SL.BI.Entails.refl _
  · rw [Bool.not_eq_true] at hf
    rw [(dats m 0 c).leavesExact_idle 9 t (idleAt0_9 t h) hf]
    iintro H
    iexists (out9 m c)
    rw [before0_9 m c _ t hz]
    iexact H

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 9600000 in
/-- The body at any point keeps its inputs and leaves its outputs as stated. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiT m c from rfl]
  rw [show (dats m 0 c).Φ t.castSucc = PhiS m c t.val from rfl]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  by_cases h0 : t.val % 64 = 0
  · obtain rfl : t = T0 := Fin.ext (show t.val = 0 by omega)
    rw [show (dats m 0 c).leavesExact 8 T0 = owns (c : Thread nD τ) (ms0_8 T0) fullShare ((dats m 0 c).after 8 T0) from by
      unfold Dat.leavesExact; rw [liveAt0_8 T0 h0], after0_8]
    rw [show (dats m 0 c).leavesExact 9 T0 = owns (c : Thread nD τ) (ms0_9 T0) fullShare ((dats m 0 c).after 9 T0) from by
      unfold Dat.leavesExact; rw [liveAt0_9 T0 h0], after0_9]
    rw [show PhiS m c T0.val = Pipeline.ΦA spec0 c from rfl, PhiA0_eq]
    unfold PhiT
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runA c (grid0.coords T0) _ _ _ _ _ _ _ _ _ _ _ _ _ _ _ _ _ _ _ _ _ _ _ _ _ _ _ _ ((hcond0_0 T0).mpr h0) (iblk m c 0 T0) (iblk m c 1 T0) (iblk m c 2 T0) (iblk m c 3 T0) (iblk m c 4 T0) (iblk m c 5 T0) (iblk m c 6 T0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hz : t.val = (t.val - 1) + 1 := by omega
    rw [PhiS_pos m c _ (show t.val ≠ 0 by omega)]
    simp only [before0_8 m c _ t hz, before0_9 m c _ t hz]
    unfold PhiT
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runB c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    isplitl [HS2]; · iexact HS2
    isplitl [HS3]; · iexact HS3
    iintro ⟨H0, H1, H2, H3, H4, H5, H6, H7, H8, H9, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (leaves0_8 m c t h0); iexact H8
    iapply (leaves0_9 m c t h0); iexact H9

/-- The body table's row at a point is the body. -/
theorem defs₀_row (t : Fin cfg0.N) :
    defs₀ (F := Ideal) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- The invariant after the last point gives the launch's back. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 64 := N_0; omega), PhiA0_eq]
  unfold PhiT
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexact HS3
  iexact Hg

set_option backward.isDefEq.respectTransparency.types false in
/-- The whole run: every array as the proof data says, and every counter at zero. -/
theorem run_main_quiescent : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Gen

end
-- ==== Proof.KernelIdeal.Arrays.lean ====
module

public import proofs.«01_k».proof.Proof.KernelIdeal.Points
public import Idealize.ShloMosaic.Lib.Pipeline.Value
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window BodyObligation cellOf)

variable (m : (ℓ : Loc nD τ sig) → Buf (Elt Ideal) ℓ) (ρ : Dev nD → PrngReg)

/-! # The arrays at the end of the run -/

/-! ## The frame -/

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) ((θ_run defs _ _).mono (fun _ h => h.1) (run_main_quiescent m ρ))

/-- The argument arrays end unchanged and every semaphore counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-! ## Where a block sits in its array -/

/-- The grid coordinate of a point is the point. -/
theorem coord_val (t : Fin cfg0.N) : (grid0.coords t 0).val = t.val := by
  have ht : t.val < 64 := Nat.lt_of_lt_of_eq t.isLt N_0
  have e0 : (grid0.coords t 0).val = t.val / 1 % 64 := Pipeline.Grid.coords_val t 0 (by decide) rfl
  rw [e0, Nat.div_one, Nat.mod_eq_of_lt ht]

/-- A point as a word. -/
theorem coord_word (t : Fin cfg0.N) : (BitVec.ofNat 32 (grid0.coords t 0).val).toNat = t.val := by
  have ht : t.val < 64 := Nat.lt_of_lt_of_eq t.isLt N_0
  rw [coord_val, BitVec.toNat_ofNat]
  exact Nat.mod_eq_of_lt (lt_trans ht (by decide))

/-- Window 3's block at a point: all rows, the point's 4096 columns. -/
theorem emb3 (t : Fin cfg0.N) (r : Fin 16) (k : Fin 4096) (h : 4096 * t.val + k.val < 262144) :
    (win0_3.blk t).view.emb (ix2 r k) = (ix2 r ⟨4096 * t.val + k.val, h⟩ : S16x262144.Idx) := by
  funext a
  refine Fin.ext ?_
  match a with
  | ⟨0, _⟩ => exact (win0_3.rect_emb_val t (ix2 r k) 0).trans (by
      show (0#32).toNat * 16 + r.val = r.val
      rw [show (0#32).toNat = 0 from rfl]; omega)
  | ⟨1, _⟩ => exact (win0_3.rect_emb_val t (ix2 r k) 1).trans (by
      show (BitVec.ofNat 32 (grid0.coords t 0).val).toNat * 4096 + k.val = 4096 * t.val + k.val
      rw [coord_word]; omega)

/-- Window 4's block at a point: the point's 4096 columns. -/
theorem emb4 (t : Fin cfg0.N) (r : Fin 1) (k : Fin 4096) (h : 4096 * t.val + k.val < 262144) :
    (win0_4.blk t).view.emb (ix2 r k) = (ix2 r ⟨4096 * t.val + k.val, h⟩ : S1x262144.Idx) := by
  funext a
  refine Fin.ext ?_
  match a with
  | ⟨0, _⟩ => exact (win0_4.rect_emb_val t (ix2 r k) 0).trans (by
      show (0#32).toNat * 1 + r.val = r.val
      rw [show (0#32).toNat = 0 from rfl]; omega)
  | ⟨1, _⟩ => exact (win0_4.rect_emb_val t (ix2 r k) 1).trans (by
      show (BitVec.ofNat 32 (grid0.coords t 0).val).toNat * 4096 + k.val = 4096 * t.val + k.val
      rw [coord_word]; omega)

/-- Window 6's block at a point: the point's 4096 columns. -/
theorem emb6 (t : Fin cfg0.N) (r : Fin 1) (k : Fin 4096) (h : 4096 * t.val + k.val < 262144) :
    (win0_6.blk t).view.emb (ix2 r k) = (ix2 r ⟨4096 * t.val + k.val, h⟩ : S1x262144.Idx) := by
  funext a
  refine Fin.ext ?_
  match a with
  | ⟨0, _⟩ => exact (win0_6.rect_emb_val t (ix2 r k) 0).trans (by
      show (0#32).toNat * 1 + r.val = r.val
      rw [show (0#32).toNat = 0 from rfl]; omega)
  | ⟨1, _⟩ => exact (win0_6.rect_emb_val t (ix2 r k) 1).trans (by
      show (BitVec.ofNat 32 (grid0.coords t 0).val).toNat * 4096 + k.val = 4096 * t.val + k.val
      rw [coord_word]; omega)

/-- Window 7's block at a point: all rows, the point's 4096 columns. -/
theorem emb7 (t : Fin cfg0.N) (r : Fin 64) (k : Fin 4096) (h : 4096 * t.val + k.val < 262144) :
    (win0_7.blk t).view.emb (ix2 r k) = (ix2 r ⟨4096 * t.val + k.val, h⟩ : S64x262144.Idx) := by
  funext a
  refine Fin.ext ?_
  match a with
  | ⟨0, _⟩ => exact (win0_7.rect_emb_val t (ix2 r k) 0).trans (by
      show (0#32).toNat * 64 + r.val = r.val
      rw [show (0#32).toNat = 0 from rfl]; omega)
  | ⟨1, _⟩ => exact (win0_7.rect_emb_val t (ix2 r k) 1).trans (by
      show (BitVec.ofNat 32 (grid0.coords t 0).val).toNat * 4096 + k.val = 4096 * t.val + k.val
      rw [coord_word]; omega)

/-- Window 0's block is its array. -/
theorem emb0 (t : Fin cfg0.N) (y : S64x384.Idx) : (win0_0.blk t).view.emb y = y := by
  funext a
  refine Fin.ext ?_
  match a with
  | ⟨0, _⟩ => exact win0_0.rect_emb_val_of_index_zero t 0 rfl y
  | ⟨1, _⟩ => exact win0_0.rect_emb_val_of_index_zero t 1 rfl y

/-- Window 1's block is its array. -/
theorem emb1 (t : Fin cfg0.N) (y : S16x256x384.Idx) : (win0_1.blk t).view.emb y = y := by
  funext a
  refine Fin.ext ?_
  match a with
  | ⟨0, _⟩ => exact win0_1.rect_emb_val_of_index_zero t 0 rfl y
  | ⟨1, _⟩ => exact win0_1.rect_emb_val_of_index_zero t 1 rfl y
  | ⟨2, _⟩ => exact win0_1.rect_emb_val_of_index_zero t 2 rfl y

/-- Window 2's block is its array. -/
theorem emb2 (t : Fin cfg0.N) (y : S1000x384.Idx) : (win0_2.blk t).view.emb y = y := by
  funext a
  refine Fin.ext ?_
  match a with
  | ⟨0, _⟩ => exact win0_2.rect_emb_val_of_index_zero t 0 rfl y
  | ⟨1, _⟩ => exact win0_2.rect_emb_val_of_index_zero t 1 rfl y

/-- Window 5's block is its array. -/
theorem emb5 (t : Fin cfg0.N) (y : S1x256.Idx) : (win0_5.blk t).view.emb y = y := by
  funext a
  refine Fin.ext ?_
  match a with
  | ⟨0, _⟩ => exact win0_5.rect_emb_val_of_index_zero t 0 rfl y
  | ⟨1, _⟩ => exact win0_5.rect_emb_val_of_index_zero t 1 rfl y

/-- Window 8's block is its array. -/
theorem emb8 (t : Fin cfg0.N) (y : S64x16x256.Idx) : (win0_8.blk t).view.emb y = y := by
  funext a
  refine Fin.ext ?_
  match a with
  | ⟨0, _⟩ => exact win0_8.rect_emb_val_of_index_zero t 0 rfl y
  | ⟨1, _⟩ => exact win0_8.rect_emb_val_of_index_zero t 1 rfl y
  | ⟨2, _⟩ => exact win0_8.rect_emb_val_of_index_zero t 2 rfl y

/-- Window 9's block is its array. -/
theorem emb9 (t : Fin cfg0.N) (y : S64x1000.Idx) : (win0_9.blk t).view.emb y = y := by
  funext a
  refine Fin.ext ?_
  match a with
  | ⟨0, _⟩ => exact win0_9.rect_emb_val_of_index_zero t 0 rfl y
  | ⟨1, _⟩ => exact win0_9.rect_emb_val_of_index_zero t 1 rfl y

/-! ## The arrays the windows read, from the arguments -/

/-- The transposed codes. -/
theorem V_codes (c : Dev nD) : V m c main_v0
    = transpose S16x262144 [1, 0] (m ((c.tc : Thread nD τ).loc main_arg2)) transposes_S262144x16_S16x262144_1_0 := by
  show StableHlo.after hostOps0 (fun b => m (c, b)) (Proc.devRef .tc main_v0) = _
  unfold hostOps0
  after_results_simp <;> rfl

/-- The norm codes as a row. -/
theorem V_ncodes (c : Dev nD) : V m c main_v1
    = shapeCast S1x262144 (m ((c.tc : Thread nD τ).loc main_arg3)) shapeCasts_S262144_S1x262144 := by
  show StableHlo.after hostOps0 (fun b => m (c, b)) (Proc.devRef .tc main_v1) = _
  unfold hostOps0
  after_results_simp <;> rfl

/-- The norm table as a row. -/
theorem V_ntab (c : Dev nD) : V m c main_v2
    = shapeCast S1x256 (m ((c.tc : Thread nD τ).loc main_arg4)) shapeCasts_S256_S1x256 := by
  show StableHlo.after hostOps0 (fun b => m (c, b)) (Proc.devRef .tc main_v2) = _
  unfold hostOps0
  after_results_simp <;> rfl

/-- The list ids as a row. -/
theorem V_ids (c : Dev nD) : V m c main_v3
    = shapeCast S1x262144 (m ((c.tc : Thread nD τ).loc main_arg6)) shapeCasts_S262144_S1x262144 := by
  show StableHlo.after hostOps0 (fun b => m (c, b)) (Proc.devRef .tc main_v3) = _
  unfold hostOps0
  after_results_simp <;> rfl

/-! ## The blocks, from the arguments -/

/-- The block of queries is the queries. -/
theorem iblk0 (c : Dev nD) (t : Fin cfg0.N) (y : S64x384.Idx) : iblk m c 0 t y = m ((c.tc : Thread nD τ).loc main_arg0) y := by
  show V m c main_arg0 ((win0_0.blk t).view.emb y) = _
  rw [emb0, V_main_arg0]

/-- The block of codebooks is the codebooks. -/
theorem iblk1 (c : Dev nD) (t : Fin cfg0.N) (y : S16x256x384.Idx) : iblk m c 1 t y = m ((c.tc : Thread nD τ).loc main_arg1) y := by
  show V m c main_arg1 ((win0_1.blk t).view.emb y) = _
  rw [emb1, V_main_arg1]

/-- The block of centroids is the centroids. -/
theorem iblk2 (c : Dev nD) (t : Fin cfg0.N) (y : S1000x384.Idx) : iblk m c 2 t y = m ((c.tc : Thread nD τ).loc main_arg5) y := by
  show V m c main_arg5 ((win0_2.blk t).view.emb y) = _
  rw [emb2, V_main_arg5]

/-- The block of codes at a point: the codes of its 4096 rows, transposed. -/
theorem iblk3 (c : Dev nD) (t : Fin cfg0.N) (r : Fin 16) (k : Fin 4096) (h : 4096 * t.val + k.val < 262144) :
    iblk m c 3 t (ix2 r k) = m ((c.tc : Thread nD τ).loc main_arg2) (ix2 ⟨4096 * t.val + k.val, h⟩ r) := by
  show V m c main_v0 ((win0_3.blk t).view.emb (ix2 r k)) = _
  rw [emb3 t r k h, V_codes]
  exact transpose_apply _ _ _ (ix2 r ⟨4096 * t.val + k.val, h⟩) (ix2 ⟨4096 * t.val + k.val, h⟩ r) (fun a => match a with | ⟨0, _⟩ => rfl | ⟨1, _⟩ => rfl)

/-- The block of norm codes at a point. -/
theorem iblk4 (c : Dev nD) (t : Fin cfg0.N) (k : Fin 4096) (h : 4096 * t.val + k.val < 262144) :
    iblk m c 4 t (ix2 0 k) = m ((c.tc : Thread nD τ).loc main_arg3) (ix1 ⟨4096 * t.val + k.val, h⟩) := by
  show V m c main_v1 ((win0_4.blk t).view.emb (ix2 0 k)) = _
  rw [emb4 t 0 k h, V_ncodes]
  exact shapeCast_apply (s := S262144) _ _ _ _ (by
    rewrite [Shape.rowMajor_val_one, Shape.rowMajor_val_two]
    show 4096 * t.val + k.val = 0 * 262144 + (4096 * t.val + k.val)
    omega)

/-- The block of the norm table is the table. -/
theorem iblk5 (c : Dev nD) (t : Fin cfg0.N) (k : Fin 256) :
    iblk m c 5 t (ix2 0 k) = m ((c.tc : Thread nD τ).loc main_arg4) (ix1 k) := by
  show V m c main_v2 ((win0_5.blk t).view.emb (ix2 0 k)) = _
  rw [emb5, V_ntab]
  exact shapeCast_apply (s := S256) _ _ _ _ (by
    rewrite [Shape.rowMajor_val_one, Shape.rowMajor_val_two]
    show k.val = 0 * 256 + k.val
    omega)

/-- The block of list ids at a point. -/
theorem iblk6 (c : Dev nD) (t : Fin cfg0.N) (k : Fin 4096) (h : 4096 * t.val + k.val < 262144) :
    iblk m c 6 t (ix2 0 k) = m ((c.tc : Thread nD τ).loc main_arg6) (ix1 ⟨4096 * t.val + k.val, h⟩) := by
  show V m c main_v3 ((win0_6.blk t).view.emb (ix2 0 k)) = _
  rw [emb6 t 0 k h, V_ids]
  exact shapeCast_apply (s := S262144) _ _ _ _ (by
    rewrite [Shape.rowMajor_val_one, Shape.rowMajor_val_two]
    show 4096 * t.val + k.val = 0 * 262144 + (4096 * t.val + k.val)
    omega)

/-! ## The final arrays -/

/-- The last grid point. -/
def TL : Fin cfg0.N := ⟨63, lt_of_lt_of_eq (by decide : 63 < 64) N_0.symm⟩

/-- The second output ends at the planes of codebook products. -/
theorem arr8 (c : Dev nD) : (dats m 0 c).arrAt 8 cfg0.N = out8 m c := by
  refine (dats m 0 c).arrAt_eq_of_cover 8 (out8 m c) (fun t _ => ?_) (fun i => ⟨TL, (flush0_8 TL).mpr rfl, ?_⟩)
  · funext y
    show out8 m c y = out8 m c ((win0_8.blk t).view.emb y)
    rw [emb8]
  · have := (win0_8.blk TL).view.emb_mem_set i
    rw [emb8] at this
    exact this

/-- The third output ends at the centroids' products. -/
theorem arr9 (c : Dev nD) : (dats m 0 c).arrAt 9 cfg0.N = out9 m c := by
  refine (dats m 0 c).arrAt_eq_of_cover 9 (out9 m c) (fun t _ => ?_) (fun i => ⟨TL, (flush0_9 TL).mpr rfl, ?_⟩)
  · funext y
    show out9 m c y = out9 m c ((win0_9.blk t).view.emb y)
    rw [emb9]
  · have := (win0_9.blk TL).view.emb_mem_set i
    rw [emb9] at this
    exact this

/-- The point that leaves column `n`. -/
def ptOf (n : Fin 262144) : Fin cfg0.N := ⟨n.val / 4096, lt_of_lt_of_eq (by have := n.isLt; omega) N_0.symm⟩

/-- The first output, column by column: the point of the column, the column within the point's block. -/
def dist7 (c : Dev nD) : S64x262144.Idx → EReal := fun i =>
  out7 m c (ptOf (i 1)) (ix2 (i 0) ⟨(i 1).val % 4096, Nat.mod_lt _ (by decide)⟩)

/-- The first output ends at the points' blocks side by side. -/
theorem arr7 (c : Dev nD) : (dats m 0 c).arrAt 7 cfg0.N = dist7 m c := by
  refine (dats m 0 c).arrAt_eq_of_cover 7 (dist7 m c) (fun t _ => ?_) (fun i => ?_)
  · funext y
    have ht : t.val < 64 := Nat.lt_of_lt_of_eq t.isLt N_0
    have hy : (y 1).val < 4096 := (y 1).isLt
    show out7 m c t y = dist7 m c ((win0_7.blk t).view.emb y)
    have e := emb7 t (y 0) (y 1) (by omega)
    rw [show (ix2 (y 0) (y 1) : S64x4096.Idx) = y from (eq_ix2 y).symm] at e
    rw [e]
    have ep : ptOf ⟨4096 * t.val + (y 1).val, by omega⟩ = t := Fin.ext (by
      show (4096 * t.val + (y 1).val) / 4096 = t.val
      omega)
    show _ = out7 m c (ptOf ⟨4096 * t.val + (y 1).val, by omega⟩) (ix2 (y 0) ⟨(4096 * t.val + (y 1).val) % 4096, _⟩)
    rw [ep]
    congr 1
    refine (eq_ix2 y).trans ?_
    congr 1
    refine Fin.ext ?_
    show (y 1).val = (4096 * t.val + (y 1).val) % 4096
    omega
  · refine ⟨ptOf (i 1), flush0_7 _, ?_⟩
    have hn : (i 1).val < 262144 := (i 1).isLt
    have := (win0_7.blk (ptOf (i 1))).view.emb_mem_set (ix2 (i 0) ⟨(i 1).val % 4096, Nat.mod_lt _ (by decide)⟩)
    rw [emb7 (ptOf (i 1)) (i 0) ⟨(i 1).val % 4096, Nat.mod_lt _ (by decide)⟩ (by
      show 4096 * ((i 1).val / 4096) + (i 1).val % 4096 < 262144; omega)] at this
    have ei : (ix2 (i 0) ⟨4096 * (ptOf (i 1)).val + (i 1).val % 4096, by
        show 4096 * ((i 1).val / 4096) + (i 1).val % 4096 < 262144; omega⟩ : S64x262144.Idx) = i := by
      refine Eq.trans ?_ (eq_ix2 i).symm
      congr 1
      refine Fin.ext ?_
      show 4096 * ((i 1).val / 4096) + (i 1).val % 4096 = (i 1).val
      omega
    exact Eq.mp (congrArg (fun z => z ∈ (win0_7.blk (ptOf (i 1))).view.set) ei) this

end Cert.KernelIdeal.Gen

end
-- ==== Proof.ReferenceIdeal.Cells.lean ====
module

public import proofs.«01_k».proof.Pre_valid
public import proofs.«01_k».proof.Proof.Gen.ReferenceIdeal.Read
public import Idealize.ShloMosaic.Lib.ReduceAll
public import Idealize.ShloMosaic.Lib.StableHlo.Predicate
public import Idealize.ShloMosaic.Lib.WordCmp

@[expose] public section

noncomputable section

namespace Cert.ReferenceIdeal.Read

open Cert.ReferenceIdeal Cert.ReferenceIdeal.Gen Idealize.ShloMosaic Idealize.ShloMosaic.TcCoe Idealize.SL.Sem
open Idealize.ShloMosaic.StableHlo Idealize.ShloMosaic.ValueIdx

/-! # The reference's results, one element at a time -/

/-! ## The three gathers read at an index -/

/-- The gather of the flattened tables: row and column of the operand, the column clamped. -/
theorem gather_look (x : S64x4096.Idx → EReal) (idx : IVec S262144x16x1 32) (r : Fin 64) (n : Fin 262144) (k : Fin 16) :
    Host.gather gather_S64x4096_S262144x16x1_S64x262144x16_0_1_n_n_1_2_641 x idx (ix3 r n k)
      = x (ix2 r ⟨min (idx (ix3 n k 0)).toInt.toNat 4095, by omega⟩) := by
  unfold Host.gather
  congr 1
  funext a
  refine Fin.ext ?_
  show (gather_S64x4096_S262144x16x1_S64x262144x16_0_1_n_n_1_2_641).start (ix3 r n k) idx a
      + (gather_S64x4096_S262144x16x1_S64x262144x16_0_1_n_n_1_2_641).batchCoord (ix3 r n k) a
      + (gather_S64x4096_S262144x16x1_S64x262144x16_0_1_n_n_1_2_641).offCoord (ix3 r n k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (show ¬ (0 : Fin 2) ∈ (gather_S64x4096_S262144x16x1_S64x262144x16_0_1_n_n_1_2_641).startIndexMap from (by decide : ¬ (0 : Fin 2) ∈ ([1] : List (Fin 2)))),
      dif_pos ((GatherDims.mem_sKept _ _).mpr ⟨(by decide : ¬ (0 : Fin 2) ∈ ([1] : List (Fin 2))), List.not_mem_nil⟩)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S64x4096_S262144x16x1_S64x262144x16_0_1_n_n_1_2_641).startIndexMap from List.mem_singleton.mpr rfl)]
    have hsi : (gather_S64x4096_S262144x16x1_S64x262144x16_0_1_n_n_1_2_641).siIdx (ix3 r n k) ⟨List.idxOf (1 : Fin 2) (gather_S64x4096_S262144x16x1_S64x262144x16_0_1_n_n_1_2_641).startIndexMap,
        List.idxOf_lt_length_iff.2 (List.mem_singleton.mpr rfl)⟩ = ix3 n k 0 := by
      funext b; refine Fin.ext ?_
      match b with
      | ⟨0, _⟩ => rfl
      | ⟨1, _⟩ => rfl
      | ⟨2, _⟩ => rfl
    rw [hsi]
    rfl

/-- The gather of the centroids' products: row and column of the operand, the column clamped. -/
theorem gather_cent (x : S64x1000.Idx → EReal) (idx : IVec S262144x1 32) (r : Fin 64) (n : Fin 262144) :
    Host.gather gather_S64x1000_S262144x1_S64x262144_0_1_n_n_1_1_641 x idx (ix2 r n)
      = x (ix2 r ⟨min (idx (ix2 n 0)).toInt.toNat 999, by omega⟩) := by
  unfold Host.gather
  congr 1
  funext a
  refine Fin.ext ?_
  show (gather_S64x1000_S262144x1_S64x262144_0_1_n_n_1_1_641).start (ix2 r n) idx a
      + (gather_S64x1000_S262144x1_S64x262144_0_1_n_n_1_1_641).batchCoord (ix2 r n) a
      + (gather_S64x1000_S262144x1_S64x262144_0_1_n_n_1_1_641).offCoord (ix2 r n) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (show ¬ (0 : Fin 2) ∈ (gather_S64x1000_S262144x1_S64x262144_0_1_n_n_1_1_641).startIndexMap from (by decide : ¬ (0 : Fin 2) ∈ ([1] : List (Fin 2)))),
      dif_pos ((GatherDims.mem_sKept _ _).mpr ⟨(by decide : ¬ (0 : Fin 2) ∈ ([1] : List (Fin 2))), List.not_mem_nil⟩)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S64x1000_S262144x1_S64x262144_0_1_n_n_1_1_641).startIndexMap from List.mem_singleton.mpr rfl)]
    have hsi : (gather_S64x1000_S262144x1_S64x262144_0_1_n_n_1_1_641).siIdx (ix2 r n) ⟨List.idxOf (1 : Fin 2) (gather_S64x1000_S262144x1_S64x262144_0_1_n_n_1_1_641).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl

/-- The gather of the norm table: the entry at the clamped index. -/
theorem gather_norm (x : S256.Idx → EReal) (idx : IVec S262144x1 32) (n : Fin 262144) :
    Host.gather gather_S256_S262144x1_S262144_n_0_n_n_0_1_1 x idx (ix1 n)
      = x (ix1 ⟨min (idx (ix2 n 0)).toInt.toNat 255, by omega⟩) := by
  have e1 : (ix1 n : S262144.Idx) = Shape.Idx.ofFin n := by
    funext a; obtain rfl : a = 0 := Subsingleton.elim _ _; rfl
  rw [e1, Predicate.gather_take _ rfl rfl rfl rfl x idx n (by decide)]
  congr 1
  funext a; obtain rfl : a = 0 := Subsingleton.elim _ _
  refine Fin.ext ?_
  show min (idx (Predicate.ixP n)).toInt.toNat 255 = min (idx (ix2 n 0)).toInt.toNat 255
  congr 4
  funext b
  match b with
  | ⟨0, _⟩ => rfl
  | ⟨1, _⟩ => rfl

/-! ## The start indices -/

/-- A small word read signed is itself. -/
theorem toInt_of_lt {b : BitVec 32} (h : b.toNat < 2 ^ 31) : b.toInt.toNat = b.toNat := by
  rw [BitVec.toInt_eq_toNat_of_lt (by omega)]; rfl

/-- The wrap of a negative index leaves a small word as it is. -/
theorem wrap_small (b s : BitVec 32) (h : b.toNat < 2 ^ 31) :
    Scalar.select (IntOp.cmpi .slt b 0#32) s b = b := by
  have e : IntOp.cmpi .slt b 0#32 = 0#1 := by
    have hs : b.slt 0#32 = false := by
      rw [BitVec.slt, BitVec.toInt_eq_toNat_of_lt (by omega)]
      simp
    simp only [IntOp.cmpi, hs]
    rfl
  rw [e]; rfl

/-- A position in the flattened tables: 256 per book, plus the code. -/
theorem flat_toNat (x2 : IVec S262144x16 8) (n : Fin 262144) (k : Fin 16) :
    (val_main_v11 (F := Ideal) x2 (ix2 n k) : BitVec 32).toNat = 256 * k.val + (x2 (ix2 n k) : BitVec 8).toNat := by
  rw [val_main_v11_apply, val_main_v5_apply, val_main_v10_apply, val_main_v9_apply, val_main_v8_apply, val_main_v7_apply,
    val_main_v6_apply, val_main_c_apply]
  show ((x2 (ix2 n k) : BitVec 8).setWidth 32 + 256#32 * BitVec.ofNat 32 k.val).toNat = _
  have h1 : (x2 (ix2 n k) : BitVec 8).toNat < 256 := (x2 (ix2 n k) : BitVec 8).isLt
  have h2 := k.isLt
  generalize hX : (x2 (ix2 n k) : BitVec 8) = X at *
  rw [BitVec.toNat_add, BitVec.toNat_mul, BitVec.toNat_setWidth, BitVec.toNat_ofNat, BitVec.toNat_ofNat]
  omega

/-! ## The results -/

/-- A dot product of a query with a codebook entry, at coordinates. -/
theorem v0_cell (x0 : FVec Ideal S64x384 .bf16) (x1 : FVec Ideal S16x256x384 .bf16) (r : Fin 64) (m : Fin 16) (k : Fin 256) :
    val_main_v0 (F := Ideal) x0 x1 (ix3 r m k) = ∑ d : Fin 384, (x0 (ix2 r d) : EReal) * (x1 (ix3 m k d) : EReal) := by
  rw [val_main_v0_apply]
  refine Finset.sum_congr rfl fun d _ => ?_
  congr 2
  · funext a
    match a with
    | ⟨0, _⟩ => rfl
    | ⟨1, _⟩ => rfl
  · funext a
    match a with
    | ⟨0, _⟩ => rfl
    | ⟨1, _⟩ => rfl
    | ⟨2, _⟩ => rfl

/-- A dot product of a query with a centroid, at coordinates. -/
theorem v1_cell (x0 : FVec Ideal S64x384 .bf16) (x5 : FVec Ideal S1000x384 .bf16) (r : Fin 64) (l : Fin 1000) :
    val_main_v1 (F := Ideal) x0 x5 (ix2 r l) = ∑ d : Fin 384, (x0 (ix2 r d) : EReal) * (x5 (ix2 l d) : EReal) := by
  rw [val_main_v1_apply]
  refine Finset.sum_congr rfl fun d _ => ?_
  congr 2
  · funext a
    match a with
    | ⟨0, _⟩ => rfl
    | ⟨1, _⟩ => rfl
  · funext a
    match a with
    | ⟨0, _⟩ => rfl
    | ⟨1, _⟩ => rfl

/-- A query's squared norm. -/
theorem v4_cell (x0 : FVec Ideal S64x384 .bf16) (r : Fin 64) :
    val_main_v4 (F := Ideal) x0 (ix1 r) = ∑ d : Fin 384, (x0 (ix2 r d) : EReal) * (x0 (ix2 r d) : EReal) := by
  rw [val_main_v4_apply, val_main_cst_apply]
  rw [show (FloatOps.ofBits .f32 0x00000000#32 : Ideal .f32) = (0 : EReal) from Ideal.ofBits_zero_f32, zero_add]
  refine Finset.sum_congr rfl fun d _ => ?_
  have e : idx_main_v4 (ix1 r) d = ix2 r d := by
    funext a
    match a with
    | ⟨0, _⟩ => rfl
    | ⟨1, _⟩ => rfl
  rw [val_main_v3_apply, val_main_v2_apply, e]
  rfl

/-- The table entry a code selects. -/
theorem v19_cell (x0 : FVec Ideal S64x384 .bf16) (x1 : FVec Ideal S16x256x384 .bf16) (x2 : IVec S262144x16 8)
    (r : Fin 64) (n : Fin 262144) (k : Fin 16) :
    val_main_v19 (F := Ideal) x0 x1 x2 (ix3 r n k)
      = ∑ d : Fin 384, (x0 (ix2 r d) : EReal) * (x1 (ix3 k (Fin.ofNat 256 (x2 (ix2 n k) : BitVec 8).toNat) d) : EReal) := by
  unfold val_main_v19
  rw [gather_look]
  have hf := flat_toNat x2 n k
  have h1 : (x2 (ix2 n k) : BitVec 8).toNat < 256 := (x2 (ix2 n k) : BitVec 8).isLt
  have h2 := k.isLt
  have hv : (val_main_v18 (F := Ideal) x2 (ix3 n k 0) : BitVec 32) = val_main_v11 (F := Ideal) x2 (ix2 n k) := by
    rw [val_main_v18_apply]
    have e : idx_main_v18 (ix3 n k 0) = ix2 n k := by
      funext a
      match a with
      | ⟨0, _⟩ => rfl
      | ⟨1, _⟩ => rfl
    rw [e, val_main_v17_apply, val_main_v14_apply, val_main_v13_apply, val_main_c_0_apply]
    exact wrap_small _ _ (by rw [hf]; omega)
  simp only [hv]
  rw [val_main_v12_apply]
  have e : idx_main_v12 (ix2 r ⟨min (val_main_v11 (F := Ideal) x2 (ix2 n k) : BitVec 32).toInt.toNat 4095, by omega⟩)
      = ix3 r k (Fin.ofNat 256 (x2 (ix2 n k) : BitVec 8).toNat) := by
    have hr := r.isLt
    have ht : min (val_main_v11 (F := Ideal) x2 (ix2 n k) : BitVec 32).toInt.toNat 4095
        = 256 * k.val + (x2 (ix2 n k) : BitVec 8).toNat := by
      rw [toInt_of_lt (by rw [hf]; omega), hf]; omega
    funext a
    match a with
    | ⟨0, _⟩ =>
      refine Fin.ext ?_
      show (r.val * 4096 + min (val_main_v11 (F := Ideal) x2 (ix2 n k) : BitVec 32).toInt.toNat 4095) / 4096 = r.val
      rw [ht]; omega
    | ⟨1, _⟩ =>
      refine Fin.ext ?_
      show (r.val * 4096 + min (val_main_v11 (F := Ideal) x2 (ix2 n k) : BitVec 32).toInt.toNat 4095) / 256 % 16 = k.val
      rw [ht]; omega
    | ⟨2, _⟩ =>
      refine Fin.ext ?_
      show (r.val * 4096 + min (val_main_v11 (F := Ideal) x2 (ix2 n k) : BitVec 32).toInt.toNat 4095) % 256
        = (x2 (ix2 n k) : BitVec 8).toNat % 256
      rw [ht]; omega
  rw [e, v0_cell]

/-- The norm a norm code selects. -/
theorem v28_cell (x3 : IVec S262144 8) (x4 : FVec Ideal S256 .f32) (n : Fin 262144) :
    val_main_v28 (F := Ideal) x3 x4 (ix1 n) = x4 (ix1 (Fin.ofNat 256 (x3 (ix1 n) : BitVec 8).toNat)) := by
  unfold val_main_v28
  rw [gather_norm]
  have h1 : (x3 (ix1 n) : BitVec 8).toNat < 256 := (x3 (ix1 n) : BitVec 8).isLt
  have h21 : (val_main_v21 (F := Ideal) x3 (ix1 n) : BitVec 32).toNat = (x3 (ix1 n) : BitVec 8).toNat := by
    rw [val_main_v21_apply, BitVec.toNat_setWidth]
    exact Nat.mod_eq_of_lt (lt_trans h1 (by decide))
  have hv : (val_main_v27 (F := Ideal) x3 (ix2 n 0) : BitVec 32) = val_main_v21 (F := Ideal) x3 (ix1 n) := by
    rw [val_main_v27_apply]
    have e : idx_main_v27 (ix2 n 0) = ix1 n := by
      funext a
      match a with
      | ⟨0, _⟩ => rfl
    rw [e, val_main_v26_apply, val_main_v23_apply, val_main_v22_apply, val_main_c_3_apply]
    exact wrap_small _ _ (by rw [h21]; omega)
  congr 2
  refine Fin.ext ?_
  show min (val_main_v27 (F := Ideal) x3 (ix2 n 0) : BitVec 32).toInt.toNat 255 = (x3 (ix1 n) : BitVec 8).toNat % 256
  rw [hv, toInt_of_lt (by rw [h21]; omega), h21]
  omega

/-- The centroid's product a list id selects, for an id in range. -/
theorem v36_cell (x0 : FVec Ideal S64x384 .bf16) (x5 : FVec Ideal S1000x384 .bf16) (x6 : IVec S262144 32)
    (r : Fin 64) (n : Fin 262144) (hid : (x6 (ix1 n) : BitVec 32).toNat < 1000) :
    val_main_v36 (F := Ideal) x0 x5 x6 (ix2 r n)
      = ∑ d : Fin 384, (x0 (ix2 r d) : EReal) * (x5 (ix2 (Fin.ofNat 1000 (x6 (ix1 n) : BitVec 32).toNat) d) : EReal) := by
  unfold val_main_v36
  rw [gather_cent]
  have hv : (val_main_v35 (F := Ideal) x6 (ix2 n 0) : BitVec 32) = x6 (ix1 n) := by
    rw [val_main_v35_apply]
    have e : idx_main_v35 (ix2 n 0) = ix1 n := by
      funext a
      match a with
      | ⟨0, _⟩ => rfl
    rw [e, val_main_v34_apply, val_main_v31_apply, val_main_v30_apply, val_main_c_5_apply]
    exact wrap_small _ _ (by omega)
  rw [← v1_cell]
  congr 2
  refine Fin.ext ?_
  show min (val_main_v35 (F := Ideal) x6 (ix2 n 0) : BitVec 32).toInt.toNat 999 = (x6 (ix1 n) : BitVec 32).toNat % 1000
  rw [hv, toInt_of_lt (by omega)]
  omega

/-- One distance of the reference: the squared norm, less twice the product with the centroid plus the 16 table entries,
    plus the norm. -/
theorem v44_cell (x0 : FVec Ideal S64x384 .bf16) (x1 : FVec Ideal S16x256x384 .bf16) (x2 : IVec S262144x16 8)
    (x3 : IVec S262144 8) (x4 : FVec Ideal S256 .f32) (x5 : FVec Ideal S1000x384 .bf16) (x6 : IVec S262144 32)
    (r : Fin 64) (n : Fin 262144) (hid : (x6 (ix1 n) : BitVec 32).toNat < 1000) :
    val_main_v44 (F := Ideal) x0 x1 x2 x3 x4 x5 x6 (ix2 r n)
      = ((∑ d : Fin 384, (x0 (ix2 r d) : EReal) * (x0 (ix2 r d) : EReal))
          - (Scalar.ofBits (F := Ideal) .f32 0x40000000#32 : EReal)
            * ((∑ d : Fin 384, (x0 (ix2 r d) : EReal) * (x5 (ix2 (Fin.ofNat 1000 (x6 (ix1 n) : BitVec 32).toNat) d) : EReal))
              + ∑ k : Fin 16, ∑ d : Fin 384,
                  (x0 (ix2 r d) : EReal) * (x1 (ix3 k (Fin.ofNat 256 (x2 (ix2 n k) : BitVec 8).toNat) d) : EReal)))
        + (x4 (ix1 (Fin.ofNat 256 (x3 (ix1 n) : BitVec 8).toNat)) : EReal) := by
  have e40 : idx_main_v29 (idx_main_v40 (ix2 r n)) = ix1 r := by
    funext a
    match a with
    | ⟨0, _⟩ => rfl
  have e43 : idx_main_v42 (idx_main_v43 (ix2 r n)) = ix1 n := by
    funext a
    match a with
    | ⟨0, _⟩ => rfl
  have e20 : val_main_v20 (F := Ideal) x0 x1 x2 (ix2 r n) = ∑ k : Fin 16, ∑ d : Fin 384,
      (x0 (ix2 r d) : EReal) * (x1 (ix3 k (Fin.ofNat 256 (x2 (ix2 n k) : BitVec 8).toNat) d) : EReal) := by
    rw [val_main_v20_apply, val_main_cst_2_apply,
      show (FloatOps.ofBits .f32 0x00000000#32 : Ideal .f32) = (0 : EReal) from Ideal.ofBits_zero_f32, zero_add]
    refine Finset.sum_congr rfl fun k _ => ?_
    rw [← v19_cell]
    congr 1
    funext a
    match a with
    | ⟨0, _⟩ => rfl
    | ⟨1, _⟩ => rfl
    | ⟨2, _⟩ => rfl
  rw [val_main_v44_apply, val_main_v41_apply, val_main_v40_apply, val_main_v29_apply, e40, val_main_v43_apply,
    val_main_v42_apply, e43, val_main_v39_apply, val_main_v38_apply, val_main_cst_7_apply, val_main_v37_apply,
    v4_cell, v28_cell, v36_cell x0 x5 x6 r n hid, e20]
  rfl

/-! ## The precondition -/

/-- The precondition's one word is one exactly when every id is in range; here: every id is. -/
theorem id_lt [Cert.Pre_valid.Facts] (x0 : FVec Ideal S64x384 .bf16) (x1 : FVec Ideal S16x256x384 .bf16) (x2 : IVec S262144x16 8)
    (x3 : IVec S262144 8) (x4 : FVec Ideal S256 .f32) (x5 : FVec Ideal S1000x384 .bf16) (x6 : IVec S262144 32)
    (h : Cert.Pre_valid.fn (F := Ideal) x0 x1 x2 x3 x4 x5 x6 = fun _ => 1#1) (n : Fin 262144) :
    (x6 (ix1 n) : BitVec 32).toNat < 1000 := by
  haveI : Subsingleton Cert.Pre_valid.S_.Idx := ⟨fun a b => funext fun k => k.elim0⟩
  have h0 := Host.reduce_andi_all _ _ _ _ (fun a => a.elim0) (congrFun h (fun a => a.elim0)) (ix1 n)
  change IntOp.andi (IntOp.cmpi .sge (x6 (ix1 n)) 0#32) (IntOp.cmpi .slt (x6 (ix1 n)) 1000#32) = 1#1 at h0
  generalize (x6 (ix1 n) : BitVec 32) = b at *
  have hge : (0#32).sle b = true := by
    by_contra hc
    rw [Bool.not_eq_true] at hc
    simp [IntOp.andi, IntOp.cmpi, hc] at h0
  have hlt : b.slt 1000#32 = true := by
    by_contra hc
    rw [Bool.not_eq_true] at hc
    simp [IntOp.andi, IntOp.cmpi, hc] at h0
  rw [BitVec.sle_iff_toInt_le] at hge
  rw [BitVec.slt_iff_toInt_lt] at hlt
  have e0 : (0#32).toInt = 0 := by decide
  have e1 : (1000#32).toInt = 1000 := by decide
  rw [e0] at hge
  rw [e1] at hlt
  rw [BitVec.toInt_eq_toNat_cond] at hge hlt
  split at hge <;> omega

end Cert.ReferenceIdeal.Read

end
-- ==== Proof.KernelIdeal.Value.lean ====
module

public import proofs.«01_k».proof.Proof.KernelIdeal.Arrays

@[expose] public section

set_option maxRecDepth 16384

noncomputable section

namespace Cert.KernelIdeal.Gen

open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-! # The kernel's results, one element at a time -/

/-- The queries. -/
abbrev inQ (c : Dev nD) : FVec Ideal S64x384 .bf16 := m ((c.tc : Thread nD τ).loc main_arg0)
/-- The codebooks. -/
abbrev inB (c : Dev nD) : FVec Ideal S16x256x384 .bf16 := m ((c.tc : Thread nD τ).loc main_arg1)
/-- The codes. -/
abbrev inK (c : Dev nD) : IVec S262144x16 8 := m ((c.tc : Thread nD τ).loc main_arg2)
/-- The norm codes. -/
abbrev inN (c : Dev nD) : IVec S262144 8 := m ((c.tc : Thread nD τ).loc main_arg3)
/-- The norm table. -/
abbrev inT (c : Dev nD) : FVec Ideal S256 .f32 := m ((c.tc : Thread nD τ).loc main_arg4)
/-- The centroids. -/
abbrev inC (c : Dev nD) : FVec Ideal S1000x384 .bf16 := m ((c.tc : Thread nD τ).loc main_arg5)
/-- The list ids. -/
abbrev inI (c : Dev nD) : IVec S262144 32 := m ((c.tc : Thread nD τ).loc main_arg6)

/-- A query's entry, read off any point's block. -/
theorem query_at (c : Dev nD) (t : Fin cfg0.N) (r : Fin 64) (d : Fin 384) :
    cell2 (iblk m c 0 t : Vec Ideal S64x384 .bf16) r.val d.val = inQ m c (ix2 r d) := by
  rw [cell2_of_lt _ _ _ r.isLt d.isLt]
  exact iblk0 m c t (ix2 r d)

/-- The squared norm of a query. -/
theorem qnorm_at (c : Dev nD) (t : Fin cfg0.N) (r : Fin 64) :
    qnormAt (iblk m c 0 t) r.val = ∑ d : Fin 384, (inQ m c (ix2 r d) : EReal) * (inQ m c (ix2 r d) : EReal) := by
  unfold qnormAt
  exact Finset.sum_congr rfl fun d _ => by rw [query_at]

/-- The product of a query with a codebook entry. -/
theorem lut_at (c : Dev nD) (t : Fin cfg0.N) (r : Fin 64) (k : Fin 16) (b : ℕ) :
    lutAt (iblk m c 0 t) (iblk m c 1 t) r.val k.val b
      = ∑ d : Fin 384, (inQ m c (ix2 r d) : EReal) * (inB m c (ix3 k (Fin.ofNat 256 b) d) : EReal) := by
  unfold lutAt
  refine Finset.sum_congr rfl fun d _ => ?_
  have hk : Fin.ofNat 16 k.val = k := Fin.ext (Nat.mod_eq_of_lt k.isLt)
  rw [query_at, hk]
  exact congrArg (fun z : EReal => (inQ m c (ix2 r d) : EReal) * z) (iblk1 m c t (ix3 k (Fin.ofNat 256 b) d))

/-- The product of a query with a centroid. -/
theorem cent_at' (c : Dev nD) (t : Fin cfg0.N) (r : Fin 64) (l : ℕ) :
    centAt (iblk m c 0 t) (iblk m c 2 t) r.val l
      = ∑ d : Fin 384, (inQ m c (ix2 r d) : EReal) * (inC m c (ix2 (Fin.ofNat 1000 l) d) : EReal) := by
  unfold centAt
  refine Finset.sum_congr rfl fun d _ => ?_
  have hd : Fin.ofNat 384 d.val = d := Fin.ext (Nat.mod_eq_of_lt d.isLt)
  rw [query_at]
  unfold cell2
  rw [hd]
  exact congrArg (fun z : EReal => (inQ m c (ix2 r d) : EReal) * z) (iblk2 m c t (ix2 (Fin.ofNat 1000 l) d))

/-- The second output's element: the product of a query with a codebook entry. -/
theorem out8_cell (c : Dev nD) (r : Fin 64) (k : Fin 16) (b : Fin 256) :
    out8 m c (ix3 r k b) = ∑ d : Fin 384, (inQ m c (ix2 r d) : EReal) * (inB m c (ix3 k b d) : EReal) := by
  show lutAt (iblk m c 0 T0) (iblk m c 1 T0) r.val k.val b.val = _
  rw [lut_at, show Fin.ofNat 256 b.val = b from Fin.ext (Nat.mod_eq_of_lt b.isLt)]

/-- The third output's element: the product of a query with a centroid. -/
theorem out9_cell (c : Dev nD) (r : Fin 64) (l : Fin 1000) :
    out9 m c (ix2 r l) = ∑ d : Fin 384, (inQ m c (ix2 r d) : EReal) * (inC m c (ix2 l d) : EReal) := by
  show centAt (iblk m c 0 T0) (iblk m c 2 T0) r.val l.val = _
  rw [cent_at', show Fin.ofNat 1000 l.val = l from Fin.ext (Nat.mod_eq_of_lt l.isLt)]

/-- The table of codebook products at a book and a code. -/
theorem tabL_cell (c : Dev nD) (r : Fin 64) (k : Fin 16) (b : ℕ) (hb : b < 256) :
    cell2 (tabL m c) r.val (256 * k.val + b)
      = ∑ d : Fin 384, (inQ m c (ix2 r d) : EReal) * (inB m c (ix3 k (Fin.ofNat 256 b) d) : EReal) := by
  have hk := k.isLt
  rw [cell2_of_lt _ _ _ r.isLt (by omega), ← lut_at m c T0]
  show lutAt (iblk m c 0 T0) (iblk m c 1 T0) r.val ((256 * k.val + b) / 256) ((256 * k.val + b) % 256) = _
  rw [show (256 * k.val + b) / 256 = k.val by omega, show (256 * k.val + b) % 256 = b by omega]

/-- The padded table of centroid products at an id in range. -/
theorem tabC_cell (c : Dev nD) (r : Fin 64) (l : ℕ) (hl : l < 1000) :
    cell2 (tabC m c) r.val (l % 1024)
      = ∑ d : Fin 384, (inQ m c (ix2 r d) : EReal) * (inC m c (ix2 (Fin.ofNat 1000 l) d) : EReal) := by
  rw [show l % 1024 = l by omega, cell2_of_lt _ _ _ r.isLt (by omega), ← cent_at' m c T0]
  show (if l < 1000 then centAt (iblk m c 0 T0) (iblk m c 2 T0) r.val l else 0) = _
  rw [if_pos hl]

/-- The squared norms' table. -/
theorem tabQ_cell (c : Dev nD) (r : Fin 64) (l : ℕ) :
    cell2 (tabQ m c) r.val (l % 128) = ∑ d : Fin 384, (inQ m c (ix2 r d) : EReal) * (inQ m c (ix2 r d) : EReal) := by
  rw [cell2_of_lt _ _ _ r.isLt (Nat.mod_lt _ (by decide)), ← qnorm_at m c T0]
  rfl

/-- Column `n` is column `n % 4096` of its point's block. -/
theorem col_eq (n : Fin 262144) : 4096 * (ptOf n).val + n.val % 4096 = n.val := by
  show 4096 * (n.val / 4096) + n.val % 4096 = n.val
  omega

/-- A distance of the kernel: the squared norm, less twice the 16 table entries plus the centroid's product, plus the
    norm; for a list id in range. -/
theorem dist7_cell (c : Dev nD) (r : Fin 64) (n : Fin 262144) (hid : (inI m c (ix1 n)).toNat < 1000) :
    dist7 m c (ix2 r n)
      = ((∑ d : Fin 384, (inQ m c (ix2 r d) : EReal) * (inQ m c (ix2 r d) : EReal))
          - (Scalar.ofBits (F := Ideal) .f32 0x40000000#32 : EReal)
            * ((∑ k : Fin 16, ∑ d : Fin 384,
                  (inQ m c (ix2 r d) : EReal) * (inB m c (ix3 k (Fin.ofNat 256 (inK m c (ix2 n k)).toNat) d) : EReal))
              + ∑ d : Fin 384, (inQ m c (ix2 r d) : EReal) * (inC m c (ix2 (Fin.ofNat 1000 (inI m c (ix1 n)).toNat) d) : EReal)))
        + (inT m c (ix1 (Fin.ofNat 256 (inN m c (ix1 n)).toNat)) : EReal) := by
  have hn := n.isLt
  have hl : n.val % 4096 < 4096 := Nat.mod_lt _ (by decide)
  have hc := col_eq n
  have hlt : 4096 * (ptOf n).val + n.val % 4096 < 262144 := by omega
  have en : (⟨4096 * (ptOf n).val + n.val % 4096, hlt⟩ : Fin 262144) = n := Fin.ext hc
  have hK : ∀ k : Fin 16, (show BitVec 32 from cell2 (codesOf (iblk m c 3 (ptOf n))) k.val (n.val % 4096)).toNat
      = (inK m c (ix2 n k)).toNat := fun k => by
    rw [cell2_of_lt _ _ _ k.isLt hl]
    have h3 := iblk3 m c (ptOf n) k ⟨n.val % 4096, hl⟩ hlt
    rw [en] at h3
    show ((show BitVec 8 from iblk m c 3 (ptOf n) (ix2 k ⟨n.val % 4096, hl⟩)).setWidth 32).toNat = _
    rw [h3, BitVec.toNat_setWidth]
    exact Nat.mod_eq_of_lt (lt_trans (inK m c (ix2 n k)).isLt (by decide))
  have hI : (show BitVec 32 from cell2 (iblk m c 6 (ptOf n) : Vec Ideal S1x4096 .i32) 0 (n.val % 4096)) = inI m c (ix1 n) := by
    rw [cell2_of_lt _ _ _ Nat.one_pos hl]
    have h6 := iblk6 m c (ptOf n) ⟨n.val % 4096, hl⟩ hlt
    rw [en] at h6
    exact h6
  have hN : (show BitVec 8 from cell2 (iblk m c 4 (ptOf n) : Vec Ideal S1x4096 .i8) 0 (n.val % 4096)) = inN m c (ix1 n) := by
    rw [cell2_of_lt _ _ _ Nat.one_pos hl]
    have h4 := iblk4 m c (ptOf n) ⟨n.val % 4096, hl⟩ hlt
    rw [en] at h4
    exact h4
  have hT : cell2 (iblk m c 5 (ptOf n) : Vec Ideal S1x256 .f32) 0 (inN m c (ix1 n)).toNat
      = inT m c (ix1 (Fin.ofNat 256 (inN m c (ix1 n)).toNat)) :=
    iblk5 m c (ptOf n) (Fin.ofNat 256 (inN m c (ix1 n)).toNat)
  show distN (tabL m c) (tabC m c) (tabQ m c) (iblk m c 5 (ptOf n)) (codesOf (iblk m c 3 (ptOf n)))
    (iblk m c 4 (ptOf n)) (iblk m c 6 (ptOf n)) r.val (n.val % 4096) = _
  unfold distN
  rw [hI, hN, hT, tabQ_cell, tabC_cell m c r _ hid]
  congr 4
  refine Finset.sum_congr rfl fun k _ => ?_
  rw [hK k]
  exact tabL_cell m c r k _ (inK m c (ix2 n k)).isLt

end Cert.KernelIdeal.Gen

end
-- ==== Proof.Algebraic.lean ====
module

public import proofs.«01_k».proof.Defs
public import proofs.«01_k».proof.Proof.Gen.ReferenceIdeal.Run
public import proofs.«01_k».proof.Proof.ReferenceIdeal.Cells
public import proofs.«01_k».proof.Proof.KernelIdeal.Value

@[expose] public section

noncomputable section

namespace Cert.Proof

open Idealize.ShloMosaic Idealize.ShloMosaic.TcCoe Idealize.SL Idealize.SL.Sem
open Cert.KernelIdeal.Gen Cert.ReferenceIdeal.Read

/-! # The kernel and the reference give the same three results -/

variable (m : (ℓ : Loc Cert.KernelIdeal.nD Cert.KernelIdeal.τ Cert.KernelIdeal.sig) → Buf (Elt Ideal) ℓ)

/-- The witness of what the precondition's program states. -/
theorem pre_facts : Cert.Pre_valid.Facts := ⟨by decide, by decide, by decide⟩

/-- The second result: the products of the queries with the codebooks. -/
theorem lut_eq (c : Dev Cert.KernelIdeal.nD) : out8 m c = val_main_v0 (F := Ideal) (inQ m c) (inB m c) := by
  funext y
  have e : y = ValueIdx.ix3 (y 0) (y 1) (y 2) := ValueIdx.eq_ix3 y
  rw [e]
  exact (out8_cell m c (y 0) (y 1) (y 2)).trans (v0_cell (inQ m c) (inB m c) (y 0) (y 1) (y 2)).symm

/-- The third result: the products of the queries with the centroids. -/
theorem cq_eq (c : Dev Cert.KernelIdeal.nD) : out9 m c = val_main_v1 (F := Ideal) (inQ m c) (inC m c) := by
  funext y
  have e : y = ValueIdx.ix2 (y 0) (y 1) := ValueIdx.eq_ix2 y
  rw [e]
  exact (out9_cell m c (y 0) (y 1)).trans (v1_cell (inQ m c) (inC m c) (y 0) (y 1)).symm

/-- The first result, the distances, where every list id is in range: the two programs differ only in the order in which
    the centroid's product is added to the 16 table entries. -/
theorem dist_eq (c : Dev Cert.KernelIdeal.nD)
    (hid : ∀ n : Fin 262144, (inI m c (ValueIdx.ix1 n)).toNat < 1000) :
    dist7 m c = val_main_v44 (F := Ideal) (inQ m c) (inB m c) (inK m c) (inN m c) (inT m c) (inC m c) (inI m c) := by
  funext y
  have e : y = ValueIdx.ix2 (y 0) (y 1) := ValueIdx.eq_ix2 y
  rw [e]
  refine (dist7_cell m c (y 0) (y 1) (hid (y 1))).trans ?_
  refine Eq.trans ?_
    (v44_cell (inQ m c) (inB m c) (inK m c) (inN m c) (inT m c) (inC m c) (inI m c) (y 0) (y 1) (hid (y 1))).symm
  exact congrArg (fun z : EReal => (_ - _ * z) + _) (add_comm _ _)

/-- With every list id in range, on the same arguments, the kernel and the reference end with the same three results. -/
theorem algebraic [Cert.Pre_valid.Facts] : Cert.algebraic_KernelIdeal_ReferenceIdeal_pre_valid := by
  intro m g m' g' hpre hag
  have hid : ∀ (c : Dev Cert.KernelIdeal.nD) (n : Fin 262144), (inI m c (ValueIdx.ix1 n)).toNat < 1000 := fun c n =>
    id_lt (inQ m c) (inB m c) (inK m c) (inN m c) (inT m c) (inC m c) (inI m c) (hpre c) n
  refine ⟨dist7 m, out8 m, out9 m, ?_, ?_⟩
  · refine (θ_run _ _ _).mono (fun r h c => ?_) (θ_run_and (run_main_quiescent m g) (unchanged m g))
    have hf := (h.1.1 c).1
    exact ⟨(hf 7).trans (arr7 m c), (hf 8).trans (arr8 m c), (hf 9).trans (arr9 m c), h.2 c⟩
  · refine (θ_run _ _ _).mono (fun r h c => ?_) (Cert.ReferenceIdeal.Value.run m' g')
    obtain ⟨h0, h1, h2, h3, h4, h5, h6⟩ := hag c
    obtain ⟨r0, r1, r2, ha⟩ := h c
    refine ⟨r0.trans ?_, r1.trans ?_, r2.trans ?_, ha⟩
    · rw [dist_eq m c (hid c)]
      refine (val_main_v44_eq _ _ _ _ _ _ _).trans ?_
      rw [h0, h1, h2, h3, h4, h5, h6]
    · rw [lut_eq m c]
      refine (val_main_v0_eq _ _).trans ?_
      rw [h0, h1]
    · rw [cq_eq m c]
      refine (val_main_v1_eq _ _).trans ?_
      rw [h0, h5]

end Cert.Proof

end
-- ==== Proof.lean ====
module

public import proofs.«01_k».proof.Defs
public import proofs.«01_k».proof.Proof.Gen.ReferenceIdeal.Run
public import proofs.«01_k».proof.Proof.Kernel.Frame
public import proofs.«01_k».proof.Proof.KernelIdeal.Arrays
public import proofs.«01_k».proof.Proof.Algebraic
public import Idealize.ShloMosaic.Adequacy
public import Idealize.ShloMosaic.Init

@[expose] public section

noncomputable section

namespace Cert.Proof

open Idealize.ShloMosaic Idealize.SL.Sem

/-- The reference ends with its arguments unchanged and every semaphore counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2,
    Idealize.ShloMosaic.sem_eq_zero_of_no_sems (by decide) r.2⟩) (Cert.ReferenceIdeal.Value.run m ρ)

/-- Everything claimed. The frames hold of every memory, so also of those in which the precondition holds. -/
theorem claim : Cert.Claim := ⟨Cert.Kernel.Gen.facts, Cert.KernelIdeal.Gen.facts, Cert.ReferenceIdeal.Gen.facts, pre_facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  trivial,
  letI : Cert.Pre_valid.Facts := pre_facts
  algebraic⟩

end Cert.Proof

end
